-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_formed [hPre_well_formed : Cert.Pre_well_formed.Facts] (m : (ℓ : Loc Cert.KernelIdeal.nD Cert.KernelIdeal.τ Cert.KernelIdeal.sig) → Buf (Elt Ideal) ℓ) : Prop :=
  ∀ c : Dev Cert.KernelIdeal.nD,
    (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_formed [hPre_well_formed : Cert.Pre_well_formed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_well_formed [hKernelIdeal : Cert.KernelIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_formed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_well_formed [hReferenceIdeal : Cert.ReferenceIdeal.Facts] [hPre_well_formed : Cert.Pre_well_formed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_formed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_well_formed [hKernelIdeal : Cert.KernelIdeal.Facts] [hReferenceIdeal : Cert.ReferenceIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_formed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v106) = v1 c
          ∧ r.2.mem ((c.tc : Thread Cert.ReferenceIdeal.nD Cert.ReferenceIdeal.τ).loc Cert.ReferenceIdeal.main_v105) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_well_formed : Cert.Pre_well_formed.Facts),
    quiescent_Kernel (hKernel := hKernel)
    ∧ quiescent_KernelIdeal (hKernelIdeal := hKernelIdeal)
    ∧ quiescent_KernelIdeal_pre_well_formed (hKernelIdeal := hKernelIdeal) (hPre_well_formed := hPre_well_formed)
    ∧ quiescent_ReferenceIdeal (hReferenceIdeal := hReferenceIdeal)
    ∧ quiescent_ReferenceIdeal_pre_well_formed (hReferenceIdeal := hReferenceIdeal) (hPre_well_formed := hPre_well_formed)
    ∧ preserves_Kernel_KernelIdeal
    ∧ algebraic_KernelIdeal_ReferenceIdeal_pre_well_formed (hKernelIdeal := hKernelIdeal) (hReferenceIdeal := hReferenceIdeal) (hPre_well_formed := hPre_well_formed)
-- ==== Pre_well_formed.lean ====
abbrev S16x20000x81 : Shape := ⟨3, ![16, 20000, 81]⟩
abbrev S16x20000x4 : Shape := ⟨3, ![16, 20000, 4]⟩
abbrev S16x100 : Shape := ⟨2, ![16, 100]⟩
abbrev S16x100x4 : Shape := ⟨3, ![16, 100, 4]⟩
abbrev S_ : Shape := ⟨0, ![]⟩
abbrev S16x20000x1 : Shape := ⟨3, ![16, 20000, 1]⟩
abbrev S16x20000 : Shape := ⟨2, ![16, 20000]⟩

class Facts : Prop where
  bcast_S_S16x20000x81 : S_.BroadcastsInDim S16x20000x81 (![] : Fin 0 → Fin S16x20000x81.rank)
  reducesTo_S16x20000x81_S_d0_1_2 : S16x20000x81.ReducesTo [0, 1, 2] S_
  h_S_ : 0 < S_.numel
  bcast_S_S16x20000x4 : S_.BroadcastsInDim S16x20000x4 (![] : Fin 0 → Fin S16x20000x4.rank)
  reducesTo_S16x20000x4_S_d0_1_2 : S16x20000x4.ReducesTo [0, 1, 2] S_
  slices_S16x20000x4_S16x20000x1_0_0_2 : S16x20000x4.Slices ![0, 0, 2] S16x20000x1
  shapeCasts_S16x20000x1_S16x20000 : S16x20000x1.ShapeCasts S16x20000
  slices_S16x20000x4_S16x20000x1_0_0_0 : S16x20000x4.Slices ![0, 0, 0] S16x20000x1
  slices_S16x20000x4_S16x20000x1_0_0_3 : S16x20000x4.Slices ![0, 0, 3] S16x20000x1
  slices_S16x20000x4_S16x20000x1_0_0_1 : S16x20000x4.Slices ![0, 0, 1] S16x20000x1
  bcast_S_S16x20000 : S_.BroadcastsInDim S16x20000 (![] : Fin 0 → Fin S16x20000.rank)
  reducesTo_S16x20000_S_d0_1 : S16x20000.ReducesTo [0, 1] S_
  bcast_S_S16x100 : S_.BroadcastsInDim S16x100 (![] : Fin 0 → Fin S16x100.rank)
  reducesTo_S16x100_S_d0_1 : S16x100.ReducesTo [0, 1] S_

variable [Facts]

def fn_part1 {F : FTy → Type} [FloatOps F] (main_arg2 : IVec S16x100 32) (main_v8 : IVec S_ 1) (main_v19 : FVec F S16x20000 .f32) : IVec S_ 1 :=
  let main_cst_2 : FVec F S_ .f32 := constant S_ .f32 0x358637BD#32
  let main_v20 : FVec F S16x20000 .f32 := broadcastInDim S16x20000 ![] bcast_S_S16x20000 main_cst_2
  let main_v21 : IVec S16x20000 1 := cmpf .oge main_v19 main_v20
  let main_c_3 : IVec S_ 1 := constantI S_ 1 1#1
  let main_v22 : IVec S_ 1 := (fun x v => Host.reduce IntOp.andi x v reducesTo_S16x20000_S_d0_1 h_S_) main_v21 main_c_3
  let main_v23 : IVec S_ 1 := andi main_v8 main_v22
  let main_c_4 : IVec S_ 32 := constantI S_ 32 0#32
  let main_v24 : IVec S16x100 32 := broadcastInDim S16x100 ![] bcast_S_S16x100 main_c_4
  let main_v25 : IVec S16x100 1 := cmpi .sge main_arg2 main_v24
  let main_c_5 : IVec S_ 32 := constantI S_ 32 81#32
  let main_v26 : IVec S16x100 32 := broadcastInDim S16x100 ![] bcast_S_S16x100 main_c_5
  let main_v27 : IVec S16x100 1 := cmpi .slt main_arg2 main_v26
  let main_v28 : IVec S16x100 1 := andi main_v25 main_v27
  let main_c_6 : IVec S_ 1 := constantI S_ 1 1#1
  let main_v29 : IVec S_ 1 := (fun x v => Host.reduce IntOp.andi x v reducesTo_S16x100_S_d0_1 h_S_) main_v28 main_c_6
  let main_v30 : IVec S_ 1 := andi main_v23 main_v29
  main_v30

def fn {F : FTy → Type} [FloatOps F] (main_arg0 : FVec F S16x20000x81 .f32) (main_arg1 : FVec F S16x20000x4 .f32) (main_arg2 : IVec S16x100 32) (main_arg3 : FVec F S16x100x4 .f32) : IVec S_ 1 :=
  let main_v0 : FVec F S16x20000x81 .f32 := Host.absf main_arg0
  let main_cst : FVec F S_ .f32 := constant S_ .f32 0x7F800000#32
  let main_v1 : FVec F S16x20000x81 .f32 := broadcastInDim S16x20000x81 ![] bcast_S_S16x20000x81 main_cst
  let main_v2 : IVec S16x20000x81 1 := cmpf .olt main_v0 main_v1
  let main_c : IVec S_ 1 := constantI S_ 1 1#1
  let main_v3 : IVec S_ 1 := (fun x v => Host.reduce IntOp.andi x v reducesTo_S16x20000x81_S_d0_1_2 h_S_) main_v2 main_c
  let main_v4 : FVec F S16x20000x4 .f32 := Host.absf main_arg1
  let main_cst_0 : FVec F S_ .f32 := constant S_ .f32 0x7F800000#32
  let main_v5 : FVec F S16x20000x4 .f32 := broadcastInDim S16x20000x4 ![] bcast_S_S16x20000x4 main_cst_0
  let main_v6 : IVec S16x20000x4 1 := cmpf .olt main_v4 main_v5
  let main_c_1 : IVec S_ 1 := constantI S_ 1 1#1
  let main_v7 : IVec S_ 1 := (fun x v => Host.reduce IntOp.andi x v reducesTo_S16x20000x4_S_d0_1_2 h_S_) main_v6 main_c_1
  let main_v8 : IVec S_ 1 := andi main_v3 main_v7
  let main_v9 : FVec F S16x20000x1 .f32 := (extractStridedSlice S16x20000x1 ![0, 0, 2] · slices_S16x20000x4_S16x20000x1_0_0_2) main_arg1
  let main_v10 : FVec F S16x20000 .f32 := shapeCast S16x20000 main_v9 shapeCasts_S16x20000x1_S16x20000
  let main_v11 : FVec F S16x20000x1 .f32 := (extractStridedSlice S16x20000x1 ![0, 0, 0] · slices_S16x20000x4_S16x20000x1_0_0_0) main_arg1
  let main_v12 : FVec F S16x20000 .f32 := shapeCast S16x20000 main_v11 shapeCasts_S16x20000x1_S16x20000
  let main_v13 : FVec F S16x20000 .f32 := subf main_v10 main_v12
  let main_v14 : FVec F S16x20000x1 .f32 := (extractStridedSlice S16x20000x1 ![0, 0, 3] · slices_S16x20000x4_S16x20000x1_0_0_3) main_arg1
  let main_v15 : FVec F S16x20000 .f32 := shapeCast S16x20000 main_v14 shapeCasts_S16x20000x1_S16x20000
  let main_v16 : FVec F S16x20000x1 .f32 := (extractStridedSlice S16x20000x1 ![0, 0, 1] · slices_S16x20000x4_S16x20000x1_0_0_1) main_arg1
  let main_v17 : FVec F S16x20000 .f32 := shapeCast S16x20000 main_v16 shapeCasts_S16x20000x1_S16x20000
  let main_v18 : FVec F S16x20000 .f32 := subf main_v15 main_v17
  let main_v19 : FVec F S16x20000 .f32 := mulf main_v13 main_v18
  fn_part1 (F := F) main_arg2 main_v8 main_v19
-- ==== Kernel.lean ====
abbrev S16x20000x81 : Shape := ⟨3, ![16, 20000, 81]⟩
abbrev S16x20000x4 : Shape := ⟨3, ![16, 20000, 4]⟩
abbrev S16x100 : Shape := ⟨2, ![16, 100]⟩
abbrev S16x100x4 : Shape := ⟨3, ![16, 100, 4]⟩
abbrev S16x2x10000x4 : Shape := ⟨4, ![16, 2, 10000, 4]⟩
abbrev S16x2x4x10000 : Shape := ⟨4, ![16, 2, 4, 10000]⟩
abbrev S16x1x100 : Shape := ⟨3, ![16, 1, 100]⟩
abbrev S16x4x100 : Shape := ⟨3, ![16, 4, 100]⟩
abbrev S_ : Shape := ⟨0, ![]⟩
abbrev S16x3x100 : Shape := ⟨3, ![16, 3, 100]⟩
abbrev S16x8x100 : Shape := ⟨3, ![16, 8, 100]⟩
abbrev S16x4x4 : Shape := ⟨3, ![16, 4, 4]⟩
abbrev S16x104x4 : Shape := ⟨3, ![16, 104, 4]⟩
abbrev S16x8x128 : Shape := ⟨3, ![16, 8, 128]⟩
abbrev S16x1x1 : Shape := ⟨3, ![16, 1, 1]⟩
abbrev S16 : Shape := ⟨1, ![16]⟩
abbrev S1x10000x81 : Shape := ⟨3, ![1, 10000, 81]⟩
abbrev S1x1x4x10000 : Shape := ⟨4, ![1, 1, 4, 10000]⟩
abbrev S1x104x4 : Shape := ⟨3, ![1, 104, 4]⟩
abbrev S1x8x100 : Shape := ⟨3, ![1, 8, 100]⟩
abbrev S1x8x128 : Shape := ⟨3, ![1, 8, 128]⟩
abbrev S10000x81 : Shape := ⟨2, ![10000, 81]⟩
abbrev S4x10000 : Shape := ⟨2, ![4, 10000]⟩
abbrev S104x4 : Shape := ⟨2, ![104, 4]⟩
abbrev S8x100 : Shape := ⟨2, ![8, 100]⟩
abbrev S1x10000 : Shape := ⟨2, ![1, 10000]⟩
abbrev S8x10000 : Shape := ⟨2, ![8, 10000]⟩
abbrev S8x4 : Shape := ⟨2, ![8, 4]⟩
abbrev S8x1 : Shape := ⟨2, ![8, 1]⟩
abbrev S10000 : Shape := ⟨1, ![10000]⟩
abbrev S100x10000 : Shape := ⟨2, ![100, 10000]⟩
abbrev S1x1x10000 : Shape := ⟨3, ![1, 1, 10000]⟩
abbrev S1 : Shape := ⟨1, ![1]⟩
abbrev S1x1x1 : Shape := ⟨3, ![1, 1, 1]⟩
abbrev S1x1 : Shape := ⟨2, ![1, 1]⟩
abbrev S10000x1 : Shape := ⟨2, ![10000, 1]⟩
abbrev S8x81 : Shape := ⟨2, ![8, 81]⟩
abbrev S8x128 : Shape := ⟨2, ![8, 128]⟩

abbrev nBuf : Space → Nat
  | .hbm => 54
  | .vmem => 10
  | .smem => 0
  | _ => 0

abbrev bufTy : (tb : Table) → Fin (tcTables nBuf tb) → BufTy
  | .hbm, ⟨0, _⟩ => ⟨S16x20000x81, .f32⟩
  | .hbm, ⟨1, _⟩ => ⟨S16x20000x4, .f32⟩
  | .hbm, ⟨2, _⟩ => ⟨S16x100, .i32⟩
  | .hbm, ⟨3, _⟩ => ⟨S16x100x4, .f32⟩
  | .hbm, ⟨4, _⟩ => ⟨S16x2x10000x4, .f32⟩
  | .hbm, ⟨5, _⟩ => ⟨S16x2x4x10000, .f32⟩
  | .hbm, ⟨6, _⟩ => ⟨S16x100, .f32⟩
  | .hbm, ⟨7, _⟩ => ⟨S16x1x100, .f32⟩
  | .hbm, ⟨8, _⟩ => ⟨S16x4x100, .f32⟩
  | .hbm, ⟨9, _⟩ => ⟨S_, .f32⟩
  | .hbm, ⟨10, _⟩ => ⟨S16x3x100, .f32⟩
  | .hbm, ⟨11, _⟩ => ⟨S16x8x100, .f32⟩
  | .hbm, ⟨12, _⟩ => ⟨S_, .f32⟩
  | .hbm, ⟨13, _⟩ => ⟨S16x4x4, .f32⟩
  | .hbm, ⟨14, _⟩ => ⟨S16x104x4, .f32⟩
  | .hbm, ⟨15, _⟩ => ⟨S16x8x128, .f32⟩
  | .hbm, ⟨16, _⟩ => ⟨S16x1x1, .f32⟩
  | .hbm, ⟨17, _⟩ => ⟨S16, .f32⟩
  | .hbm, ⟨18, _⟩ => ⟨S16x1x1, .f32⟩
  | .hbm, ⟨19, _⟩ => ⟨S16, .f32⟩
  | .hbm, ⟨20, _⟩ => ⟨S16x1x1, .f32⟩
  | .hbm, ⟨21, _⟩ => ⟨S16, .f32⟩
  | .hbm, ⟨22, _⟩ => ⟨S16x1x1, .f32⟩
  | .hbm, ⟨23, _⟩ => ⟨S16, .f32⟩
  | .hbm, ⟨24, _⟩ => ⟨S_, .f32⟩
  | .hbm, ⟨25, _⟩ => ⟨S16, .f32⟩
  | .hbm, ⟨26, _⟩ => ⟨S16, .i1⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S_, .f32⟩
  | .hbm, ⟨33, _⟩ => ⟨S16, .f32⟩
  | .hbm, ⟨34, _⟩ => ⟨S16, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S16, .f32⟩
  | .hbm, ⟨39, _⟩ => ⟨S16, .i1⟩
  | .hbm, ⟨40, _⟩ => ⟨S_, .f32⟩
  | .hbm, ⟨41, _⟩ => ⟨S16, .f32⟩
  | .hbm, ⟨42, _⟩ => ⟨S16, .f32⟩
  | .hbm, ⟨43, _⟩ => ⟨S_, .f32⟩
  | .hbm, ⟨44, _⟩ => ⟨S16, .f32⟩
  | .hbm, ⟨45, _⟩ => ⟨S16, .f32⟩
  | .hbm, ⟨46, _⟩ => ⟨S16, .f32⟩
  | .hbm, ⟨47, _⟩ => ⟨S_, .f32⟩
  | .hbm, ⟨48, _⟩ => ⟨S_, .f32⟩
  | .hbm, ⟨49, _⟩ => ⟨S16, .f32⟩
  | .hbm, ⟨50, _⟩ => ⟨S16, .f32⟩
  | .hbm, ⟨51, _⟩ => ⟨S_, .f32⟩
  | .hbm, ⟨52, _⟩ => ⟨S_, .f32⟩
  | .hbm, ⟨53, _⟩ => ⟨S_, .f32⟩
  | .local _ .vmem, ⟨0, _⟩ => ⟨S1x10000x81, .f32⟩
  | .local _ .vmem, ⟨1, _⟩ => ⟨S1x10000x81, .f32⟩
  | .local _ .vmem, ⟨2, _⟩ => ⟨S1x1x4x10000, .f32⟩
  | .local _ .vmem, ⟨3, _⟩ => ⟨S1x1x4x10000, .f32⟩
  | .local _ .vmem, ⟨4, _⟩ => ⟨S1x104x4, .f32⟩
  | .local _ .vmem, ⟨5, _⟩ => ⟨S1x104x4, .f32⟩
  | .local _ .vmem, ⟨6, _⟩ => ⟨S1x8x100, .f32⟩
  | .local _ .vmem, ⟨7, _⟩ => ⟨S1x8x100, .f32⟩
  | .local _ .vmem, ⟨8, _⟩ => ⟨S1x8x128, .f32⟩
  | .local _ .vmem, ⟨9, _⟩ => ⟨S1x8x128, .f32⟩
  | _, _ => ⟨S16x20000x81, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_cst : Ref sig .tc := ⟨.hbm, 9, rfl⟩
abbrev main_call0_v5 : Ref sig .tc := ⟨.hbm, 10, rfl⟩
abbrev main_call0_v6 : Ref sig .tc := ⟨.hbm, 11, rfl⟩
abbrev main_call0_cst_0 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_v12 : Ref sig .tc := ⟨.hbm, 18, rfl⟩
abbrev main_call0_v13 : Ref sig .tc := ⟨.hbm, 19, rfl⟩
abbrev main_call0_v14 : Ref sig .tc := ⟨.hbm, 20, rfl⟩
abbrev main_call0_v15 : Ref sig .tc := ⟨.hbm, 21, rfl⟩
abbrev main_call0_v16 : Ref sig .tc := ⟨.hbm, 22, rfl⟩
abbrev main_call0_v17 : Ref sig .tc := ⟨.hbm, 23, rfl⟩
abbrev main_call0_cst_1 : Ref sig .tc := ⟨.hbm, 24, rfl⟩
abbrev main_call0_v18 : Ref sig .tc := ⟨.hbm, 25, rfl⟩
abbrev main_call0_v19 : Ref sig .tc := ⟨.hbm, 26, rfl⟩
abbrev main_call0_cst_2 : Ref sig .tc := ⟨.hbm, 27, rfl⟩
abbrev main_call0_v20 : Ref sig .tc := ⟨.hbm, 28, rfl⟩
abbrev main_call0_v21 : Ref sig .tc := ⟨.hbm, 29, rfl⟩
abbrev main_call0_v22 : Ref sig .tc := ⟨.hbm, 30, rfl⟩
abbrev main_call0_cst_3 : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_v23 : Ref sig .tc := ⟨.hbm, 34, rfl⟩
abbrev main_call0_cst_4 : Ref sig .tc := ⟨.hbm, 35, rfl⟩
abbrev main_v0_2 : Ref sig .tc := ⟨.hbm, 36, rfl⟩
abbrev main_call0_cst_5 : Ref sig .tc := ⟨.hbm, 37, rfl⟩
abbrev main_call0_v25 : Ref sig .tc := ⟨.hbm, 38, rfl⟩
abbrev main_call0_v26 : Ref sig .tc := ⟨.hbm, 39, rfl⟩
abbrev main_call0_cst_6 : Ref sig .tc := ⟨.hbm, 40, rfl⟩
abbrev main_call0_v27 : Ref sig .tc := ⟨.hbm, 41, rfl⟩
abbrev main_call0_v28 : Ref sig .tc := ⟨.hbm, 42, rfl⟩
abbrev main_call0_cst_7 : Ref sig .tc := ⟨.hbm, 43, rfl⟩
abbrev main_call0_v29 : Ref sig .tc := ⟨.hbm, 44, rfl⟩
abbrev main_call0_v30 : Ref sig .tc := ⟨.hbm, 45, rfl⟩
abbrev main_call0_v31 : Ref sig .tc := ⟨.hbm, 46, rfl⟩
abbrev main_call0_cst_8 : Ref sig .tc := ⟨.hbm, 47, rfl⟩
abbrev main_call0_call1_v0 : Ref sig .tc := ⟨.hbm, 48, rfl⟩
abbrev main_call0_call1_v1 : Ref sig .tc := ⟨.hbm, 49, rfl⟩
abbrev main_call0_v32 : Ref sig .tc := ⟨.hbm, 50, rfl⟩
abbrev main_call0_cst_9 : Ref sig .tc := ⟨.hbm, 51, rfl⟩
abbrev main_v0_1 : Ref sig .tc := ⟨.hbm, 52, rfl⟩
abbrev main_v0_0 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32_73 : BitVec 32 := 0#32
  let v597 : BitVec 1 := Scalar.cmpi .eq arg1 c0_i32_73
  let v598 : BitVec 32 := Scalar.extui v597
  let c0_i32_74 : BitVec 32 := 0#32
  let v599 : BitVec 1 := Scalar.cmpi .ne v598 c0_i32_74
  v599

def k0_cond2 (i : grid0.Coords) : BitVec 1 :=
  let arg1 : BitVec 32 := BitVec.ofNat 32 (i 1).val
  let c0_i32_75 : BitVec 32 := 0#32
  let v600 : BitVec 1 := Scalar.cmpi .sgt arg1 c0_i32_75
  let v601 : BitVec 32 := Scalar.extui v600
  let c0_i32_76 : BitVec 32 := 0#32
  let v602 : BitVec 1 := Scalar.cmpi .ne v601 c0_i32_76
  v602

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x10000x81 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x104x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S16x20000x81 : Shape := ⟨3, ![16, 20000, 81]⟩
abbrev S16x20000x4 : Shape := ⟨3, ![16, 20000, 4]⟩
abbrev S16x100 : Shape := ⟨2, ![16, 100]⟩
abbrev S16x100x4 : Shape := ⟨3, ![16, 100, 4]⟩
abbrev S16x20000x2 : Shape := ⟨3, ![16, 20000, 2]⟩
abbrev S16x20000x1x2 : Shape := ⟨4, ![16, 20000, 1, 2]⟩
abbrev S16x100x2 : Shape := ⟨3, ![16, 100, 2]⟩
abbrev S16x1x100x2 : Shape := ⟨4, ![16, 1, 100, 2]⟩
abbrev S16x20000x100x2 : Shape := ⟨4, ![16, 20000, 100, 2]⟩
abbrev S_ : Shape := ⟨0, ![]⟩
abbrev S16x20000x100x1 : Shape := ⟨4, ![16, 20000, 100, 1]⟩
abbrev S16x20000x100 : Shape := ⟨3, ![16, 20000, 100]⟩
abbrev S16x20000x1 : Shape := ⟨3, ![16, 20000, 1]⟩
abbrev S16x20000 : Shape := ⟨2, ![16, 20000]⟩
abbrev S16x100x1 : Shape := ⟨3, ![16, 100, 1]⟩
abbrev S16x1x100 : Shape := ⟨3, ![16, 1, 100]⟩
abbrev S1 : Shape := ⟨1, ![1]⟩
abbrev S1x1x1 : Shape := ⟨3, ![1, 1, 1]⟩
abbrev S20000 : Shape := ⟨1, ![20000]⟩
abbrev S16 : Shape := ⟨1, ![16]⟩
abbrev S16x20000x1x1 : Shape := ⟨4, ![16, 20000, 1, 1]⟩
abbrev S1x1x1x1 : Shape := ⟨4, ![1, 1, 1, 1]⟩
abbrev S20000x4 : Shape := ⟨2, ![20000, 4]⟩

abbrev nBuf : Space → Nat
  | .hbm => 246
  | .vmem => 0
  | .smem => 0
  | _ => 0

abbrev hbmTy0_0 (i : Nat) : BufTy := match i % 128 with
  | 0 => ⟨S16x20000x81, .f32⟩
  | 1 => ⟨S16x20000x4, .f32⟩
  | 2 => ⟨S16x100, .i32⟩
  | 3 => ⟨S16x100x4, .f32⟩
  | 4 => ⟨S16x20000x2, .f32⟩
  | 5 => ⟨S16x20000x1x2, .f32⟩
  | 6 => ⟨S16x100x2, .f32⟩
  | 7 => ⟨S16x1x100x2, .f32⟩
  | 8 => ⟨S16x20000x100x2, .f32⟩
  | 9 => ⟨S16x20000x100x2, .f32⟩
  | 10 => ⟨S16x20000x100x2, .f32⟩
  | 11 => ⟨S16x20000x2, .f32⟩
  | 12 => ⟨S16x20000x1x2, .f32⟩
  | 13 => ⟨S16x100x2, .f32⟩
  | 14 => ⟨S16x1x100x2, .f32⟩
  | 15 => ⟨S16x20000x100x2, .f32⟩
  | 16 => ⟨S16x20000x100x2, .f32⟩
  | 17 => ⟨S16x20000x100x2, .f32⟩
  | 18 => ⟨S16x20000x100x2, .f32⟩
  | 19 => ⟨S_, .f32⟩
  | 20 => ⟨S_, .f32⟩
  | 21 => ⟨S16x20000x100x2, .f32⟩
  | 22 => ⟨S16x20000x100x2, .f32⟩
  | 23 => ⟨S16x20000x100x1, .f32⟩
  | 24 => ⟨S16x20000x100, .f32⟩
  | 25 => ⟨S16x20000x100x1, .f32⟩
  | 26 => ⟨S16x20000x100, .f32⟩
  | 27 => ⟨S16x20000x100, .f32⟩
  | 28 => ⟨S16x20000x1, .f32⟩
  | 29 => ⟨S16x20000, .f32⟩
  | 30 => ⟨S16x20000x1, .f32⟩
  | 31 => ⟨S16x20000, .f32⟩
  | 32 => ⟨S16x20000, .f32⟩
  | 33 => ⟨S16x20000x1, .f32⟩
  | 34 => ⟨S16x20000, .f32⟩
  | 35 => ⟨S16x20000x1, .f32⟩
  | 36 => ⟨S16x20000, .f32⟩
  | 37 => ⟨S16x20000, .f32⟩
  | 38 => ⟨S16x20000, .f32⟩
  | 39 => ⟨S16x100x1, .f32⟩
  | 40 => ⟨S16x100, .f32⟩
  | 41 => ⟨S16x100x1, .f32⟩
  | 42 => ⟨S16x100, .f32⟩
  | 43 => ⟨S16x100, .f32⟩
  | 44 => ⟨S16x100x1, .f32⟩
  | 45 => ⟨S16x100, .f32⟩
  | 46 => ⟨S16x100x1, .f32⟩
  | 47 => ⟨S16x100, .f32⟩
  | 48 => ⟨S16x100, .f32⟩
  | 49 => ⟨S16x100, .f32⟩
  | 50 => ⟨S16x20000x1, .f32⟩
  | 51 => ⟨S16x1x100, .f32⟩
  | 52 => ⟨S16x20000x100, .f32⟩
  | 53 => ⟨S16x20000x100, .f32⟩
  | 54 => ⟨S16x20000x100, .f32⟩
  | 55 => ⟨S16x20000x100, .f32⟩
  | 56 => ⟨S_, .f32⟩
  | 57 => ⟨S16x20000x100, .f32⟩
  | 58 => ⟨S16x20000x100, .f32⟩
  | 59 => ⟨S16x20000x100, .f32⟩
  | 60 => ⟨S_, .f32⟩
  | 61 => ⟨S16x20000, .f32⟩
  | 62 => ⟨S16x20000x100, .i32⟩
  | 63 => ⟨S_, .f32⟩
  | 64 => ⟨S_, .i32⟩
  | 65 => ⟨S16x20000, .f32⟩
  | 66 => ⟨S16x20000, .i32⟩
  | 67 => ⟨S_, .f32⟩
  | 68 => ⟨S16x20000, .f32⟩
  | 69 => ⟨S16x20000, .i1⟩
  | 70 => ⟨S_, .f32⟩
  | 71 => ⟨S16x20000, .f32⟩
  | 72 => ⟨S16x20000, .i1⟩
  | 73 => ⟨S_, .i32⟩
  | 74 => ⟨S16x20000, .i32⟩
  | 75 => ⟨S16x20000, .i1⟩
  | 76 => ⟨S_, .i32⟩
  | 77 => ⟨S16x20000, .i32⟩
  | 78 => ⟨S16x20000, .i32⟩
  | 79 => ⟨S16x20000, .i32⟩
  | 80 => ⟨S16x20000x1, .i32⟩
  | 81 => ⟨S1, .i32⟩
  | 82 => ⟨S_, .i32⟩
  | 83 => ⟨S16x20000x1, .i32⟩
  | 84 => ⟨S16x20000x1, .i1⟩
  | 85 => ⟨S1x1x1, .i32⟩
  | 86 => ⟨S16x20000x1, .i32⟩
  | 87 => ⟨S16x20000x1, .i1⟩
  | 88 => ⟨S16x20000x1, .i1⟩
  | 89 => ⟨S_, .i1⟩
  | 90 => ⟨S16x20000, .i1⟩
  | 91 => ⟨S16x20000, .i32⟩
  | 92 => ⟨S_, .i32⟩
  | 93 => ⟨S16x20000, .i32⟩
  | 94 => ⟨S16x20000, .i32⟩
  | 95 => ⟨S_, .i32⟩
  | 96 => ⟨S_, .i32⟩
  | 97 => ⟨S20000, .i32⟩
  | 98 => ⟨S16x20000, .i32⟩
  | 99 => ⟨S16x20000, .i32⟩
  | 100 => ⟨S_, .i32⟩
  | 101 => ⟨S_, .i32⟩
  | 102 => ⟨S20000, .i32⟩
  | 103 => ⟨S16x20000, .i32⟩
  | 104 => ⟨S16x20000, .i32⟩
  | 105 => ⟨S_, .i32⟩
  | 106 => ⟨S16x20000, .i32⟩
  | 107 => ⟨S16x20000, .i1⟩
  | 108 => ⟨S16x20000, .i32⟩
  | 109 => ⟨S_, .i32⟩
  | 110 => ⟨S16, .i32⟩
  | 111 => ⟨S_, .f32⟩
  | 112 => ⟨S16x20000, .f32⟩
  | 113 => ⟨S_, .f32⟩
  | 114 => ⟨S16x20000, .f32⟩
  | 115 => ⟨S16x20000, .f32⟩
  | 116 => ⟨S16x20000x1, .f32⟩
  | 117 => ⟨S16x20000x81, .f32⟩
  | 118 => ⟨S16x20000x81, .f32⟩
  | 119 => ⟨S16x20000x81, .f32⟩
  | 120 => ⟨S_, .f32⟩
  | 121 => ⟨S16x20000, .f32⟩
  | 122 => ⟨S16x20000x1, .f32⟩
  | 123 => ⟨S16x20000x1, .f32⟩
  | 124 => ⟨S16x20000x81, .f32⟩
  | 125 => ⟨S16x20000x81, .f32⟩
  | 126 => ⟨S_, .i32⟩
  | 127 => ⟨S_, .i32⟩
  | _ => ⟨S16x20000x81, .f32⟩

abbrev hbmTy0_1 (i : Nat) : BufTy := match i % 128 with
  | 0 => ⟨S_, .i32⟩
  | 1 => ⟨S16x20000, .i32⟩
  | 2 => ⟨S16x20000, .i32⟩
  | 3 => ⟨S_, .i32⟩
  | 4 => ⟨S16x20000, .i32⟩
  | 5 => ⟨S16x20000, .i32⟩
  | 6 => ⟨S16x20000x1, .i32⟩
  | 7 => ⟨S_, .i32⟩
  | 8 => ⟨S16x20000x1, .i32⟩
  | 9 => ⟨S16x20000x1, .i1⟩
  | 10 => ⟨S_, .i32⟩
  | 11 => ⟨S16x20000x1, .i32⟩
  | 12 => ⟨S16x20000x1, .i32⟩
  | 13 => ⟨S16x20000x1, .i32⟩
  | 14 => ⟨S16x20000x1x1, .i32⟩
  | 15 => ⟨S1, .i32⟩
  | 16 => ⟨S_, .i32⟩
  | 17 => ⟨S16x20000x1x1, .i32⟩
  | 18 => ⟨S16x20000x1x1, .i1⟩
  | 19 => ⟨S1x1x1x1, .i32⟩
  | 20 => ⟨S16x20000x1x1, .i32⟩
  | 21 => ⟨S16x20000x1x1, .i1⟩
  | 22 => ⟨S16x20000x1x1, .i1⟩
  | 23 => ⟨S_, .i1⟩
  | 24 => ⟨S16x20000x1, .i1⟩
  | 25 => ⟨S16x20000x1, .f32⟩
  | 26 => ⟨S_, .f32⟩
  | 27 => ⟨S16x20000x1, .f32⟩
  | 28 => ⟨S16x20000x1, .f32⟩
  | 29 => ⟨S16x20000, .f32⟩
  | 30 => ⟨S16x20000, .f32⟩
  | 31 => ⟨S_, .f32⟩
  | 32 => ⟨S_, .f32⟩
  | 33 => ⟨S20000, .f32⟩
  | 34 => ⟨S16x20000, .f32⟩
  | 35 => ⟨S16x20000, .f32⟩
  | 36 => ⟨S_, .f32⟩
  | 37 => ⟨S16, .f32⟩
  | 38 => ⟨S_, .i32⟩
  | 39 => ⟨S16, .i32⟩
  | 40 => ⟨S16, .i32⟩
  | 41 => ⟨S16, .f32⟩
  | 42 => ⟨S16, .f32⟩
  | 43 => ⟨S16x20000, .i32⟩
  | 44 => ⟨S_, .i32⟩
  | 45 => ⟨S16, .i32⟩
  | 46 => ⟨S_, .i32⟩
  | 47 => ⟨S16x20000, .i32⟩
  | 48 => ⟨S16x20000, .i1⟩
  | 49 => ⟨S_, .i32⟩
  | 50 => ⟨S16x20000, .i32⟩
  | 51 => ⟨S16x20000, .i32⟩
  | 52 => ⟨S16x20000, .i32⟩
  | 53 => ⟨S16x20000x1, .i32⟩
  | 54 => ⟨S1, .i32⟩
  | 55 => ⟨S_, .i32⟩
  | 56 => ⟨S16x20000x1, .i32⟩
  | 57 => ⟨S16x20000x1, .i1⟩
  | 58 => ⟨S1x1x1, .i32⟩
  | 59 => ⟨S16x20000x1, .i32⟩
  | 60 => ⟨S16x20000x1, .i1⟩
  | 61 => ⟨S16x20000x1, .i1⟩
  | 62 => ⟨S_, .i1⟩
  | 63 => ⟨S16x20000, .i1⟩
  | 64 => ⟨S16x20000x4, .f32⟩
  | 65 => ⟨S16x20000x4, .i1⟩
  | 66 => ⟨S_, .f32⟩
  | 67 => ⟨S16x20000x4, .f32⟩
  | 68 => ⟨S16x20000x4, .f32⟩
  | 69 => ⟨S16x20000x4, .f32⟩
  | 70 => ⟨S16x20000x4, .f32⟩
  | 71 => ⟨S_, .f32⟩
  | 72 => ⟨S16x20000x4, .f32⟩
  | 73 => ⟨S16x20000x4, .i1⟩
  | 74 => ⟨S_, .f32⟩
  | 75 => ⟨S16x20000x4, .f32⟩
  | 76 => ⟨S16x20000x4, .f32⟩
  | 77 => ⟨S16x20000x4, .f32⟩
  | 78 => ⟨S_, .f32⟩
  | 79 => ⟨S16x20000x4, .f32⟩
  | 80 => ⟨S16x20000x4, .f32⟩
  | 81 => ⟨S16x20000x4, .f32⟩
  | 82 => ⟨S16x20000x1, .i1⟩
  | 83 => ⟨S_, .f32⟩
  | 84 => ⟨S_, .f32⟩
  | 85 => ⟨S16x20000x4, .i1⟩
  | 86 => ⟨S20000x4, .f32⟩
  | 87 => ⟨S16x20000x4, .f32⟩
  | 88 => ⟨S16x20000x4, .f32⟩
  | 89 => ⟨S_, .f32⟩
  | 90 => ⟨S16, .f32⟩
  | 91 => ⟨S_, .i32⟩
  | 92 => ⟨S16, .i32⟩
  | 93 => ⟨S16, .i32⟩
  | 94 => ⟨S_, .i32⟩
  | 95 => ⟨S16, .i32⟩
  | 96 => ⟨S16, .i32⟩
  | 97 => ⟨S16, .f32⟩
  | 98 => ⟨S16, .f32⟩
  | 99 => ⟨S_, .i32⟩
  | 100 => ⟨S16, .i32⟩
  | 101 => ⟨S16, .i1⟩
  | 102 => ⟨S_, .f32⟩
  | 103 => ⟨S_, .f32⟩
  | 104 => ⟨S16, .f32⟩
  | 105 => ⟨S16, .f32⟩
  | 106 => ⟨S_, .i32⟩
  | 107 => ⟨S16, .i32⟩
  | 108 => ⟨S16, .i1⟩
  | 109 => ⟨S_, .f32⟩
  | 110 => ⟨S_, .f32⟩
  | 111 => ⟨S16, .f32⟩
  | 112 => ⟨S16, .f32⟩
  | 113 => ⟨S_, .f32⟩
  | 114 => ⟨S_, .f32⟩
  | 115 => ⟨S_, .f32⟩
  | 116 => ⟨S_, .f32⟩
  | 117 => ⟨S_, .f32⟩
  | _ => ⟨S16x20000x81, .f32⟩

abbrev hbmTy (i : Nat) : BufTy := match i / 128 with
  | 0 => hbmTy0_0 i
  | 1 => hbmTy0_1 i
  | _ => ⟨S16x20000x81, .f32⟩

abbrev bufTy : (tb : Table) → Fin (tcTables nBuf tb) → BufTy
  | .hbm, ⟨i, _⟩ => hbmTy i
  | _, _ => ⟨S16x20000x81, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_cst_0 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_cst_1 : Ref sig .tc := ⟨.hbm, 60, rfl⟩
abbrev main_v52 : Ref sig .tc := ⟨.hbm, 61, rfl⟩
abbrev main_call1_v0 : Ref sig .tc := ⟨.hbm, 62, rfl⟩
abbrev main_call1_cst : Ref sig .tc := ⟨.hbm, 63, rfl⟩
abbrev main_call1_c : Ref sig .tc := ⟨.hbm, 64, rfl⟩
abbrev main_call1_v1_0 : Ref sig .tc := ⟨.hbm, 65, rfl⟩
abbrev main_v53 : Ref sig .tc := ⟨.hbm, 66, rfl⟩
abbrev main_cst_2 : Ref sig .tc := ⟨.hbm, 67, rfl⟩
abbrev main_v54 : Ref sig .tc := ⟨.hbm, 68, rfl⟩
abbrev main_v55 : Ref sig .tc := ⟨.hbm, 69, rfl⟩
abbrev main_cst_3 : Ref sig .tc := ⟨.hbm, 70, rfl⟩
abbrev main_v56 : Ref sig .tc := ⟨.hbm, 71, rfl⟩
abbrev main_v57 : Ref sig .tc := ⟨.hbm, 72, rfl⟩
abbrev main_call2_c : Ref sig .tc := ⟨.hbm, 73, rfl⟩
abbrev main_call2_v0 : Ref sig .tc := ⟨.hbm, 74, rfl⟩
abbrev main_call2_v1 : Ref sig .tc := ⟨.hbm, 75, rfl⟩
abbrev main_call2_c_0 : Ref sig .tc := ⟨.hbm, 76, rfl⟩
abbrev main_call2_v2 : Ref sig .tc := ⟨.hbm, 77, rfl⟩
abbrev main_call2_v3 : Ref sig .tc := ⟨.hbm, 78, rfl⟩
abbrev main_call2_v4 : Ref sig .tc := ⟨.hbm, 79, rfl⟩
abbrev main_call2_v5 : Ref sig .tc := ⟨.hbm, 80, rfl⟩
abbrev main_call2_c_1 : Ref sig .tc := ⟨.hbm, 81, rfl⟩
abbrev main_call2_c_2 : Ref sig .tc := ⟨.hbm, 82, rfl⟩
abbrev main_call2_v6 : Ref sig .tc := ⟨.hbm, 83, rfl⟩
abbrev main_call2_v7 : Ref sig .tc := ⟨.hbm, 84, rfl⟩
abbrev main_call2_v8 : Ref sig .tc := ⟨.hbm, 85, rfl⟩
abbrev main_call2_v9 : Ref sig .tc := ⟨.hbm, 86, rfl⟩
abbrev main_call2_v10 : Ref sig .tc := ⟨.hbm, 87, rfl⟩
abbrev main_call2_v11 : Ref sig .tc := ⟨.hbm, 88, rfl⟩
abbrev main_call2_c_3 : Ref sig .tc := ⟨.hbm, 89, rfl⟩
abbrev main_call2_v12 : Ref sig .tc := ⟨.hbm, 90, rfl⟩
abbrev main_call2_v13 : Ref sig .tc := ⟨.hbm, 91, rfl⟩
abbrev main_call2_c_4 : Ref sig .tc := ⟨.hbm, 92, rfl⟩
abbrev main_call2_v14 : Ref sig .tc := ⟨.hbm, 93, rfl⟩
abbrev main_v58 : Ref sig .tc := ⟨.hbm, 94, rfl⟩
abbrev main_c : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_v59 : Ref sig .tc := ⟨.hbm, 99, rfl⟩
abbrev main_c_4 : Ref sig .tc := ⟨.hbm, 100, rfl⟩
abbrev main_call4_v0 : Ref sig .tc := ⟨.hbm, 101, rfl⟩
abbrev main_call4_v1 : Ref sig .tc := ⟨.hbm, 102, rfl⟩
abbrev main_call4_v2 : Ref sig .tc := ⟨.hbm, 103, rfl⟩
abbrev main_v60 : Ref sig .tc := ⟨.hbm, 104, rfl⟩
abbrev main_c_5 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_c_6 : Ref sig .tc := ⟨.hbm, 109, rfl⟩
abbrev main_v64 : Ref sig .tc := ⟨.hbm, 110, rfl⟩
abbrev main_call5_cst : Ref sig .tc := ⟨.hbm, 111, rfl⟩
abbrev main_call5_v0 : Ref sig .tc := ⟨.hbm, 112, rfl⟩
abbrev main_call5_cst_0 : Ref sig .tc := ⟨.hbm, 113, rfl⟩
abbrev main_call5_v1 : Ref sig .tc := ⟨.hbm, 114, rfl⟩
abbrev main_call5_v2 : Ref sig .tc := ⟨.hbm, 115, rfl⟩
abbrev main_call5_v3 : Ref sig .tc := ⟨.hbm, 116, rfl⟩
abbrev main_call5_v4 : Ref sig .tc := ⟨.hbm, 117, rfl⟩
abbrev main_call5_v5 : Ref sig .tc := ⟨.hbm, 118, rfl⟩
abbrev main_call5_v6 : Ref sig .tc := ⟨.hbm, 119, rfl⟩
abbrev main_call5_cst_1 : Ref sig .tc := ⟨.hbm, 120, rfl⟩
abbrev main_call5_v7 : Ref sig .tc := ⟨.hbm, 121, rfl⟩
abbrev main_call5_v8 : Ref sig .tc := ⟨.hbm, 122, rfl⟩
abbrev main_call5_v9 : Ref sig .tc := ⟨.hbm, 123, rfl⟩
abbrev main_call5_v10 : Ref sig .tc := ⟨.hbm, 124, rfl⟩
abbrev main_v65 : Ref sig .tc := ⟨.hbm, 125, rfl⟩
abbrev main_c_7 : Ref sig .tc := ⟨.hbm, 126, rfl⟩
abbrev main_c_8 : Ref sig .tc := ⟨.hbm, 127, rfl⟩
abbrev main_call6_v0 : Ref sig .tc := ⟨.hbm, 128, rfl⟩
abbrev main_call6_v1 : Ref sig .tc := ⟨.hbm, 129, rfl⟩
abbrev main_call6_v2 : Ref sig .tc := ⟨.hbm, 130, rfl⟩
abbrev main_call6_v3 : Ref sig .tc := ⟨.hbm, 131, rfl⟩
abbrev main_call6_v4 : Ref sig .tc := ⟨.hbm, 132, rfl⟩
abbrev main_v66 : Ref sig .tc := ⟨.hbm, 133, rfl⟩
abbrev main_v67 : Ref sig .tc := ⟨.hbm, 134, rfl⟩
abbrev main_call7_c : Ref sig .tc := ⟨.hbm, 135, rfl⟩
abbrev main_call7_v0 : Ref sig .tc := ⟨.hbm, 136, rfl⟩
abbrev main_call7_v1 : Ref sig .tc := ⟨.hbm, 137, rfl⟩
abbrev main_call7_c_0 : Ref sig .tc := ⟨.hbm, 138, rfl⟩
abbrev main_call7_v2 : Ref sig .tc := ⟨.hbm, 139, rfl⟩
abbrev main_call7_v3 : Ref sig .tc := ⟨.hbm, 140, rfl⟩
abbrev main_call7_v4 : Ref sig .tc := ⟨.hbm, 141, rfl⟩
abbrev main_call7_v5 : Ref sig .tc := ⟨.hbm, 142, rfl⟩
abbrev main_call7_c_1 : Ref sig .tc := ⟨.hbm, 143, rfl⟩
abbrev main_call7_c_2 : Ref sig .tc := ⟨.hbm, 144, rfl⟩
abbrev main_call7_v6 : Ref sig .tc := ⟨.hbm, 145, rfl⟩
abbrev main_call7_v7 : Ref sig .tc := ⟨.hbm, 146, rfl⟩
abbrev main_call7_v8 : Ref sig .tc := ⟨.hbm, 147, rfl⟩
abbrev main_call7_v9 : Ref sig .tc := ⟨.hbm, 148, rfl⟩
abbrev main_call7_v10 : Ref sig .tc := ⟨.hbm, 149, rfl⟩
abbrev main_call7_v11 : Ref sig .tc := ⟨.hbm, 150, rfl⟩
abbrev main_call7_c_3 : Ref sig .tc := ⟨.hbm, 151, rfl⟩
abbrev main_call7_v12 : Ref sig .tc := ⟨.hbm, 152, rfl⟩
abbrev main_call7_v13 : Ref sig .tc := ⟨.hbm, 153, rfl⟩
abbrev main_call7_cst : Ref sig .tc := ⟨.hbm, 154, rfl⟩
abbrev main_call7_v14 : Ref sig .tc := ⟨.hbm, 155, rfl⟩
abbrev main_v68 : Ref sig .tc := ⟨.hbm, 156, rfl⟩
abbrev main_v69 : Ref sig .tc := ⟨.hbm, 157, rfl⟩
abbrev main_v70 : Ref sig .tc := ⟨.hbm, 158, rfl⟩
abbrev main_cst_9 : Ref sig .tc := ⟨.hbm, 159, rfl⟩
abbrev main_call8_v0 : Ref sig .tc := ⟨.hbm, 160, rfl⟩
abbrev main_call8_v1 : Ref sig .tc := ⟨.hbm, 161, rfl⟩
abbrev main_call8_v2 : Ref sig .tc := ⟨.hbm, 162, rfl⟩
abbrev main_v71 : Ref sig .tc := ⟨.hbm, 163, rfl⟩
abbrev main_cst_10 : Ref sig .tc := ⟨.hbm, 164, rfl⟩
abbrev main_v72 : Ref sig .tc := ⟨.hbm, 165, rfl⟩
abbrev main_c_11 : Ref sig .tc := ⟨.hbm, 166, rfl⟩
abbrev main_v73 : Ref sig .tc := ⟨.hbm, 167, rfl⟩
abbrev main_v74 : Ref sig .tc := ⟨.hbm, 168, rfl⟩
abbrev main_v75 : Ref sig .tc := ⟨.hbm, 169, rfl⟩
abbrev main_v76 : Ref sig .tc := ⟨.hbm, 170, rfl⟩
abbrev main_v77 : Ref sig .tc := ⟨.hbm, 171, rfl⟩
abbrev main_c_12 : Ref sig .tc := ⟨.hbm, 172, rfl⟩
abbrev main_v78 : Ref sig .tc := ⟨.hbm, 173, rfl⟩
abbrev main_call9_c : Ref sig .tc := ⟨.hbm, 174, rfl⟩
abbrev main_call9_v0 : Ref sig .tc := ⟨.hbm, 175, rfl⟩
abbrev main_call9_v1 : Ref sig .tc := ⟨.hbm, 176, rfl⟩
abbrev main_call9_c_0 : Ref sig .tc := ⟨.hbm, 177, rfl⟩
abbrev main_call9_v2 : Ref sig .tc := ⟨.hbm, 178, rfl⟩
abbrev main_call9_v3 : Ref sig .tc := ⟨.hbm, 179, rfl⟩
abbrev main_call9_v4 : Ref sig .tc := ⟨.hbm, 180, rfl⟩
abbrev main_call9_v5 : Ref sig .tc := ⟨.hbm, 181, rfl⟩
abbrev main_call9_c_1 : Ref sig .tc := ⟨.hbm, 182, rfl⟩
abbrev main_call9_c_2 : Ref sig .tc := ⟨.hbm, 183, rfl⟩
abbrev main_call9_v6 : Ref sig .tc := ⟨.hbm, 184, rfl⟩
abbrev main_call9_v7 : Ref sig .tc := ⟨.hbm, 185, rfl⟩
abbrev main_call9_v8 : Ref sig .tc := ⟨.hbm, 186, rfl⟩
abbrev main_call9_v9 : Ref sig .tc := ⟨.hbm, 187, rfl⟩
abbrev main_call9_v10 : Ref sig .tc := ⟨.hbm, 188, rfl⟩
abbrev main_call9_v11 : Ref sig .tc := ⟨.hbm, 189, rfl⟩
abbrev main_call9_c_3 : Ref sig .tc := ⟨.hbm, 190, rfl⟩
abbrev main_call9_v12 : Ref sig .tc := ⟨.hbm, 191, rfl⟩
abbrev main_call9_v13 : Ref sig .tc := ⟨.hbm, 192, rfl⟩
abbrev main_call9_v14 : Ref sig .tc := ⟨.hbm, 193, rfl⟩
abbrev main_call9_cst : Ref sig .tc := ⟨.hbm, 194, rfl⟩
abbrev main_call9_v15 : Ref sig .tc := ⟨.hbm, 195, rfl⟩
abbrev main_v79 : Ref sig .tc := ⟨.hbm, 196, rfl⟩
abbrev main_v80 : Ref sig .tc := ⟨.hbm, 197, rfl⟩
abbrev main_v81 : Ref sig .tc := ⟨.hbm, 198, rfl⟩
abbrev main_cst_13 : Ref sig .tc := ⟨.hbm, 199, rfl⟩
abbrev main_v82 : Ref sig .tc := ⟨.hbm, 200, rfl⟩
abbrev main_v83 : Ref sig .tc := ⟨.hbm, 201, rfl⟩
abbrev main_cst_14 : Ref sig .tc := ⟨.hbm, 202, rfl⟩
abbrev main_v84 : Ref sig .tc := ⟨.hbm, 203, rfl⟩
abbrev main_v85 : Ref sig .tc := ⟨.hbm, 204, rfl⟩
abbrev main_v86 : Ref sig .tc := ⟨.hbm, 205, rfl⟩
abbrev main_cst_15 : Ref sig .tc := ⟨.hbm, 206, rfl⟩
abbrev main_v87 : Ref sig .tc := ⟨.hbm, 207, rfl⟩
abbrev main_v88 : Ref sig .tc := ⟨.hbm, 208, rfl⟩
abbrev main_v89 : Ref sig .tc := ⟨.hbm, 209, rfl⟩
abbrev main_v90 : Ref sig .tc := ⟨.hbm, 210, rfl⟩
abbrev main_cst_16 : Ref sig .tc := ⟨.hbm, 211, rfl⟩
abbrev main_call11_v0 : Ref sig .tc := ⟨.hbm, 212, rfl⟩
abbrev main_call11_v1 : Ref sig .tc := ⟨.hbm, 213, rfl⟩
abbrev main_call11_v2 : Ref sig .tc := ⟨.hbm, 214, rfl⟩
abbrev main_call11_v3 : Ref sig .tc := ⟨.hbm, 215, rfl⟩
abbrev main_v91 : Ref sig .tc := ⟨.hbm, 216, rfl⟩
abbrev main_cst_17 : Ref sig .tc := ⟨.hbm, 217, rfl⟩
abbrev main_v92 : Ref sig .tc := ⟨.hbm, 218, rfl⟩
abbrev main_c_18 : Ref sig .tc := ⟨.hbm, 219, rfl⟩
abbrev main_v93 : Ref sig .tc := ⟨.hbm, 220, rfl⟩
abbrev main_v94 : Ref sig .tc := ⟨.hbm, 221, rfl⟩
abbrev main_c_19 : Ref sig .tc := ⟨.hbm, 222, rfl⟩
abbrev main_v95 : Ref sig .tc := ⟨.hbm, 223, rfl⟩
abbrev main_v96 : Ref sig .tc := ⟨.hbm, 224, rfl⟩
abbrev main_v97 : Ref sig .tc := ⟨.hbm, 225, rfl⟩
abbrev main_v98 : Ref sig .tc := ⟨.hbm, 226, rfl⟩
abbrev main_c_20 : Ref sig .tc := ⟨.hbm, 227, rfl⟩
abbrev main_v99 : Ref sig .tc := ⟨.hbm, 228, rfl⟩
abbrev main_v100 : Ref sig .tc := ⟨.hbm, 229, rfl⟩
abbrev main_cst_21 : Ref sig .tc := ⟨.hbm, 230, rfl⟩
abbrev main_call12_v0 : Ref sig .tc := ⟨.hbm, 231, rfl⟩
abbrev main_call12_v1 : Ref sig .tc := ⟨.hbm, 232, rfl⟩
abbrev main_v101 : Ref sig .tc := ⟨.hbm, 233, rfl⟩
abbrev main_c_22 : Ref sig .tc := ⟨.hbm, 234, rfl⟩
abbrev main_v102 : Ref sig .tc := ⟨.hbm, 235, rfl⟩
abbrev main_v103 : Ref sig .tc := ⟨.hbm, 236, rfl⟩
abbrev main_cst_23 : Ref sig .tc := ⟨.hbm, 237, rfl⟩
abbrev main_call13_v0 : Ref sig .tc := ⟨.hbm, 238, rfl⟩
abbrev main_call13_v1 : Ref sig .tc := ⟨.hbm, 239, rfl⟩
abbrev main_v104 : Ref sig .tc := ⟨.hbm, 240, rfl⟩
abbrev main_cst_24 : Ref sig .tc := ⟨.hbm, 241, rfl⟩
abbrev main_v105 : Ref sig .tc := ⟨.hbm, 242, rfl⟩
abbrev main_cst_25 : Ref sig .tc := ⟨.hbm, 243, rfl⟩
abbrev main_v106 : Ref sig .tc := ⟨.hbm, 244, rfl⟩
abbrev main_v107 : Ref sig .tc := ⟨.hbm, 245, rfl⟩

abbrev nD : Nat := 1
abbrev τ : Topo := Topo.v7x

variable {F : FTy → Type} [FloatOps F]
-- ==== Proof.KernelIdealRun.Runs.lean ====
/- The kernel's program around its grid, point by point: what the host lines before the grid leave alone, the
   blocks each grid point is given, the closed forms of the two branches of the body (the first block of an image
   STORES its partial sums, the second ADDS to them), and where the output block is written back. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 380000 in
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 2) — by arithmetic of the point. -/
theorem hcond0_0 : ∀ t : Fin cfg0.N, cond0_0 (grid0.coords t) ↔ t.val % 2 = 0 :=
  (fun t => by
    have ht : t.val < 32 := Nat.lt_of_lt_of_eq t.isLt N_0
    have e0 : (grid0.coords t 0).val = t.val / 2 % 16 := Pipeline.Grid.coords_val t 0 (by decide) rfl
    have e1 : (grid0.coords t 1).val = t.val / 1 % 2 := Pipeline.Grid.coords_val t 1 (by decide) rfl
    simp only [cond0_0, k0_cond1, e0, e1]
    word_cmp
   : ∀ t : Fin grid0.N, cond0_0 (grid0.coords t) ↔ t.val % 2 = 0)

/-- The condition of the body's `scf.if` 1 (`k0_h2`), from the grid coordinates (the skeleton's scalar
    chain substituted). -/
abbrev cond0_1 (i : grid0.Coords) : Prop := k0_cond2 i = 1#1
/-- It holds at the points ≡ 1 (mod 2) — decided over the grid. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Whether output 4's buffer is FRESH at each position `1 ‥ N` — holds nothing the body stored since the region's entry or the
    last write-back (written back at the point before, or idle there and fresh before it) —, as a bitmask the classifier
    computed, bit `n` for position `n + 1`; position 0 is fresh. `freshTab0_4_step` checks it against the configuration's own
    step point by point and Lib/Pipeline/TableIdle.lean `Cfg.fresh_tab` makes it `Cfg.fresh` (`fresh0_4_eq`). -/
def freshTab0_4 : ℕ → Bool
  | 0 => true
  | n + 1 => (0xaaaaaaaa : ℕ).testBit n
theorem freshTab0_4_step : ∀ t : Fin cfg0.N,
    freshTab0_4 (t.val + 1) = ((cfg0.win 4).flush t || (cfg0.idle 4 (cfg0.grid.coords t) && freshTab0_4 t.val)) := by decide +kernel
theorem fresh0_4_eq (t : Fin cfg0.N) : cfg0.fresh 4 t.val = freshTab0_4 t.val :=
  Pipeline.Cfg.fresh_tab cfg0 4 freshTab0_4 rfl freshTab0_4_step t.val (Nat.le_of_lt t.isLt)
/-- At the points of case A the printed configuration (`Cfg.idle`) calls output 4 live: the case stores into it. -/
theorem liveAt0_4_A : ∀ t : Fin cfg0.N, cond0_0 (grid0.coords t) → ¬cond0_1 (grid0.coords t) → cfg0.idle 4 (grid0.coords t) = false := by decide +kernel
/-- At the points of case B the printed configuration (`Cfg.idle`) calls output 4 live: the case stores into it. -/
theorem liveAt0_4_B : ∀ t : Fin cfg0.N, ¬cond0_0 (grid0.coords t) → cond0_1 (grid0.coords t) → cfg0.idle 4 (grid0.coords t) = false := by decide +kernel
/-- At the points of case B, which keeps output 4's prior contents (reads it before covering, or covers it in part), the
    window's buffer is not FRESH: something was stored into it since the region's entry or its last write-back, idle points
    between or not (Lib/Pipeline/TableIdle.lean `Cfg.fresh`, by the table `freshTab0_4`). -/
theorem notFresh0_4_B : ∀ t : Fin cfg0.N, ¬cond0_0 (grid0.coords t) → cond0_1 (grid0.coords t) → cfg0.fresh 4 t.val = false := by
  intro t; rw [fresh0_4_eq t]; revert t; decide +kernel

/-! ## The kernel body on any staging memrefs: a subtype the run finds -/

/-- One staging buffer of output window 4, through which its contents are stated (`View.read_writes_of_cover`: the
    choice does not matter). -/
abbrev VO0_4 : View sig .tc .vmem S1x8x128 .f32 := (Memref.whole cc0_stg4_0 : Memref sig .tc .vmem S1x8x128 .f32).view
/-- Each window's current staging memref at point `t`, spelled as the pipeline passes it (`bodyAt0`), and its wholeness. -/
abbrev ms0_0 (t : Fin cfg0.N) : Memref sig .tc .vmem S1x10000x81 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x4x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x104x4 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x8x100 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x128 .f32 := win0_4.stage (cfg0.slots t 4)
abbrev hs0_4 (t : Fin cfg0.N) : (ms0_4 t).IsWhole := hstage0_4 ((cfg0.slots t 4).cast nbuf0_4)

end Cert.KernelIdeal.Gen

end
-- ==== Proof.KernelIdealRun.RunA.lean ====
/- One run of the kernel's body at the FIRST block of an image (`t % 2 = 0`): the partial sums are stored. -/
module

public import proofs.«01_k».proof.Proof.KernelIdealRun.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 2, … 30: 16 of 32), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x10000x81 .f32) (harg2 : arg2.IsWhole) (arg3 : Memref sig .tc .vmem S1x1x4x10000 .f32) (harg3 : arg3.IsWhole) (arg4 : Memref sig .tc .vmem S1x104x4 .f32) (harg4 : arg4.IsWhole) (arg5 : Memref sig .tc .vmem S1x8x100 .f32) (harg5 : arg5.IsWhole) (arg6 : Memref sig .tc .vmem S1x8x128 .f32) (harg6 : arg6.IsWhole) (hc0 : cond0_0 i) (hc1 : ¬cond0_1 i)
    (x0 : Vec F S1x10000x81 .f32) (x1 : Vec F S1x1x4x10000 .f32) (x2 : Vec F S1x104x4 .f32) (x3 : Vec F S1x8x100 .f32) :
    { L4 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__loss_block i arg2 harg2 arg3 harg3 arg4 harg4 arg5 harg5 arg6 harg6) K } := by
  refine ⟨?_, fun E K => ?run⟩
  case run =>
    simp only [cc0__loss_block_eq_skeleton]; unfold cc0__loss_block_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Gen

end
-- ==== Proof.KernelIdealRun.RunB.lean ====
/- One run of the kernel's body at the SECOND block of an image (`t % 2 = 1`): the partial sums are added. -/
module

public import proofs.«01_k».proof.Proof.KernelIdealRun.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 3, … 31: 16 of 32), WITH the
    proof that on whole staging memrefs — the inputs' at their contents, the outputs it reads before covering (4) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x10000x81 .f32) (harg2 : arg2.IsWhole) (arg3 : Memref sig .tc .vmem S1x1x4x10000 .f32) (harg3 : arg3.IsWhole) (arg4 : Memref sig .tc .vmem S1x104x4 .f32) (harg4 : arg4.IsWhole) (arg5 : Memref sig .tc .vmem S1x8x100 .f32) (harg5 : arg5.IsWhole) (arg6 : Memref sig .tc .vmem S1x8x128 .f32) (harg6 : arg6.IsWhole) (hc0 : ¬cond0_0 i) (hc1 : cond0_1 i)
    (x0 : Vec F S1x10000x81 .f32) (x1 : Vec F S1x1x4x10000 .f32) (x2 : Vec F S1x104x4 .f32) (x3 : Vec F S1x8x100 .f32) (xo4 : Vec F S1x8x128 .f32) :
    { L4 : List (View.Piece (Elt F) S1x8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__loss_block i arg2 harg2 arg3 harg3 arg4 harg4 arg5 harg5 arg6 harg6) K } := by
  refine ⟨?_, fun E K => ?run⟩
  case run =>
    simp only [cc0__loss_block_eq_skeleton]; unfold cc0__loss_block_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Gen

end
-- ==== Proof.KernelIdealRun.Frame.lean ====
/- The kernel's run as a whole: what the output block holds after each grid point, the proof data of the pipeline,
   the body's obligation at every point, the run, and the frame claim (arguments unchanged, semaphores at zero). -/
module

public import proofs.«01_k».proof.Proof.KernelIdealRun.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 4 tile its block (1 store of `S1x8x128`, checked by the kernel's evaluation: Lib/Ring.lean `Piece.tiledL`, linear in the pieces, through a loop's `@[irreducible]` trip theorem too), so they cover it. -/
theorem cover0_A_4 (c : Dev nD) (i : grid0.Coords) (arg2 : Memref sig .tc .vmem S1x10000x81 .f32) (harg2 : arg2.IsWhole) (arg3 : Memref sig .tc .vmem S1x1x4x10000 .f32) (harg3 : arg3.IsWhole) (arg4 : Memref sig .tc .vmem S1x104x4 .f32) (harg4 : arg4.IsWhole) (arg5 : Memref sig .tc .vmem S1x8x100 .f32) (harg5 : arg5.IsWhole) (arg6 : Memref sig .tc .vmem S1x8x128 .f32) (harg6 : arg6.IsWhole) (hc0 : cond0_0 i) (hc1 : ¬cond0_1 i)
    (x0 : Vec F S1x10000x81 .f32) (x1 : Vec F S1x1x4x10000 .f32) (x2 : Vec F S1x104x4 .f32) (x3 : Vec F S1x8x100 .f32) (y : S1x8x128.Idx) :
    ∃ pc ∈ (kernelRun0_A c i arg2 harg2 arg3 harg3 arg4 harg4 arg5 harg5 arg6 harg6 hc0 hc1 x0 x1 x2 x3).1, y ∈ pc.1.set :=
  View.cover_of_tiledL (kernelRun0_A c i arg2 harg2 arg3 harg3 arg4 harg4 arg5 harg5 arg6 harg6 hc0 hc1 x0 x1 x2 x3).1 S1x8x128.size (by sl_kernel_rfl) y

/-- What case A leaves in output 4's staging buffer: its pieces read back over junk. -/
def out0_A_4 (c : Dev nD) (i : grid0.Coords) (arg2 : Memref sig .tc .vmem S1x10000x81 .f32) (harg2 : arg2.IsWhole) (arg3 : Memref sig .tc .vmem S1x1x4x10000 .f32) (harg3 : arg3.IsWhole) (arg4 : Memref sig .tc .vmem S1x104x4 .f32) (harg4 : arg4.IsWhole) (arg5 : Memref sig .tc .vmem S1x8x100 .f32) (harg5 : arg5.IsWhole) (arg6 : Memref sig .tc .vmem S1x8x128 .f32) (harg6 : arg6.IsWhole) (hc0 : cond0_0 i) (hc1 : ¬cond0_1 i)
    (x0 : Vec F S1x10000x81 .f32) (x1 : Vec F S1x1x4x10000 .f32) (x2 : Vec F S1x104x4 .f32) (x3 : Vec F S1x8x100 .f32) : Vec F S1x8x128 .f32 :=
  VO0_4.read (Elt F) (VO0_4.writes (Elt F) VO0_4.junk (kernelRun0_A c i arg2 harg2 arg3 harg3 arg4 harg4 arg5 harg5 arg6 harg6 hc0 hc1 x0 x1 x2 x3).1)

/-- Case B's pieces for output 4 tile its block (1 store of `S1x8x128`, checked by the kernel's evaluation: Lib/Ring.lean `Piece.tiledL`, linear in the pieces, through a loop's `@[irreducible]` trip theorem too), so they cover it. -/
theorem cover0_B_4 (c : Dev nD) (i : grid0.Coords) (arg2 : Memref sig .tc .vmem S1x10000x81 .f32) (harg2 : arg2.IsWhole) (arg3 : Memref sig .tc .vmem S1x1x4x10000 .f32) (harg3 : arg3.IsWhole) (arg4 : Memref sig .tc .vmem S1x104x4 .f32) (harg4 : arg4.IsWhole) (arg5 : Memref sig .tc .vmem S1x8x100 .f32) (harg5 : arg5.IsWhole) (arg6 : Memref sig .tc .vmem S1x8x128 .f32) (harg6 : arg6.IsWhole) (hc0 : ¬cond0_0 i) (hc1 : cond0_1 i)
    (x0 : Vec F S1x10000x81 .f32) (x1 : Vec F S1x1x4x10000 .f32) (x2 : Vec F S1x104x4 .f32) (x3 : Vec F S1x8x100 .f32) (xo4 : Vec F S1x8x128 .f32) (y : S1x8x128.Idx) :
    ∃ pc ∈ (kernelRun0_B c i arg2 harg2 arg3 harg3 arg4 harg4 arg5 harg5 arg6 harg6 hc0 hc1 x0 x1 x2 x3 xo4).1, y ∈ pc.1.set :=
  View.cover_of_tiledL (kernelRun0_B c i arg2 harg2 arg3 harg3 arg4 harg4 arg5 harg5 arg6 harg6 hc0 hc1 x0 x1 x2 x3 xo4).1 S1x8x128.size (by sl_kernel_rfl) y

/-- What case B leaves in output 4's staging buffer: its pieces read back over junk. -/
def out0_B_4 (c : Dev nD) (i : grid0.Coords) (arg2 : Memref sig .tc .vmem S1x10000x81 .f32) (harg2 : arg2.IsWhole) (arg3 : Memref sig .tc .vmem S1x1x4x10000 .f32) (harg3 : arg3.IsWhole) (arg4 : Memref sig .tc .vmem S1x104x4 .f32) (harg4 : arg4.IsWhole) (arg5 : Memref sig .tc .vmem S1x8x100 .f32) (harg5 : arg5.IsWhole) (arg6 : Memref sig .tc .vmem S1x8x128 .f32) (harg6 : arg6.IsWhole) (hc0 : ¬cond0_0 i) (hc1 : cond0_1 i)
    (x0 : Vec F S1x10000x81 .f32) (x1 : Vec F S1x1x4x10000 .f32) (x2 : Vec F S1x104x4 .f32) (x3 : Vec F S1x8x100 .f32) (xo4 : Vec F S1x8x128 .f32) : Vec F S1x8x128 .f32 :=
  VO0_4.read (Elt F) (VO0_4.writes (Elt F) VO0_4.junk (kernelRun0_B c i arg2 harg2 arg3 harg3 arg4 harg4 arg5 harg5 arg6 harg6 hc0 hc1 x0 x1 x2 x3 xo4).1)

/-! ## What the outputs hold after each point -/

/-- THE ACCUMULATION. What the outputs' staging buffers hold after the body at position `n`:
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S1x8x128 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩)
  | n + 1, hn =>
    if h0 : (n + 1) % 2 = 0 then
      if h1 : (n + 1) % 2 = 1 then
        False.elim (by have hN : n + 1 < 32 := lt_of_lt_of_eq hn (show cfg0.N = 32 from N_0); omega)
      else
        out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩)
    else
      if h1 : (n + 1) % 2 = 1 then
        out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn))
      else
        False.elim (by have hN : n + 1 < 32 := lt_of_lt_of_eq hn (show cfg0.N = 32 from N_0); omega)

/-- `outsAt0` at a point of case A: that case's contents. -/
theorem outsAt0_A (c : Dev nD) (t : Fin cfg0.N) (h0 : t.val % 2 = 0) (h1 : ¬t.val % 2 = 1) :
    outsAt0 m c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (fun h => h1 ((hcond0_1 t).mp h)) (iblk m c 0 t) (iblk m c 1 t) (iblk m c 2 t) (iblk m c 3 t) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 2 = 0) (h1 : t.val % 2 = 1) :
    outsAt0 m c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Output 4's contents CARRY through the points that leave it idle: at such a point, its buffer not fresh, the proof data's
    `after` is the point before's (the case there stores nothing into the window and its term says so; a case that stores
    into it is not idle there by `liveAt0_4_κ`) — the hypothesis of Lib/Pipeline/TableIdle.lean `Dat.before_out_traj`. -/
theorem hcarry0_4 (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  have hN : t.val < 32 := lt_of_lt_of_eq t.isLt (show cfg0.N = 32 from N_0)
  rw [after0_4, after0_4]
  by_cases h0 : t.val % 2 = 0
  · by_cases h1 : t.val % 2 = 1
    · exfalso; omega
    · rw [liveAt0_4_A t ((hcond0_0 t).mpr h0) (fun h => h1 ((hcond0_1 t).mp h))] at hi
      exact absurd hi Bool.false_ne_true
  · by_cases h1 : t.val % 2 = 1
    · rw [liveAt0_4_B t (fun h => h0 ((hcond0_0 t).mp h)) ((hcond0_1 t).mpr h1)] at hi
      exact absurd hi Bool.false_ne_true
    · exfalso; omega
/-- At a point of case B output 4's current staging buffer holds what the point before left: the buffer is not fresh
    there (`notFresh0_4_B`: stored into since the region's entry or the last write-back, carried through the points that
    leave it idle by `hcarry0_4`; Lib/Pipeline/TableIdle.lean `Dat.before_out_traj`). -/
theorem before0_4_B (c : Dev nD) (t : Fin cfg0.N) (h0 : ¬t.val % 2 = 0) (h1 : t.val % 2 = 1) (d) :
    (dats m 0 c).before 4 t d = (outsAt0 m c (t.val - 1) (Nat.lt_of_le_of_lt (Nat.sub_le _ _) t.isLt)) := by
  rw [Dat.before_out_traj _ 4 rfl (fun _ _ => rfl) (hcarry0_4 m c) t.val t rfl d,
    if_neg (by rw [notFresh0_4_B t (fun h => h0 ((hcond0_0 t).mp h)) ((hcond0_1 t).mpr h1)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 800000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl]
  have hN : t.val < 32 := lt_of_lt_of_eq t.isLt (show cfg0.N = 32 from N_0)
  by_cases h0 : t.val % 2 = 0
  · by_cases h1 : t.val % 2 = 1
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4_A t ((hcond0_0 t).mpr h0) (fun h => h1 ((hcond0_1 t).mp h))], after0_4]
      rw [outsAt0_A m c t h0 h1]
      unfold out0_A_4
      iintro ⟨HΦ, Ho, ⟨%d0, H0⟩, ⟨%d1, H1⟩, ⟨%d2, H2⟩, ⟨%d3, H3⟩, ⟨%d4, H4⟩⟩
      iapply ((kernelRun0_A c (grid0.coords t) _ _ _ _ _ _ _ _ _ _ ((hcond0_0 t).mpr h0) (fun h => h1 ((hcond0_1 t).mp h)) (iblk m c 0 t) (iblk m c 1 t) (iblk m c 2 t) (iblk m c 3 t)).2 Set.univ _)
      isplitl [H0]; · iexact H0
      isplitl [H1]; · iexact H1
      isplitl [H2]; · iexact H2
      isplitl [H3]; · iexact H3
      isplitl [H4]; · iexists _; iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_A_4 c _ _ _ _ _ _ _ _ _ _ _ _ _ _ _ _ _)
  · by_cases h1 : t.val % 2 = 1
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4_B t (fun h => h0 ((hcond0_0 t).mp h)) ((hcond0_1 t).mpr h1)], after0_4]
      rw [outsAt0_B m c t h0 h1]
      simp only [before0_4_B m c t h0 h1]
      unfold out0_B_4
      iintro ⟨HΦ, Ho, ⟨%d0, H0⟩, ⟨%d1, H1⟩, ⟨%d2, H2⟩, ⟨%d3, H3⟩, ⟨%d4, H4⟩⟩
      iapply ((kernelRun0_B c (grid0.coords t) _ _ _ _ _ _ _ _ _ _ (fun h => h0 ((hcond0_0 t).mp h)) ((hcond0_1 t).mpr h1) (iblk m c 0 t) (iblk m c 1 t) (iblk m c 2 t) (iblk m c 3 t) _).2 Set.univ _)
      isplitl [H0]; · iexact H0
      isplitl [H1]; · iexact H1
      isplitl [H2]; · iexact H2
      isplitl [H3]; · iexact H3
      isplitl [H4]; · iexact H4
      iintro ⟨H0, H1, H2, H3, ⟨%e4, H4⟩⟩
      isplitl [HΦ]; · iexact HΦ
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_B_4 c _ _ _ _ _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Gen

end
-- ==== Proof.Reference.Ops.lean ====
/- The reference's program as a list of its host operations. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- A run of consecutive operations of `main_part0`. -/
abbrev ops_part0_0 : List (HloOp τ sig (Elt F)) :=
  [ unary main_arg1 main_v0 ((extractStridedSlice S16x20000x2 ![0, 0, 0] · slices_S16x20000x4_S16x20000x2_0_0_0) : (⟨S16x20000x4, .f32⟩ : BufTy).Contents (Elt F) → (⟨S16x20000x2, .f32⟩ : BufTy).Contents (Elt F)),
    unary main_v0 main_v1 (broadcastInDim S16x20000x1x2 ![0, 1, 3] bcast_S16x20000x2_S16x20000x1x2_0_1_3 : (⟨S16x20000x2, .f32⟩ : BufTy).Contents (Elt F) → (⟨S16x20000x1x2, .f32⟩ : BufTy).Contents (Elt F)),
    unary main_arg3 main_v2 ((extractStridedSlice S16x100x2 ![0, 0, 0] · slices_S16x100x4_S16x100x2_0_0_0) : (⟨S16x100x4, .f32⟩ : BufTy).Contents (Elt F) → (⟨S16x100x2, .f32⟩ : BufTy).Contents (Elt F)),
    unary main_v2 main_v3 (broadcastInDim S16x1x100x2 ![0, 2, 3] bcast_S16x100x2_S16x1x100x2_0_2_3 : (⟨S16x100x2, .f32⟩ : BufTy).Contents (Elt F) → (⟨S16x1x100x2, .f32⟩ : BufTy).Contents (Elt F)),
    unary main_v1 main_v4 (broadcastInDim S16x20000x100x2 ![0, 1, 2, 3] bcast_S16x20000x1x2_S16x20000x100x2_0_1_2_3 : (⟨S16x20000x1x2, .f32⟩ : BufTy).Contents (Elt F) → (⟨S16x20000x100x2, .f32⟩ : BufTy).Contents (Elt F)),
    unary main_v3 main_v5 (broadcastInDim S16x20000x100x2 ![0, 1, 2, 3] bcast_S16x1x100x2_S16x20000x100x2_0_1_2_3 : (⟨S16x1x100x2, .f32⟩ : BufTy).Contents (Elt F) → (⟨S16x20000x100x2, .f32⟩ : BufTy).Contents (Elt F)),
    binary main_v4 main_v5 main_v6 (maximumf : (⟨S16x20000x100x2, .f32⟩ : BufTy).Contents (Elt F) → (⟨S16x20000x100x2, .f32⟩ : BufTy).Contents (Elt F) → (⟨S16x20000x100x2, .f32⟩ : BufTy).Contents (Elt F)),
    unary main_arg1 main_v7 ((extractStridedSlice S16x20000x2 ![0, 0, 2] · slices_S16x20000x4_S16x20000x2_0_0_2) : (⟨S16x20000x4, .f32⟩ : BufTy).Contents (Elt F) → (⟨S16x20000x2, .f32⟩ : BufTy).Contents (Elt F)),
    unary main_v7 main_v8 (broadcastInDim S16x20000x1x2 ![0, 1, 3] bcast_S16x20000x2_S16x20000x1x2_0_1_3 : (⟨S16x20000x2, .f32⟩ : BufTy).Contents (Elt F) → (⟨S16x20000x1x2, .f32⟩ : BufTy).Contents (Elt F)),
    unary main_arg3 main_v9 ((extractStridedSlice S16x100x2 ![0, 0, 2] · slices_S16x100x4_S16x100x2_0_0_2) : (⟨S16x100x4, .f32⟩ : BufTy).Contents (Elt F) → (⟨S16x100x2, .f32⟩ : BufTy).Contents (Elt F)),
    unary main_v9 main_v10 (broadcastInDim S16x1x100x2 ![0, 2, 3] bcast_S16x100x2_S16x1x100x2_0_2_3 : (⟨S16x100x2, .f32⟩ : BufTy).Contents (Elt F) → (⟨S16x1x100x2, .f32⟩ : BufTy).Contents (Elt F)),
    unary main_v8 main_v11 (broadcastInDim S16x20000x100x2 ![0, 1, 2, 3] bcast_S16x20000x1x2_S16x20000x100x2_0_1_2_3 : (⟨S16x20000x1x2, .f32⟩ : BufTy).Contents (Elt F) → (⟨S16x20000x100x2, .f32⟩ : BufTy).Contents (Elt F)),
    unary main_v10 main_v12 (broadcastInDim S16x20000x100x2 ![0, 1, 2, 3] bcast_S16x1x100x2_S16x20000x100x2_0_1_2_3 : (⟨S16x1x100x2, .f32⟩ : BufTy).Contents (Elt F) → (⟨S16x20000x100x2, .f32⟩ : BufTy).Contents (Elt F)),
    binary main_v11 main_v12 main_v13 (minimumf : (⟨S16x20000x100x2, .f32⟩ : BufTy).Contents (Elt F) → (⟨S16x20000x100x2, .f32⟩ : BufTy).Contents (Elt F) → (⟨S16x20000x100x2, .f32⟩ : BufTy).Contents (Elt F)),
    binary main_v13 main_v6 main_v14 (subf : (⟨S16x20000x100x2, .f32⟩ : BufTy).Contents (Elt F) → (⟨S16x20000x100x2, .f32⟩ : BufTy).Contents (Elt F) → (⟨S16x20000x100x2, .f32⟩ : BufTy).Contents (Elt F)),
    nullary main_cst (constant S_ .f32 0x00000000#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S16x20000x100x2, .f32⟩) main_call0_v1) (broadcastInDim S16x20000x100x2 ![] bcast_S_S16x20000x100x2),
    TRef.binary (TRef.of (T := ⟨S16x20000x100x2, .f32⟩) main_call0_v1) (TRef.of (T := ⟨S16x20000x100x2, .f32⟩) main_v14) (TRef.of (T := ⟨S16x20000x100x2, .f32⟩) main_v15) maximumf,
    unary main_v15 main_v16 ((extractStridedSlice S16x20000x100x1 ![0, 0, 0, 0] · slices_S16x20000x100x2_S16x20000x100x1_0_0_0_0) : (⟨S16x20000x100x2, .f32⟩ : BufTy).Contents (Elt F) → (⟨S16x20000x100x1, .f32⟩ : BufTy).Contents (Elt F)),
    reshape main_v16 main_v17 (rfl : (.f32 : EltTy) = .f32) shapeCasts_S16x20000x100x1_S16x20000x100,
    unary main_v15 main_v18 ((extractStridedSlice S16x20000x100x1 ![0, 0, 0, 1] · slices_S16x20000x100x2_S16x20000x100x1_0_0_0_1) : (⟨S16x20000x100x2, .f32⟩ : BufTy).Contents (Elt F) → (⟨S16x20000x100x1, .f32⟩ : BufTy).Contents (Elt F)),
    reshape main_v18 main_v19 (rfl : (.f32 : EltTy) = .f32) shapeCasts_S16x20000x100x1_S16x20000x100,
    binary main_v17 main_v19 main_v20 (mulf : (⟨S16x20000x100, .f32⟩ : BufTy).Contents (Elt F) → (⟨S16x20000x100, .f32⟩ : BufTy).Contents (Elt F) → (⟨S16x20000x100, .f32⟩ : BufTy).Contents (Elt F)),
    unary main_arg1 main_v21 ((extractStridedSlice S16x20000x1 ![0, 0, 2] · slices_S16x20000x4_S16x20000x1_0_0_2) : (⟨S16x20000x4, .f32⟩ : BufTy).Contents (Elt F) → (⟨S16x20000x1, .f32⟩ : BufTy).Contents (Elt F)),
    reshape main_v21 main_v22 (rfl : (.f32 : EltTy) = .f32) shapeCasts_S16x20000x1_S16x20000,
    unary main_arg1 main_v23 ((extractStridedSlice S16x20000x1 ![0, 0, 0] · slices_S16x20000x4_S16x20000x1_0_0_0) : (⟨S16x20000x4, .f32⟩ : BufTy).Contents (Elt F) → (⟨S16x20000x1, .f32⟩ : BufTy).Contents (Elt F)),
    reshape main_v23 main_v24 (rfl : (.f32 : EltTy) = .f32) shapeCasts_S16x20000x1_S16x20000,
    binary main_v22 main_v24 main_v25 (subf : (⟨S16x20000, .f32⟩ : BufTy).Contents (Elt F) → (⟨S16x20000, .f32⟩ : BufTy).Contents (Elt F) → (⟨S16x20000, .f32⟩ : BufTy).Contents (Elt F)),
    unary main_arg1 main_v26 ((extractStridedSlice S16x20000x1 ![0, 0, 3] · slices_S16x20000x4_S16x20000x1_0_0_3) : (⟨S16x20000x4, .f32⟩ : BufTy).Contents (Elt F) → (⟨S16x20000x1, .f32⟩ : BufTy).Contents (Elt F)) ]

/-- A run of consecutive operations of `main_part0`. -/
abbrev ops_part0_1 : List (HloOp τ sig (Elt F)) :=
  [ reshape main_v26 main_v27 (rfl : (.f32 : EltTy) = .f32) shapeCasts_S16x20000x1_S16x20000,
    unary main_arg1 main_v28 ((extractStridedSlice S16x20000x1 ![0, 0, 1] · slices_S16x20000x4_S16x20000x1_0_0_1) : (⟨S16x20000x4, .f32⟩ : BufTy).Contents (Elt F) → (⟨S16x20000x1, .f32⟩ : BufTy).Contents (Elt F)),
    reshape main_v28 main_v29 (rfl : (.f32 : EltTy) = .f32) shapeCasts_S16x20000x1_S16x20000,
    binary main_v27 main_v29 main_v30 (subf : (⟨S16x20000, .f32⟩ : BufTy).Contents (Elt F) → (⟨S16x20000, .f32⟩ : BufTy).Contents (Elt F) → (⟨S16x20000, .f32⟩ : BufTy).Contents (Elt F)),
    binary main_v25 main_v30 main_v31 (mulf : (⟨S16x20000, .f32⟩ : BufTy).Contents (Elt F) → (⟨S16x20000, .f32⟩ : BufTy).Contents (Elt F) → (⟨S16x20000, .f32⟩ : BufTy).Contents (Elt F)),
    unary main_arg3 main_v32 ((extractStridedSlice S16x100x1 ![0, 0, 2] · slices_S16x100x4_S16x100x1_0_0_2) : (⟨S16x100x4, .f32⟩ : BufTy).Contents (Elt F) → (⟨S16x100x1, .f32⟩ : BufTy).Contents (Elt F)),
    reshape main_v32 main_v33 (rfl : (.f32 : EltTy) = .f32) shapeCasts_S16x100x1_S16x100,
    unary main_arg3 main_v34 ((extractStridedSlice S16x100x1 ![0, 0, 0] · slices_S16x100x4_S16x100x1_0_0_0) : (⟨S16x100x4, .f32⟩ : BufTy).Contents (Elt F) → (⟨S16x100x1, .f32⟩ : BufTy).Contents (Elt F)),
    reshape main_v34 main_v35 (rfl : (.f32 : EltTy) = .f32) shapeCasts_S16x100x1_S16x100,
    binary main_v33 main_v35 main_v36 (subf : (⟨S16x100, .f32⟩ : BufTy).Contents (Elt F) → (⟨S16x100, .f32⟩ : BufTy).Contents (Elt F) → (⟨S16x100, .f32⟩ : BufTy).Contents (Elt F)),
    unary main_arg3 main_v37 ((extractStridedSlice S16x100x1 ![0, 0, 3] · slices_S16x100x4_S16x100x1_0_0_3) : (⟨S16x100x4, .f32⟩ : BufTy).Contents (Elt F) → (⟨S16x100x1, .f32⟩ : BufTy).Contents (Elt F)),
    reshape main_v37 main_v38 (rfl : (.f32 : EltTy) = .f32) shapeCasts_S16x100x1_S16x100,
    unary main_arg3 main_v39 ((extractStridedSlice S16x100x1 ![0, 0, 1] · slices_S16x100x4_S16x100x1_0_0_1) : (⟨S16x100x4, .f32⟩ : BufTy).Contents (Elt F) → (⟨S16x100x1, .f32⟩ : BufTy).Contents (Elt F)),
    reshape main_v39 main_v40 (rfl : (.f32 : EltTy) = .f32) shapeCasts_S16x100x1_S16x100,
    binary main_v38 main_v40 main_v41 (subf : (⟨S16x100, .f32⟩ : BufTy).Contents (Elt F) → (⟨S16x100, .f32⟩ : BufTy).Contents (Elt F) → (⟨S16x100, .f32⟩ : BufTy).Contents (Elt F)),
    binary main_v36 main_v41 main_v42 (mulf : (⟨S16x100, .f32⟩ : BufTy).Contents (Elt F) → (⟨S16x100, .f32⟩ : BufTy).Contents (Elt F) → (⟨S16x100, .f32⟩ : BufTy).Contents (Elt F)),
    unary main_v31 main_v43 (broadcastInDim S16x20000x1 ![0, 1] bcast_S16x20000_S16x20000x1_0_1 : (⟨S16x20000, .f32⟩ : BufTy).Contents (Elt F) → (⟨S16x20000x1, .f32⟩ : BufTy).Contents (Elt F)),
    unary main_v42 main_v44 (broadcastInDim S16x1x100 ![0, 2] bcast_S16x100_S16x1x100_0_2 : (⟨S16x100, .f32⟩ : BufTy).Contents (Elt F) → (⟨S16x1x100, .f32⟩ : BufTy).Contents (Elt F)),
    unary main_v43 main_v45 (broadcastInDim S16x20000x100 ![0, 1, 2] bcast_S16x20000x1_S16x20000x100_0_1_2 : (⟨S16x20000x1, .f32⟩ : BufTy).Contents (Elt F) → (⟨S16x20000x100, .f32⟩ : BufTy).Contents (Elt F)),
    unary main_v44 main_v46 (broadcastInDim S16x20000x100 ![0, 1, 2] bcast_S16x1x100_S16x20000x100_0_1_2 : (⟨S16x1x100, .f32⟩ : BufTy).Contents (Elt F) → (⟨S16x20000x100, .f32⟩ : BufTy).Contents (Elt F)),
    binary main_v45 main_v46 main_v47 (addf : (⟨S16x20000x100, .f32⟩ : BufTy).Contents (Elt F) → (⟨S16x20000x100, .f32⟩ : BufTy).Contents (Elt F) → (⟨S16x20000x100, .f32⟩ : BufTy).Contents (Elt F)),
    binary main_v47 main_v20 main_v48 (subf : (⟨S16x20000x100, .f32⟩ : BufTy).Contents (Elt F) → (⟨S16x20000x100, .f32⟩ : BufTy).Contents (Elt F) → (⟨S16x20000x100, .f32⟩ : BufTy).Contents (Elt F)),
    nullary main_cst_0 (constant S_ .f32 0x358637BD#32),
    unary main_cst_0 main_v49 (broadcastInDim S16x20000x100 ![] bcast_S_S16x20000x100 : (⟨S_, .f32⟩ : BufTy).Contents (Elt F) → (⟨S16x20000x100, .f32⟩ : BufTy).Contents (Elt F)),
    binary main_v48 main_v49 main_v50 (maximumf : (⟨S16x20000x100, .f32⟩ : BufTy).Contents (Elt F) → (⟨S16x20000x100, .f32⟩ : BufTy).Contents (Elt F) → (⟨S16x20000x100, .f32⟩ : BufTy).Contents (Elt F)),
    binary main_v20 main_v50 main_v51 (Host.divf : (⟨S16x20000x100, .f32⟩ : BufTy).Contents (Elt F) → (⟨S16x20000x100, .f32⟩ : BufTy).Contents (Elt F) → (⟨S16x20000x100, .f32⟩ : BufTy).Contents (Elt F)),
    nullary main_cst_1 (constant S_ .f32 0xFF800000#32),
    binary main_v51 main_cst_1 main_v52 ((fun x v => Host.reduce FloatOps.maximumf x v reducesTo_S16x20000x100_S16x20000_d2 h_S_) : (⟨S16x20000x100, .f32⟩ : BufTy).Contents (Elt F) → (⟨S_, .f32⟩ : BufTy).Contents (Elt F) → (⟨S16x20000, .f32⟩ : BufTy).Contents (Elt F)) ]

/-- A run of consecutive operations of `main_part0`. -/
abbrev ops_part0_2 : List (HloOp τ sig (Elt F)) :=
  [ TRef.nullary (TRef.of (T := ⟨S16x20000x100, .i32⟩) main_call1_v0) (iotaInDim S16x20000x100 32 2),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S16x20000x100, .f32⟩) main_v51) (TRef.of (T := ⟨S16x20000x100, .i32⟩) main_call1_v0) (TRef.of (T := ⟨S_, .f32⟩) main_call1_cst) (TRef.of (T := ⟨S_, .i32⟩) main_call1_c) (TRef.of (T := ⟨S16x20000, .f32⟩) main_call1_v1_0) (fun x y u v j => (Host.argReduce reducer_argmax_f32_i32 x y u v reducesTo_S16x20000x100_S16x20000_d2 h_S_ j).1),
    TRef.quaternary (TRef.of (T := ⟨S16x20000x100, .f32⟩) main_v51) (TRef.of (T := ⟨S16x20000x100, .i32⟩) main_call1_v0) (TRef.of (T := ⟨S_, .f32⟩) main_call1_cst) (TRef.of (T := ⟨S_, .i32⟩) main_call1_c) (TRef.of (T := ⟨S16x20000, .i32⟩) main_v53) (fun x y u v j => (Host.argReduce reducer_argmax_f32_i32 x y u v reducesTo_S16x20000x100_S16x20000_d2 h_S_ j).2),
    nullary main_cst_2 (constant S_ .f32 0x3F000000#32),
    unary main_cst_2 main_v54 (broadcastInDim S16x20000 ![] bcast_S_S16x20000 : (⟨S_, .f32⟩ : BufTy).Contents (Elt F) → (⟨S16x20000, .f32⟩ : BufTy).Contents (Elt F)),
    binary main_v52 main_v54 main_v55 (cmpf .oge : (⟨S16x20000, .f32⟩ : BufTy).Contents (Elt F) → (⟨S16x20000, .f32⟩ : BufTy).Contents (Elt F) → (⟨S16x20000, .i1⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2))

/-- A run of consecutive operations of `main_part1`. -/
abbrev ops_part1_0 : List (HloOp τ sig (Elt F)) :=
  [ nullary main_cst_3 (constant S_ .f32 0x3E99999A#32),
    unary main_cst_3 main_v56 (broadcastInDim S16x20000 ![] bcast_S_S16x20000 : (⟨S_, .f32⟩ : BufTy).Contents (Elt F) → (⟨S16x20000, .f32⟩ : BufTy).Contents (Elt F)),
    binary main_v52 main_v56 main_v57 (cmpf .olt : (⟨S16x20000, .f32⟩ : BufTy).Contents (Elt F) → (⟨S16x20000, .f32⟩ : BufTy).Contents (Elt F) → (⟨S16x20000, .i1⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S16x20000, .i32⟩) main_call2_v0) (broadcastInDim S16x20000 ![] bcast_S_S16x20000),
    TRef.binary (TRef.of (T := ⟨S16x20000, .i32⟩) main_v53) (TRef.of (T := ⟨S16x20000, .i32⟩) main_call2_v0) (TRef.of (T := ⟨S16x20000, .i1⟩) main_call2_v1) (cmpi .slt),
    TRef.nullary (TRef.of (T := ⟨S_, .i32⟩) main_call2_c_0) (constantI S_ 32 100#32),
    TRef.unary (TRef.of (T := ⟨S_, .i32⟩) main_call2_c_0) (TRef.of (T := ⟨S16x20000, .i32⟩) main_call2_v2) (broadcastInDim S16x20000 ![] bcast_S_S16x20000),
    TRef.binary (TRef.of (T := ⟨S16x20000, .i32⟩) main_v53) (TRef.of (T := ⟨S16x20000, .i32⟩) main_call2_v2) (TRef.of (T := ⟨S16x20000, .i32⟩) main_call2_v3) addi,
    TRef.ternary (TRef.of (T := ⟨S16x20000, .i1⟩) main_call2_v1) (TRef.of (T := ⟨S16x20000, .i32⟩) main_call2_v3) (TRef.of (T := ⟨S16x20000, .i32⟩) main_v53) (TRef.of (T := ⟨S16x20000, .i32⟩) main_call2_v4) select,
    TRef.unary (TRef.of (T := ⟨S16x20000, .i32⟩) main_call2_v4) (TRef.of (T := ⟨S16x20000x1, .i32⟩) main_call2_v5) (broadcastInDim S16x20000x1 ![0, 1] bcast_S16x20000_S16x20000x1_0_1),
    TRef.nullary (TRef.of (T := ⟨S1, .i32⟩) main_call2_c_1) (constantI S1 32 99#32),
    TRef.nullary (TRef.of (T := ⟨S_, .i32⟩) main_call2_c_2) (constantI S_ 32 0#32),
    TRef.unary (TRef.of (T := ⟨S_, .i32⟩) main_call2_c_2) (TRef.of (T := ⟨S16x20000x1, .i32⟩) main_call2_v6) (broadcastInDim S16x20000x1 ![] bcast_S_S16x20000x1),
    TRef.binary (TRef.of (T := ⟨S16x20000x1, .i32⟩) main_call2_v5) (TRef.of (T := ⟨S16x20000x1, .i32⟩) main_call2_v6) (TRef.of (T := ⟨S16x20000x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S16x20000x1, .i32⟩) main_call2_v9) (broadcastInDim S16x20000x1 ![0, 1, 2] bcast_S1x1x1_S16x20000x1_0_1_2),
    TRef.binary (TRef.of (T := ⟨S16x20000x1, .i32⟩) main_call2_v5) (TRef.of (T := ⟨S16x20000x1, .i32⟩) main_call2_v9) (TRef.of (T := ⟨S16x20000x1, .i1⟩) main_call2_v10) (cmpi .sle),
    TRef.binary (TRef.of (T := ⟨S16x20000x1, .i1⟩) main_call2_v7) (TRef.of (T := ⟨S16x20000x1, .i1⟩) main_call2_v10) (TRef.of (T := ⟨S16x20000x1, .i1⟩) main_call2_v11) andi,
    TRef.nullary (TRef.of (T := ⟨S_, .i1⟩) main_call2_c_3) (constantI S_ 1 1#1),
    TRef.binary (TRef.of (T := ⟨S16x20000x1, .i1⟩) main_call2_v11) (TRef.of (T := ⟨S_, .i1⟩) main_call2_c_3) (TRef.of (T := ⟨S16x20000, .i1⟩) main_call2_v12) (fun x v => Host.reduce IntOp.andi x v reducesTo_S16x20000x1_S16x20000_d2 h_S_),
    TRef.binary (TRef.of (T := ⟨S16x100, .i32⟩) main_arg2) (TRef.of (T := ⟨S16x20000x1, .i32⟩) main_call2_v5) (TRef.of (T := ⟨S16x20000, .i32⟩) main_call2_v13) (fun x i => Host.gather gather_S16x100_S16x20000x1_S16x20000_n_1_0_0_1_2_11 x i),
    TRef.nullary (TRef.of (T := ⟨S_, .i32⟩) main_call2_c_4) (constantI S_ 32 2147483648#32),
    TRef.unary (TRef.of (T := ⟨S_, .i32⟩) main_call2_c_4) (TRef.of (T := ⟨S16x20000, .i32⟩) main_call2_v14) (broadcastInDim S16x20000 ![] bcast_S_S16x20000),
    TRef.ternary (TRef.of (T := ⟨S16x20000, .i1⟩) main_call2_v12) (TRef.of (T := ⟨S16x20000, .i32⟩) main_call2_v13) (TRef.of (T := ⟨S16x20000, .i32⟩) main_call2_v14) (TRef.of (T := ⟨S16x20000, .i32⟩) main_v58) select,
    nullary main_c (constantI S_ 32 4294967295#32),
    TRef.unary (TRef.of (T := ⟨S_, .i32⟩) main_c) (TRef.of (T := ⟨S_, .i32⟩) main_call3_v0) id,
    TRef.unary (TRef.of (T := ⟨S_, .i32⟩) main_call3_v0) (TRef.of (T := ⟨S20000, .i32⟩) main_call3_v1) (broadcastInDim S20000 ![] bcast_S_S20000),
    TRef.unary (TRef.of (T := ⟨S20000, .i32⟩) main_call3_v1) (TRef.of (T := ⟨S16x20000, .i32⟩) main_call3_v2) (broadcastInDim S16x20000 ![1] bcast_S20000_S16x20000_1),
    TRef.ternary (TRef.of (T := ⟨S16x20000, .i1⟩) main_v55) (TRef.of (T := ⟨S16x20000, .i32⟩) main_v58) (TRef.of (T := ⟨S16x20000, .i32⟩) main_call3_v2) (TRef.of (T := ⟨S16x20000, .i32⟩) main_v59) select ]

/-- A run of consecutive operations of `main_part1`. -/
abbrev ops_part1_1 : List (HloOp τ sig (Elt F)) :=
  [ nullary main_c_4 (constantI S_ 32 0#32),
    TRef.unary (TRef.of (T := ⟨S_, .i32⟩) main_c_4) (TRef.of (T := ⟨S_, .i32⟩) main_call4_v0) id,
    TRef.unary (TRef.of (T := ⟨S_, .i32⟩) main_call4_v0) (TRef.of (T := ⟨S20000, .i32⟩) main_call4_v1) (broadcastInDim S20000 ![] bcast_S_S20000),
    TRef.unary (TRef.of (T := ⟨S20000, .i32⟩) main_call4_v1) (TRef.of (T := ⟨S16x20000, .i32⟩) main_call4_v2) (broadcastInDim S16x20000 ![1] bcast_S20000_S16x20000_1),
    TRef.ternary (TRef.of (T := ⟨S16x20000, .i1⟩) main_v57) (TRef.of (T := ⟨S16x20000, .i32⟩) main_call4_v2) (TRef.of (T := ⟨S16x20000, .i32⟩) main_v59) (TRef.of (T := ⟨S16x20000, .i32⟩) main_v60) select,
    nullary main_c_5 (constantI S_ 32 4294967295#32),
    unary main_c_5 main_v61 (broadcastInDim S16x20000 ![] bcast_S_S16x20000 : (⟨S_, .i32⟩ : BufTy).Contents (Elt F) → (⟨S16x20000, .i32⟩ : BufTy).Contents (Elt F)),
    binary main_v60 main_v61 main_v62 (cmpi .ne : (⟨S16x20000, .i32⟩ : BufTy).Contents (Elt F) → (⟨S16x20000, .i32⟩ : BufTy).Contents (Elt F) → (⟨S16x20000, .i1⟩ : BufTy).Contents (Elt F)),
    unary main_v62 main_v63 ((extui 32 · natLt_1_32) : (⟨S16x20000, .i1⟩ : BufTy).Contents (Elt F) → (⟨S16x20000, .i32⟩ : BufTy).Contents (Elt F)),
    nullary main_c_6 (constantI S_ 32 0#32),
    binary main_v63 main_c_6 main_v64 ((fun x v => Host.reduce IntOp.addi x v reducesTo_S16x20000_S16_d1 h_S_) : (⟨S16x20000, .i32⟩ : BufTy).Contents (Elt F) → (⟨S_, .i32⟩ : BufTy).Contents (Elt F) → (⟨S16, .i32⟩ : BufTy).Contents (Elt F)),
    TRef.nullary (TRef.of (T := ⟨S_, .f32⟩) main_call5_cst) (constant S_ .f32 0xFF800000#32),
    TRef.binary (TRef.of (T := ⟨S16x20000x81, .f32⟩) main_arg0) (TRef.of (T := ⟨S_, .f32⟩) main_call5_cst) (TRef.of (T := ⟨S16x20000, .f32⟩) main_call5_v0) (fun x v => Host.reduce FloatOps.maximumf x v reducesTo_S16x20000x81_S16x20000_d2 h_S_),
    TRef.nullary (TRef.of (T := ⟨S_, .f32⟩) main_call5_cst_0) (constant S_ .f32 0xFF800000#32),
    TRef.unary (TRef.of (T := ⟨S_, .f32⟩) main_call5_cst_0) (TRef.of (T := ⟨S16x20000, .f32⟩) main_call5_v1) (broadcastInDim S16x20000 ![] bcast_S_S16x20000),
    TRef.binary (TRef.of (T := ⟨S16x20000, .f32⟩) main_call5_v1) (TRef.of (T := ⟨S16x20000, .f32⟩) main_call5_v0) (TRef.of (T := ⟨S16x20000, .f32⟩) main_call5_v2) maximumf,
    TRef.unary (TRef.of (T := ⟨S16x20000, .f32⟩) main_call5_v2) (TRef.of (T := ⟨S16x20000x1, .f32⟩) main_call5_v3) (broadcastInDim S16x20000x1 ![0, 1] bcast_S16x20000_S16x20000x1_0_1),
    TRef.unary (TRef.of (T := ⟨S16x20000x1, .f32⟩) main_call5_v3) (TRef.of (T := ⟨S16x20000x81, .f32⟩) main_call5_v4) (broadcastInDim S16x20000x81 ![0, 1, 2] bcast_S16x20000x1_S16x20000x81_0_1_2),
    TRef.binary (TRef.of (T := ⟨S16x20000x81, .f32⟩) main_arg0) (TRef.of (T := ⟨S16x20000x81, .f32⟩) main_call5_v4) (TRef.of (T := ⟨S16x20000x81, .f32⟩) main_call5_v5) subf,
    TRef.unary (TRef.of (T := ⟨S16x20000x81, .f32⟩) main_call5_v5) (TRef.of (T := ⟨S16x20000x81, .f32⟩) main_call5_v6) Host.exp,
    TRef.nullary (TRef.of (T := ⟨S_, .f32⟩) main_call5_cst_1) (constant S_ .f32 0x00000000#32),
    TRef.binary (TRef.of (T := ⟨S16x20000x81, .f32⟩) main_call5_v6) (TRef.of (T := ⟨S_, .f32⟩) main_call5_cst_1) (TRef.of (T := ⟨S16x20000, .f32⟩) main_call5_v7) (fun x v => Host.reduceAdd x v reducesTo_S16x20000x81_S16x20000_d2 h_S_),
    TRef.unary (TRef.of (T := ⟨S16x20000, .f32⟩) main_call5_v7) (TRef.of (T := ⟨S16x20000x1, .f32⟩) main_call5_v8) (broadcastInDim S16x20000x1 ![0, 1] bcast_S16x20000_S16x20000x1_0_1),
    TRef.unary (TRef.of (T := ⟨S16x20000x1, .f32⟩) main_call5_v8) (TRef.of (T := ⟨S16x20000x1, .f32⟩) main_call5_v9) Host.log,
    TRef.unary (TRef.of (T := ⟨S16x20000x1, .f32⟩) main_call5_v9) (TRef.of (T := ⟨S16x20000x81, .f32⟩) main_call5_v10) (broadcastInDim S16x20000x81 ![0, 1, 2] bcast_S16x20000x1_S16x20000x81_0_1_2),
    TRef.binary (TRef.of (T := ⟨S16x20000x81, .f32⟩) main_call5_v5) (TRef.of (T := ⟨S16x20000x81, .f32⟩) main_call5_v10) (TRef.of (T := ⟨S16x20000x81, .f32⟩) main_v65) subf,
    nullary main_c_7 (constantI S_ 32 0#32),
    nullary main_c_8 (constantI S_ 32 80#32),
    TRef.unary (TRef.of (T := ⟨S_, .i32⟩) main_c_7) (TRef.of (T := ⟨S_, .i32⟩) main_call6_v0) id,
    TRef.unary (TRef.of (T := ⟨S_, .i32⟩) main_call6_v0) (TRef.of (T := ⟨S16x20000, .i32⟩) main_call6_v1) (broadcastInDim S16x20000 ![] bcast_S_S16x20000) ]

/-- A run of consecutive operations of `main_part1`. -/
abbrev ops_part1_2 : List (HloOp τ sig (Elt F)) :=
  [ TRef.binary (TRef.of (T := ⟨S16x20000, .i32⟩) main_call6_v1) (TRef.of (T := ⟨S16x20000, .i32⟩) main_v60) (TRef.of (T := ⟨S16x20000, .i32⟩) main_call6_v2) maxsi,
    TRef.unary (TRef.of (T := ⟨S_, .i32⟩) main_c_8) (TRef.of (T := ⟨S_, .i32⟩) main_call6_v3) id,
    TRef.unary (TRef.of (T := ⟨S_, .i32⟩) main_call6_v3) (TRef.of (T := ⟨S16x20000, .i32⟩) main_call6_v4) (broadcastInDim S16x20000 ![] bcast_S_S16x20000),
    TRef.binary (TRef.of (T := ⟨S16x20000, .i32⟩) main_call6_v4) (TRef.of (T := ⟨S16x20000, .i32⟩) main_call6_v2) (TRef.of (T := ⟨S16x20000, .i32⟩) main_v66) minsi,
    unary main_v66 main_v67 (broadcastInDim S16x20000x1 ![0, 1] bcast_S16x20000_S16x20000x1_0_1 : (⟨S16x20000, .i32⟩ : BufTy).Contents (Elt F) → (⟨S16x20000x1, .i32⟩ : BufTy).Contents (Elt F)),
    TRef.nullary (TRef.of (T := ⟨S_, .i32⟩) main_call7_c) (constantI S_ 32 0#32),
    TRef.unary (TRef.of (T := ⟨S_, .i32⟩) main_call7_c) (TRef.of (T := ⟨S16x20000x1, .i32⟩) main_call7_v0) (broadcastInDim S16x20000x1 ![] bcast_S_S16x20000x1),
    TRef.binary (TRef.of (T := ⟨S16x20000x1, .i32⟩) main_v67) (TRef.of (T := ⟨S16x20000x1, .i32⟩) main_call7_v0) (TRef.of (T := ⟨S16x20000x1, .i1⟩) main_call7_v1) (cmpi .slt),
    TRef.nullary (TRef.of (T := ⟨S_, .i32⟩) main_call7_c_0) (constantI S_ 32 81#32),
    TRef.unary (TRef.of (T := ⟨S_, .i32⟩) main_call7_c_0) (TRef.of (T := ⟨S16x20000x1, .i32⟩) main_call7_v2) (broadcastInDim S16x20000x1 ![] bcast_S_S16x20000x1),
    TRef.binary (TRef.of (T := ⟨S16x20000x1, .i32⟩) main_v67) (TRef.of (T := ⟨S16x20000x1, .i32⟩) main_call7_v2) (TRef.of (T := ⟨S16x20000x1, .i32⟩) main_call7_v3) addi,
    TRef.ternary (TRef.of (T := ⟨S16x20000x1, .i1⟩) main_call7_v1) (TRef.of (T := ⟨S16x20000x1, .i32⟩) main_call7_v3) (TRef.of (T := ⟨S16x20000x1, .i32⟩) main_v67) (TRef.of (T := ⟨S16x20000x1, .i32⟩) main_call7_v4) select,
    TRef.reshape (TRef.of (T := ⟨S16x20000x1, .i32⟩) main_call7_v4) (TRef.of (T := ⟨S16x20000x1x1, .i32⟩) main_call7_v5) (rfl : (.i32 : EltTy) = .i32) shapeCasts_S16x20000x1_S16x20000x1x1,
    TRef.nullary (TRef.of (T := ⟨S1, .i32⟩) main_call7_c_1) (constantI S1 32 80#32),
    TRef.nullary (TRef.of (T := ⟨S_, .i32⟩) main_call7_c_2) (constantI S_ 32 0#32),
    TRef.unary (TRef.of (T := ⟨S_, .i32⟩) main_call7_c_2) (TRef.of (T := ⟨S16x20000x1x1, .i32⟩) main_call7_v6) (broadcastInDim S16x20000x1x1 ![] bcast_S_S16x20000x1x1),
    TRef.binary (TRef.of (T := ⟨S16x20000x1x1, .i32⟩) main_call7_v5) (TRef.of (T := ⟨S16x20000x1x1, .i32⟩) main_call7_v6) (TRef.of (T := ⟨S16x20000x1x1, .i1⟩) main_call7_v7) (cmpi .sge),
    TRef.unary (TRef.of (T := ⟨S1, .i32⟩) main_call7_c_1) (TRef.of (T := ⟨S1x1x1x1, .i32⟩) main_call7_v8) (broadcastInDim S1x1x1x1 ![3] bcast_S1_S1x1x1x1_3),
    TRef.unary (TRef.of (T := ⟨S1x1x1x1, .i32⟩) main_call7_v8) (TRef.of (T := ⟨S16x20000x1x1, .i32⟩) main_call7_v9) (broadcastInDim S16x20000x1x1 ![0, 1, 2, 3] bcast_S1x1x1x1_S16x20000x1x1_0_1_2_3),
    TRef.binary (TRef.of (T := ⟨S16x20000x1x1, .i32⟩) main_call7_v5) (TRef.of (T := ⟨S16x20000x1x1, .i32⟩) main_call7_v9) (TRef.of (T := ⟨S16x20000x1x1, .i1⟩) main_call7_v10) (cmpi .sle),
    TRef.binary (TRef.of (T := ⟨S16x20000x1x1, .i1⟩) main_call7_v7) (TRef.of (T := ⟨S16x20000x1x1, .i1⟩) main_call7_v10) (TRef.of (T := ⟨S16x20000x1x1, .i1⟩) main_call7_v11) andi,
    TRef.nullary (TRef.of (T := ⟨S_, .i1⟩) main_call7_c_3) (constantI S_ 1 1#1),
    TRef.binary (TRef.of (T := ⟨S16x20000x1x1, .i1⟩) main_call7_v11) (TRef.of (T := ⟨S_, .i1⟩) main_call7_c_3) (TRef.of (T := ⟨S16x20000x1, .i1⟩) main_call7_v12) (fun x v => Host.reduce IntOp.andi x v reducesTo_S16x20000x1x1_S16x20000x1_d3 h_S_),
    TRef.binary (TRef.of (T := ⟨S16x20000x81, .f32⟩) main_v65) (TRef.of (T := ⟨S16x20000x1x1, .i32⟩) main_call7_v5) (TRef.of (T := ⟨S16x20000x1, .f32⟩) main_call7_v13) (fun x i => Host.gather gather_S16x20000x81_S16x20000x1x1_S16x20000x1_n_2_01_01_2_3_111 x i),
    TRef.nullary (TRef.of (T := ⟨S_, .f32⟩) main_call7_cst) (constant S_ .f32 0x7FC00000#32),
    TRef.unary (TRef.of (T := ⟨S_, .f32⟩) main_call7_cst) (TRef.of (T := ⟨S16x20000x1, .f32⟩) main_call7_v14) (broadcastInDim S16x20000x1 ![] bcast_S_S16x20000x1),
    TRef.ternary (TRef.of (T := ⟨S16x20000x1, .i1⟩) main_call7_v12) (TRef.of (T := ⟨S16x20000x1, .f32⟩) main_call7_v13) (TRef.of (T := ⟨S16x20000x1, .f32⟩) main_call7_v14) (TRef.of (T := ⟨S16x20000x1, .f32⟩) main_v68) select,
    reshape main_v68 main_v69 (rfl : (.f32 : EltTy) = .f32) shapeCasts_S16x20000x1_S16x20000,
    unary main_v69 main_v70 (Host.negf : (⟨S16x20000, .f32⟩ : BufTy).Contents (Elt F) → (⟨S16x20000, .f32⟩ : BufTy).Contents (Elt F)),
    nullary main_cst_9 (constant S_ .f32 0x00000000#32) ]

/-- A run of consecutive operations of `main_part1`. -/
abbrev ops_part1_3 : List (HloOp τ sig (Elt F)) :=
  [ TRef.unary (TRef.of (T := ⟨S_, .f32⟩) main_cst_9) (TRef.of (T := ⟨S_, .f32⟩) main_call8_v0) id,
    TRef.unary (TRef.of (T := ⟨S_, .f32⟩) main_call8_v0) (TRef.of (T := ⟨S20000, .f32⟩) main_call8_v1) (broadcastInDim S20000 ![] bcast_S_S20000),
    TRef.unary (TRef.of (T := ⟨S20000, .f32⟩) main_call8_v1) (TRef.of (T := ⟨S16x20000, .f32⟩) main_call8_v2) (broadcastInDim S16x20000 ![1] bcast_S20000_S16x20000_1),
    TRef.ternary (TRef.of (T := ⟨S16x20000, .i1⟩) main_v62) (TRef.of (T := ⟨S16x20000, .f32⟩) main_v70) (TRef.of (T := ⟨S16x20000, .f32⟩) main_call8_v2) (TRef.of (T := ⟨S16x20000, .f32⟩) main_v71) select,
    nullary main_cst_10 (constant S_ .f32 0x00000000#32),
    binary main_v71 main_cst_10 main_v72 ((fun x v => Host.reduceAdd x v reducesTo_S16x20000_S16_d1 h_S_) : (⟨S16x20000, .f32⟩ : BufTy).Contents (Elt F) → (⟨S_, .f32⟩ : BufTy).Contents (Elt F) → (⟨S16, .f32⟩ : BufTy).Contents (Elt F)),
    nullary main_c_11 (constantI S_ 32 1#32),
    unary main_c_11 main_v73 (broadcastInDim S16 ![] bcast_S_S16 : (⟨S_, .i32⟩ : BufTy).Contents (Elt F) → (⟨S16, .i32⟩ : BufTy).Contents (Elt F)),
    binary main_v64 main_v73 main_v74 (maxsi : (⟨S16, .i32⟩ : BufTy).Contents (Elt F) → (⟨S16, .i32⟩ : BufTy).Contents (Elt F) → (⟨S16, .i32⟩ : BufTy).Contents (Elt F)),
    unary main_v74 main_v75 (sitofp .f32 : (⟨S16, .i32⟩ : BufTy).Contents (Elt F) → (⟨S16, .f32⟩ : BufTy).Contents (Elt F)),
    binary main_v72 main_v75 main_v76 (Host.divf : (⟨S16, .f32⟩ : BufTy).Contents (Elt F) → (⟨S16, .f32⟩ : BufTy).Contents (Elt F) → (⟨S16, .f32⟩ : BufTy).Contents (Elt F)),
    unary main_v55 main_v77 ((extui 32 · natLt_1_32) : (⟨S16x20000, .i1⟩ : BufTy).Contents (Elt F) → (⟨S16x20000, .i32⟩ : BufTy).Contents (Elt F)),
    nullary main_c_12 (constantI S_ 32 0#32),
    binary main_v77 main_c_12 main_v78 ((fun x v => Host.reduce IntOp.addi x v reducesTo_S16x20000_S16_d1 h_S_) : (⟨S16x20000, .i32⟩ : BufTy).Contents (Elt F) → (⟨S_, .i32⟩ : BufTy).Contents (Elt F) → (⟨S16, .i32⟩ : BufTy).Contents (Elt F)),
    TRef.nullary (TRef.of (T := ⟨S_, .i32⟩) main_call9_c) (constantI S_ 32 0#32),
    TRef.unary (TRef.of (T := ⟨S_, .i32⟩) main_call9_c) (TRef.of (T := ⟨S16x20000, .i32⟩) main_call9_v0) (broadcastInDim S16x20000 ![] bcast_S_S16x20000),
    TRef.binary (TRef.of (T := ⟨S16x20000, .i32⟩) main_v53) (TRef.of (T := ⟨S16x20000, .i32⟩) main_call9_v0) (TRef.of (T := ⟨S16x20000, .i1⟩) main_call9_v1) (cmpi .slt),
    TRef.nullary (TRef.of (T := ⟨S_, .i32⟩) main_call9_c_0) (constantI S_ 32 100#32),
    TRef.unary (TRef.of (T := ⟨S_, .i32⟩) main_call9_c_0) (TRef.of (T := ⟨S16x20000, .i32⟩) main_call9_v2) (broadcastInDim S16x20000 ![] bcast_S_S16x20000),
    TRef.binary (TRef.of (T := ⟨S16x20000, .i32⟩) main_v53) (TRef.of (T := ⟨S16x20000, .i32⟩) main_call9_v2) (TRef.of (T := ⟨S16x20000, .i32⟩) main_call9_v3) addi,
    TRef.ternary (TRef.of (T := ⟨S16x20000, .i1⟩) main_call9_v1) (TRef.of (T := ⟨S16x20000, .i32⟩) main_call9_v3) (TRef.of (T := ⟨S16x20000, .i32⟩) main_v53) (TRef.of (T := ⟨S16x20000, .i32⟩) main_call9_v4) select,
    TRef.unary (TRef.of (T := ⟨S16x20000, .i32⟩) main_call9_v4) (TRef.of (T := ⟨S16x20000x1, .i32⟩) main_call9_v5) (broadcastInDim S16x20000x1 ![0, 1] bcast_S16x20000_S16x20000x1_0_1),
    TRef.nullary (TRef.of (T := ⟨S1, .i32⟩) main_call9_c_1) (constantI S1 32 99#32),
    TRef.nullary (TRef.of (T := ⟨S_, .i32⟩) main_call9_c_2) (constantI S_ 32 0#32),
    TRef.unary (TRef.of (T := ⟨S_, .i32⟩) main_call9_c_2) (TRef.of (T := ⟨S16x20000x1, .i32⟩) main_call9_v6) (broadcastInDim S16x20000x1 ![] bcast_S_S16x20000x1),
    TRef.binary (TRef.of (T := ⟨S16x20000x1, .i32⟩) main_call9_v5) (TRef.of (T := ⟨S16x20000x1, .i32⟩) main_call9_v6) (TRef.of (T := ⟨S16x20000x1, .i1⟩) main_call9_v7) (cmpi .sge),
    TRef.unary (TRef.of (T := ⟨S1, .i32⟩) main_call9_c_1) (TRef.of (T := ⟨S1x1x1, .i32⟩) main_call9_v8) (broadcastInDim S1x1x1 ![2] bcast_S1_S1x1x1_2),
    TRef.unary (TRef.of (T := ⟨S1x1x1, .i32⟩) main_call9_v8) (TRef.of (T := ⟨S16x20000x1, .i32⟩) main_call9_v9) (broadcastInDim S16x20000x1 ![0, 1, 2] bcast_S1x1x1_S16x20000x1_0_1_2),
    TRef.binary (TRef.of (T := ⟨S16x20000x1, .i32⟩) main_call9_v5) (TRef.of (T := ⟨S16x20000x1, .i32⟩) main_call9_v9) (TRef.of (T := ⟨S16x20000x1, .i1⟩) main_call9_v10) (cmpi .sle),
    TRef.binary (TRef.of (T := ⟨S16x20000x1, .i1⟩) main_call9_v7) (TRef.of (T := ⟨S16x20000x1, .i1⟩) main_call9_v10) (TRef.of (T := ⟨S16x20000x1, .i1⟩) main_call9_v11) andi ]

/-- A run of consecutive operations of `main_part1`. -/
abbrev ops_part1_4 : List (HloOp τ sig (Elt F)) :=
  [ TRef.nullary (TRef.of (T := ⟨S_, .i1⟩) main_call9_c_3) (constantI S_ 1 1#1),
    TRef.binary (TRef.of (T := ⟨S16x20000x1, .i1⟩) main_call9_v11) (TRef.of (T := ⟨S_, .i1⟩) main_call9_c_3) (TRef.of (T := ⟨S16x20000, .i1⟩) main_call9_v12) (fun x v => Host.reduce IntOp.andi x v reducesTo_S16x20000x1_S16x20000_d2 h_S_),
    TRef.binary (TRef.of (T := ⟨S16x100x4, .f32⟩) main_arg3) (TRef.of (T := ⟨S16x20000x1, .i32⟩) main_call9_v5) (TRef.of (T := ⟨S16x20000x4, .f32⟩) main_call9_v13) (fun x i => Host.gather gather_S16x100x4_S16x20000x1_S16x20000x4_2_1_0_0_1_2_114 x i),
    TRef.unary (TRef.of (T := ⟨S16x20000, .i1⟩) main_call9_v12) (TRef.of (T := ⟨S16x20000x4, .i1⟩) main_call9_v14) (broadcastInDim S16x20000x4 ![0, 1] bcast_S16x20000_S16x20000x4_0_1),
    TRef.nullary (TRef.of (T := ⟨S_, .f32⟩) main_call9_cst) (constant S_ .f32 0x7FC00000#32),
    TRef.unary (TRef.of (T := ⟨S_, .f32⟩) main_call9_cst) (TRef.of (T := ⟨S16x20000x4, .f32⟩) main_call9_v15) (broadcastInDim S16x20000x4 ![] bcast_S_S16x20000x4),
    TRef.ternary (TRef.of (T := ⟨S16x20000x4, .i1⟩) main_call9_v14) (TRef.of (T := ⟨S16x20000x4, .f32⟩) main_call9_v13) (TRef.of (T := ⟨S16x20000x4, .f32⟩) main_call9_v15) (TRef.of (T := ⟨S16x20000x4, .f32⟩) main_v79) select,
    binary main_arg1 main_v79 main_v80 (subf : (⟨S16x20000x4, .f32⟩ : BufTy).Contents (Elt F) → (⟨S16x20000x4, .f32⟩ : BufTy).Contents (Elt F) → (⟨S16x20000x4, .f32⟩ : BufTy).Contents (Elt F)),
    unary main_v80 main_v81 (Host.absf : (⟨S16x20000x4, .f32⟩ : BufTy).Contents (Elt F) → (⟨S16x20000x4, .f32⟩ : BufTy).Contents (Elt F)),
    nullary main_cst_13 (constant S_ .f32 0x3F800000#32),
    unary main_cst_13 main_v82 (broadcastInDim S16x20000x4 ![] bcast_S_S16x20000x4 : (⟨S_, .f32⟩ : BufTy).Contents (Elt F) → (⟨S16x20000x4, .f32⟩ : BufTy).Contents (Elt F)),
    binary main_v81 main_v82 main_v83 (cmpf .olt : (⟨S16x20000x4, .f32⟩ : BufTy).Contents (Elt F) → (⟨S16x20000x4, .f32⟩ : BufTy).Contents (Elt F) → (⟨S16x20000x4, .i1⟩ : BufTy).Contents (Elt F)),
    nullary main_cst_14 (constant S_ .f32 0x3F000000#32),
    unary main_cst_14 main_v84 (broadcastInDim S16x20000x4 ![] bcast_S_S16x20000x4 : (⟨S_, .f32⟩ : BufTy).Contents (Elt F) → (⟨S16x20000x4, .f32⟩ : BufTy).Contents (Elt F)),
    binary main_v84 main_v80 main_v85 (mulf : (⟨S16x20000x4, .f32⟩ : BufTy).Contents (Elt F) → (⟨S16x20000x4, .f32⟩ : BufTy).Contents (Elt F) → (⟨S16x20000x4, .f32⟩ : BufTy).Contents (Elt F)),
    binary main_v85 main_v80 main_v86 (mulf : (⟨S16x20000x4, .f32⟩ : BufTy).Contents (Elt F) → (⟨S16x20000x4, .f32⟩ : BufTy).Contents (Elt F) → (⟨S16x20000x4, .f32⟩ : BufTy).Contents (Elt F)),
    nullary main_cst_15 (constant S_ .f32 0x3F000000#32),
    unary main_cst_15 main_v87 (broadcastInDim S16x20000x4 ![] bcast_S_S16x20000x4 : (⟨S_, .f32⟩ : BufTy).Contents (Elt F) → (⟨S16x20000x4, .f32⟩ : BufTy).Contents (Elt F)),
    binary main_v81 main_v87 main_v88 (subf : (⟨S16x20000x4, .f32⟩ : BufTy).Contents (Elt F) → (⟨S16x20000x4, .f32⟩ : BufTy).Contents (Elt F) → (⟨S16x20000x4, .f32⟩ : BufTy).Contents (Elt F)),
    TRef.ternary (TRef.of (T := ⟨S16x20000x4, .i1⟩) main_v83) (TRef.of (T := ⟨S16x20000x4, .f32⟩) main_v86) (TRef.of (T := ⟨S16x20000x4, .f32⟩) main_v88) (TRef.of (T := ⟨S16x20000x4, .f32⟩) main_v89) select,
    unary main_v55 main_v90 (broadcastInDim S16x20000x1 ![0, 1] bcast_S16x20000_S16x20000x1_0_1 : (⟨S16x20000, .i1⟩ : BufTy).Contents (Elt F) → (⟨S16x20000x1, .i1⟩ : BufTy).Contents (Elt F)),
    nullary main_cst_16 (constant S_ .f32 0x00000000#32),
    TRef.unary (TRef.of (T := ⟨S_, .f32⟩) main_cst_16) (TRef.of (T := ⟨S_, .f32⟩) main_call11_v0) id,
    TRef.unary (TRef.of (T := ⟨S16x20000x1, .i1⟩) main_v90) (TRef.of (T := ⟨S16x20000x4, .i1⟩) main_call11_v1) (broadcastInDim S16x20000x4 ![0, 1, 2] bcast_S16x20000x1_S16x20000x4_0_1_2),
    TRef.unary (TRef.of (T := ⟨S_, .f32⟩) main_call11_v0) (TRef.of (T := ⟨S20000x4, .f32⟩) main_call11_v2) (broadcastInDim S20000x4 ![] bcast_S_S20000x4),
    TRef.unary (TRef.of (T := ⟨S20000x4, .f32⟩) main_call11_v2) (TRef.of (T := ⟨S16x20000x4, .f32⟩) main_call11_v3) (broadcastInDim S16x20000x4 ![1, 2] bcast_S20000x4_S16x20000x4_1_2),
    TRef.ternary (TRef.of (T := ⟨S16x20000x4, .i1⟩) main_call11_v1) (TRef.of (T := ⟨S16x20000x4, .f32⟩) main_v89) (TRef.of (T := ⟨S16x20000x4, .f32⟩) main_call11_v3) (TRef.of (T := ⟨S16x20000x4, .f32⟩) main_v91) select,
    nullary main_cst_17 (constant S_ .f32 0x00000000#32),
    binary main_v91 main_cst_17 main_v92 ((fun x v => Host.reduceAdd x v reducesTo_S16x20000x4_S16_d1_2 h_S_) : (⟨S16x20000x4, .f32⟩ : BufTy).Contents (Elt F) → (⟨S_, .f32⟩ : BufTy).Contents (Elt F) → (⟨S16, .f32⟩ : BufTy).Contents (Elt F)),
    nullary main_c_18 (constantI S_ 32 4#32) ]

/-- A run of consecutive operations of `main_part1`. -/
abbrev ops_part1_5 : List (HloOp τ sig (Elt F)) :=
  [ unary main_c_18 main_v93 (broadcastInDim S16 ![] bcast_S_S16 : (⟨S_, .i32⟩ : BufTy).Contents (Elt F) → (⟨S16, .i32⟩ : BufTy).Contents (Elt F)),
    binary main_v78 main_v93 main_v94 (muli : (⟨S16, .i32⟩ : BufTy).Contents (Elt F) → (⟨S16, .i32⟩ : BufTy).Contents (Elt F) → (⟨S16, .i32⟩ : BufTy).Contents (Elt F)),
    nullary main_c_19 (constantI S_ 32 1#32),
    unary main_c_19 main_v95 (broadcastInDim S16 ![] bcast_S_S16 : (⟨S_, .i32⟩ : BufTy).Contents (Elt F) → (⟨S16, .i32⟩ : BufTy).Contents (Elt F)),
    binary main_v94 main_v95 main_v96 (maxsi : (⟨S16, .i32⟩ : BufTy).Contents (Elt F) → (⟨S16, .i32⟩ : BufTy).Contents (Elt F) → (⟨S16, .i32⟩ : BufTy).Contents (Elt F)),
    unary main_v96 main_v97 (sitofp .f32 : (⟨S16, .i32⟩ : BufTy).Contents (Elt F) → (⟨S16, .f32⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2 ++ (ops_part1_3 ++ (ops_part1_4 ++ (ops_part1_5)))))

/-- A run of consecutive operations of `main_part2`. -/
abbrev ops_part2 : List (HloOp τ sig (Elt F)) :=
  [ binary main_v92 main_v97 main_v98 (Host.divf : (⟨S16, .f32⟩ : BufTy).Contents (Elt F) → (⟨S16, .f32⟩ : BufTy).Contents (Elt F) → (⟨S16, .f32⟩ : BufTy).Contents (Elt F)),
    nullary main_c_20 (constantI S_ 32 0#32),
    unary main_c_20 main_v99 (broadcastInDim S16 ![] bcast_S_S16 : (⟨S_, .i32⟩ : BufTy).Contents (Elt F) → (⟨S16, .i32⟩ : BufTy).Contents (Elt F)),
    binary main_v64 main_v99 main_v100 (cmpi .sgt : (⟨S16, .i32⟩ : BufTy).Contents (Elt F) → (⟨S16, .i32⟩ : BufTy).Contents (Elt F) → (⟨S16, .i1⟩ : BufTy).Contents (Elt F)),
    nullary main_cst_21 (constant S_ .f32 0x00000000#32),
    TRef.unary (TRef.of (T := ⟨S_, .f32⟩) main_cst_21) (TRef.of (T := ⟨S_, .f32⟩) main_call12_v0) id,
    TRef.unary (TRef.of (T := ⟨S_, .f32⟩) main_call12_v0) (TRef.of (T := ⟨S16, .f32⟩) main_call12_v1) (broadcastInDim S16 ![] bcast_S_S16),
    TRef.ternary (TRef.of (T := ⟨S16, .i1⟩) main_v100) (TRef.of (T := ⟨S16, .f32⟩) main_v76) (TRef.of (T := ⟨S16, .f32⟩) main_call12_v1) (TRef.of (T := ⟨S16, .f32⟩) main_v101) select,
    nullary main_c_22 (constantI S_ 32 0#32),
    unary main_c_22 main_v102 (broadcastInDim S16 ![] bcast_S_S16 : (⟨S_, .i32⟩ : BufTy).Contents (Elt F) → (⟨S16, .i32⟩ : BufTy).Contents (Elt F)),
    binary main_v78 main_v102 main_v103 (cmpi .sgt : (⟨S16, .i32⟩ : BufTy).Contents (Elt F) → (⟨S16, .i32⟩ : BufTy).Contents (Elt F) → (⟨S16, .i1⟩ : BufTy).Contents (Elt F)),
    nullary main_cst_23 (constant S_ .f32 0x00000000#32),
    TRef.unary (TRef.of (T := ⟨S_, .f32⟩) main_cst_23) (TRef.of (T := ⟨S_, .f32⟩) main_call13_v0) id,
    TRef.unary (TRef.of (T := ⟨S_, .f32⟩) main_call13_v0) (TRef.of (T := ⟨S16, .f32⟩) main_call13_v1) (broadcastInDim S16 ![] bcast_S_S16),
    TRef.ternary (TRef.of (T := ⟨S16, .i1⟩) main_v103) (TRef.of (T := ⟨S16, .f32⟩) main_v98) (TRef.of (T := ⟨S16, .f32⟩) main_call13_v1) (TRef.of (T := ⟨S16, .f32⟩) main_v104) select,
    nullary main_cst_24 (constant S_ .f32 0x00000000#32),
    binary main_v101 main_cst_24 main_v105 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    nullary main_cst_25 (constant S_ .f32 0x00000000#32),
    binary main_v104 main_cst_25 main_v106 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    binary main_v105 main_v106 main_v107 (addf : (⟨S_, .f32⟩ : BufTy).Contents (Elt F) → (⟨S_, .f32⟩ : BufTy).Contents (Elt F) → (⟨S_, .f32⟩ : BufTy).Contents (Elt F)) ]

/-- All the reference's operations, in order (a called function's operations stand in its call's place). -/
abbrev ops : List (HloOp τ sig (Elt F)) :=
  ops_part0 ++ (ops_part1 ++ (ops_part2))

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., binary_bufs_sub .., nullary_bufs_sub .., unary_bufs_sub .., unary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨reshape_bufs_sub .., unary_bufs_sub .., reshape_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., unary_bufs_sub .., unary_bufs_sub .., binary_bufs_sub .., binary_bufs_sub .., nullary_bufs_sub .., unary_bufs_sub .., binary_bufs_sub .., binary_bufs_sub .., nullary_bufs_sub .., binary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨nullary_bufs_sub .., nullary_bufs_sub .., nullary_bufs_sub .., quaternary_bufs_sub .., quaternary_bufs_sub .., nullary_bufs_sub .., unary_bufs_sub .., binary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl⟩
set_option maxRecDepth 8192 in
theorem ops_part1_0_sub : (ops_part1_0 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., unary_bufs_sub .., unary_bufs_sub .., unary_bufs_sub .., ternary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨nullary_bufs_sub .., unary_bufs_sub .., unary_bufs_sub .., unary_bufs_sub .., ternary_bufs_sub .., nullary_bufs_sub .., unary_bufs_sub .., binary_bufs_sub .., unary_bufs_sub .., nullary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., nullary_bufs_sub .., unary_bufs_sub .., unary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., nullary_bufs_sub ..⟩
set_option maxRecDepth 8192 in
theorem ops_part1_2_fresh : (ops_part1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_3_sub : (ops_part1_3 : List (HloOp τ sig (Elt F))).Forall fun op => op.bufs ⊆ tcRefs τ sig :=
  ⟨unary_bufs_sub .., unary_bufs_sub .., unary_bufs_sub .., ternary_bufs_sub .., nullary_bufs_sub .., binary_bufs_sub .., nullary_bufs_sub .., unary_bufs_sub .., binary_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub ..⟩
set_option maxRecDepth 8192 in
theorem ops_part1_3_fresh : (ops_part1_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_4_sub : (ops_part1_4 : List (HloOp τ sig (Elt F))).Forall fun op => op.bufs ⊆ tcRefs τ sig :=
  ⟨nullary_bufs_sub .., binary_bufs_sub .., binary_bufs_sub .., unary_bufs_sub .., nullary_bufs_sub .., unary_bufs_sub .., ternary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., nullary_bufs_sub .., unary_bufs_sub .., unary_bufs_sub .., unary_bufs_sub .., unary_bufs_sub .., ternary_bufs_sub .., nullary_bufs_sub .., binary_bufs_sub .., nullary_bufs_sub ..⟩
set_option maxRecDepth 8192 in
theorem ops_part1_4_fresh : (ops_part1_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_5_sub : (ops_part1_5 : List (HloOp τ sig (Elt F))).Forall fun op => op.bufs ⊆ tcRefs τ sig :=
  ⟨unary_bufs_sub .., binary_bufs_sub .., nullary_bufs_sub .., unary_bufs_sub .., binary_bufs_sub .., unary_bufs_sub ..⟩
set_option maxRecDepth 8192 in
theorem ops_part1_5_fresh : (ops_part1_5 : List (HloOp τ sig (Elt F))).Forall fun op => op.fresh = ∅ :=
  ⟨rfl, rfl, rfl, rfl, rfl, rfl⟩
set_option maxRecDepth 8192 in
theorem ops_part2_sub : (ops_part2 : List (HloOp τ sig (Elt F))).Forall fun op => op.bufs ⊆ tcRefs τ sig :=
  ⟨binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., binary_bufs_sub .., nullary_bufs_sub .., binary_bufs_sub .., binary_bufs_sub ..⟩
set_option maxRecDepth 8192 in
theorem ops_part2_fresh : (ops_part2 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, ops_part1, List.mem_append, or_assoc] at h
    rcases h with h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_0_sub op h, List.forall_iff_forall_mem.mp ops_part1_1_sub op h, List.forall_iff_forall_mem.mp ops_part1_2_sub op h, List.forall_iff_forall_mem.mp ops_part1_3_sub op h, List.forall_iff_forall_mem.mp ops_part1_4_sub op h, List.forall_iff_forall_mem.mp ops_part1_5_sub op h, List.forall_iff_forall_mem.mp ops_part2_sub op h]
theorem ops_fresh : ∀ op ∈ (ops : List (HloOp τ sig (Elt F))), op.fresh = ∅ := fun op h => by
    simp only [ops, ops_part0, ops_part1, List.mem_append, or_assoc] at h
    rcases h with h | h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_0_fresh op h, List.forall_iff_forall_mem.mp ops_part1_1_fresh op h, List.forall_iff_forall_mem.mp ops_part1_2_fresh op h, List.forall_iff_forall_mem.mp ops_part1_3_fresh op h, List.forall_iff_forall_mem.mp ops_part1_4_fresh op h, List.forall_iff_forall_mem.mp ops_part1_5_fresh op h, List.forall_iff_forall_mem.mp ops_part2_fresh op h]

end Cert.ReferenceIdeal.Value

end
-- ==== Proof.Reference.Terms.lean ====
/- What the reference's buffers hold at the end of its run, as terms of the arguments: one name per value used more than once. -/
module

public import proofs.«01_k».proof.Proof.Gen.ReferenceIdeal
public import proofs.«01_k».proof.Proof.Reference.Ops
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- `main_v15`'s composed term of the arguments (named: it is used 2 times). -/
def res_main_v15 (V0 : Valuation τ sig (Elt F)) : (Proc.devRef .tc main_v15 : DevRef τ sig).ty.Contents (Elt F) :=
  maximumf (broadcastInDim S16x20000x100x2 ![] bcast_S_S16x20000x100x2 (id (constant S_ .f32 0x00000000#32))) (subf (minimumf (broadcastInDim S16x20000x100x2 ![0, 1, 2, 3] bcast_S16x20000x1x2_S16x20000x100x2_0_1_2_3 (broadcastInDim S16x20000x1x2 ![0, 1, 3] bcast_S16x20000x2_S16x20000x1x2_0_1_3 (extractStridedSlice S16x20000x2 ![0, 0, 2] (V0 (Proc.devRef .tc main_arg1)) slices_S16x20000x4_S16x20000x2_0_0_2))) (broadcastInDim S16x20000x100x2 ![0, 1, 2, 3] bcast_S16x1x100x2_S16x20000x100x2_0_1_2_3 (broadcastInDim S16x1x100x2 ![0, 2, 3] bcast_S16x100x2_S16x1x100x2_0_2_3 (extractStridedSlice S16x100x2 ![0, 0, 2] (V0 (Proc.devRef .tc main_arg3)) slices_S16x100x4_S16x100x2_0_0_2)))) (maximumf (broadcastInDim S16x20000x100x2 ![0, 1, 2, 3] bcast_S16x20000x1x2_S16x20000x100x2_0_1_2_3 (broadcastInDim S16x20000x1x2 ![0, 1, 3] bcast_S16x20000x2_S16x20000x1x2_0_1_3 (extractStridedSlice S16x20000x2 ![0, 0, 0] (V0 (Proc.devRef .tc main_arg1)) slices_S16x20000x4_S16x20000x2_0_0_0))) (broadcastInDim S16x20000x100x2 ![0, 1, 2, 3] bcast_S16x1x100x2_S16x20000x100x2_0_1_2_3 (broadcastInDim S16x1x100x2 ![0, 2, 3] bcast_S16x100x2_S16x1x100x2_0_2_3 (extractStridedSlice S16x100x2 ![0, 0, 0] (V0 (Proc.devRef .tc main_arg3)) slices_S16x100x4_S16x100x2_0_0_0)))))

set_option maxRecDepth 8192 in
/-- `main_v20`'s composed term of the arguments (named: it is used 2 times). -/
def res_main_v20 (V0 : Valuation τ sig (Elt F)) : (Proc.devRef .tc main_v20 : DevRef τ sig).ty.Contents (Elt F) :=
  mulf (shapeCast _ (extractStridedSlice S16x20000x100x1 ![0, 0, 0, 0] (res_main_v15 V0) slices_S16x20000x100x2_S16x20000x100x1_0_0_0_0) shapeCasts_S16x20000x100x1_S16x20000x100) (shapeCast _ (extractStridedSlice S16x20000x100x1 ![0, 0, 0, 1] (res_main_v15 V0) slices_S16x20000x100x2_S16x20000x100x1_0_0_0_1) shapeCasts_S16x20000x100x1_S16x20000x100)

set_option maxRecDepth 8192 in
/-- `main_v51`'s composed term of the arguments (named: it is used 2 times). -/
def res_main_v51 (V0 : Valuation τ sig (Elt F)) : (Proc.devRef .tc main_v51 : DevRef τ sig).ty.Contents (Elt F) :=
  Host.divf (res_main_v20 V0) (maximumf (subf (addf (broadcastInDim S16x20000x100 ![0, 1, 2] bcast_S16x20000x1_S16x20000x100_0_1_2 (broadcastInDim S16x20000x1 ![0, 1] bcast_S16x20000_S16x20000x1_0_1 (mulf (subf (shapeCast _ (extractStridedSlice S16x20000x1 ![0, 0, 2] (V0 (Proc.devRef .tc main_arg1)) slices_S16x20000x4_S16x20000x1_0_0_2) shapeCasts_S16x20000x1_S16x20000) (shapeCast _ (extractStridedSlice S16x20000x1 ![0, 0, 0] (V0 (Proc.devRef .tc main_arg1)) slices_S16x20000x4_S16x20000x1_0_0_0) shapeCasts_S16x20000x1_S16x20000)) (subf (shapeCast _ (extractStridedSlice S16x20000x1 ![0, 0, 3] (V0 (Proc.devRef .tc main_arg1)) slices_S16x20000x4_S16x20000x1_0_0_3) shapeCasts_S16x20000x1_S16x20000) (shapeCast _ (extractStridedSlice S16x20000x1 ![0, 0, 1] (V0 (Proc.devRef .tc main_arg1)) slices_S16x20000x4_S16x20000x1_0_0_1) shapeCasts_S16x20000x1_S16x20000))))) (broadcastInDim S16x20000x100 ![0, 1, 2] bcast_S16x1x100_S16x20000x100_0_1_2 (broadcastInDim S16x1x100 ![0, 2] bcast_S16x100_S16x1x100_0_2 (mulf (subf (shapeCast _ (extractStridedSlice S16x100x1 ![0, 0, 2] (V0 (Proc.devRef .tc main_arg3)) slices_S16x100x4_S16x100x1_0_0_2) shapeCasts_S16x100x1_S16x100) (shapeCast _ (extractStridedSlice S16x100x1 ![0, 0, 0] (V0 (Proc.devRef .tc main_arg3)) slices_S16x100x4_S16x100x1_0_0_0) shapeCasts_S16x100x1_S16x100)) (subf (shapeCast _ (extractStridedSlice S16x100x1 ![0, 0, 3] (V0 (Proc.devRef .tc main_arg3)) slices_S16x100x4_S16x100x1_0_0_3) shapeCasts_S16x100x1_S16x100) (shapeCast _ (extractStridedSlice S16x100x1 ![0, 0, 1] (V0 (Proc.devRef .tc main_arg3)) slices_S16x100x4_S16x100x1_0_0_1) shapeCasts_S16x100x1_S16x100)))))) (res_main_v20 V0)) (broadcastInDim S16x20000x100 ![] bcast_S_S16x20000x100 (constant S_ .f32 0x358637BD#32)))

set_option maxRecDepth 8192 in
/-- `main_v52`'s composed term of the arguments (named: it is used 2 times). -/
def res_main_v52 (V0 : Valuation τ sig (Elt F)) : (Proc.devRef .tc main_v52 : DevRef τ sig).ty.Contents (Elt F) :=
  Host.reduce FloatOps.maximumf (res_main_v51 V0) (constant S_ .f32 0xFF800000#32) reducesTo_S16x20000x100_S16x20000_d2 h_S_

set_option maxRecDepth 8192 in
/-- `main_v53`'s composed term of the arguments (named: it is used 6 times). -/
def res_main_v53 (V0 : Valuation τ sig (Elt F)) : (Proc.devRef .tc main_v53 : DevRef τ sig).ty.Contents (Elt F) :=
  fun j => (Host.argReduce reducer_argmax_f32_i32 (res_main_v51 V0) (iotaInDim S16x20000x100 32 2) (constant S_ .f32 0xFF800000#32) (constantI S_ 32 0#32) reducesTo_S16x20000x100_S16x20000_d2 h_S_ j).2

set_option maxRecDepth 8192 in
/-- `main_v55`'s composed term of the arguments (named: it is used 3 times). -/
def res_main_v55 (V0 : Valuation τ sig (Elt F)) : (Proc.devRef .tc main_v55 : DevRef τ sig).ty.Contents (Elt F) :=
  cmpf .oge (res_main_v52 V0) (broadcastInDim S16x20000 ![] bcast_S_S16x20000 (constant S_ .f32 0x3F000000#32))

set_option maxRecDepth 8192 in
/-- `main_call2_v5`'s composed term of the arguments (named: it is used 3 times). -/
def res_main_call2_v5 (V0 : Valuation τ sig (Elt F)) : (Proc.devRef .tc main_call2_v5 : DevRef τ sig).ty.Contents (Elt F) :=
  broadcastInDim S16x20000x1 ![0, 1] bcast_S16x20000_S16x20000x1_0_1 (select (cmpi .slt (res_main_v53 V0) (broadcastInDim S16x20000 ![] bcast_S_S16x20000 (constantI S_ 32 0#32))) (addi (res_main_v53 V0) (broadcastInDim S16x20000 ![] bcast_S_S16x20000 (constantI S_ 32 100#32))) (res_main_v53 V0))

set_option maxRecDepth 8192 in
/-- `main_v60`'s composed term of the arguments (named: it is used 2 times). -/
def res_main_v60 (V0 : Valuation τ sig (Elt F)) : (Proc.devRef .tc main_v60 : DevRef τ sig).ty.Contents (Elt F) :=
  select (cmpf .olt (res_main_v52 V0) (broadcastInDim S16x20000 ![] bcast_S_S16x20000 (constant S_ .f32 0x3E99999A#32))) (broadcastInDim S16x20000 ![1] bcast_S20000_S16x20000_1 (broadcastInDim S20000 ![] bcast_S_S20000 (id (constantI S_ 32 0#32)))) (select (res_main_v55 V0) (select (Host.reduce IntOp.andi (andi (cmpi .sge (res_main_call2_v5 V0) (broadcastInDim S16x20000x1 ![] bcast_S_S16x20000x1 (constantI S_ 32 0#32))) (cmpi .sle (res_main_call2_v5 V0) (broadcastInDim S16x20000x1 ![0, 1, 2] bcast_S1x1x1_S16x20000x1_0_1_2 (broadcastInDim S1x1x1 ![2] bcast_S1_S1x1x1_2 (constantI S1 32 99#32))))) (constantI S_ 1 1#1) reducesTo_S16x20000x1_S16x20000_d2 h_S_) (Host.gather gather_S16x100_S16x20000x1_S16x20000_n_1_0_0_1_2_11 (V0 (Proc.devRef .tc main_arg2)) (res_main_call2_v5 V0)) (broadcastInDim S16x20000 ![] bcast_S_S16x20000 (constantI S_ 32 2147483648#32))) (broadcastInDim S16x20000 ![1] bcast_S20000_S16x20000_1 (broadcastInDim S20000 ![] bcast_S_S20000 (id (constantI S_ 32 4294967295#32)))))

set_option maxRecDepth 8192 in
/-- `main_v62`'s composed term of the arguments (named: it is used 2 times). -/
def res_main_v62 (V0 : Valuation τ sig (Elt F)) : (Proc.devRef .tc main_v62 : DevRef τ sig).ty.Contents (Elt F) :=
  cmpi .ne (res_main_v60 V0) (broadcastInDim S16x20000 ![] bcast_S_S16x20000 (constantI S_ 32 4294967295#32))

set_option maxRecDepth 8192 in
/-- `main_v64`'s composed term of the arguments (named: it is used 2 times). -/
def res_main_v64 (V0 : Valuation τ sig (Elt F)) : (Proc.devRef .tc main_v64 : DevRef τ sig).ty.Contents (Elt F) :=
  Host.reduce IntOp.addi (extui 32 (res_main_v62 V0) natLt_1_32) (constantI S_ 32 0#32) reducesTo_S16x20000_S16_d1 h_S_

set_option maxRecDepth 8192 in
/-- `main_call5_v5`'s composed term of the arguments (named: it is used 2 times). -/
def res_main_call5_v5 (V0 : Valuation τ sig (Elt F)) : (Proc.devRef .tc main_call5_v5 : DevRef τ sig).ty.Contents (Elt F) :=
  subf (V0 (Proc.devRef .tc main_arg0)) (broadcastInDim S16x20000x81 ![0, 1, 2] bcast_S16x20000x1_S16x20000x81_0_1_2 (broadcastInDim S16x20000x1 ![0, 1] bcast_S16x20000_S16x20000x1_0_1 (maximumf (broadcastInDim S16x20000 ![] bcast_S_S16x20000 (constant S_ .f32 0xFF800000#32)) (Host.reduce FloatOps.maximumf (V0 (Proc.devRef .tc main_arg0)) (constant S_ .f32 0xFF800000#32) reducesTo_S16x20000x81_S16x20000_d2 h_S_))))

set_option maxRecDepth 8192 in
/-- `main_v67`'s composed term of the arguments (named: it is used 3 times). -/
def res_main_v67 (V0 : Valuation τ sig (Elt F)) : (Proc.devRef .tc main_v67 : DevRef τ sig).ty.Contents (Elt F) :=
  broadcastInDim S16x20000x1 ![0, 1] bcast_S16x20000_S16x20000x1_0_1 (minsi (broadcastInDim S16x20000 ![] bcast_S_S16x20000 (id (constantI S_ 32 80#32))) (maxsi (broadcastInDim S16x20000 ![] bcast_S_S16x20000 (id (constantI S_ 32 0#32))) (res_main_v60 V0)))

set_option maxRecDepth 8192 in
/-- `main_call7_v5`'s composed term of the arguments (named: it is used 3 times). -/
def res_main_call7_v5 (V0 : Valuation τ sig (Elt F)) : (Proc.devRef .tc main_call7_v5 : DevRef τ sig).ty.Contents (Elt F) :=
  shapeCast _ (select (cmpi .slt (res_main_v67 V0) (broadcastInDim S16x20000x1 ![] bcast_S_S16x20000x1 (constantI S_ 32 0#32))) (addi (res_main_v67 V0) (broadcastInDim S16x20000x1 ![] bcast_S_S16x20000x1 (constantI S_ 32 81#32))) (res_main_v67 V0)) shapeCasts_S16x20000x1_S16x20000x1x1

set_option maxRecDepth 8192 in
/-- `main_v78`'s composed term of the arguments (named: it is used 2 times). -/
def res_main_v78 (V0 : Valuation τ sig (Elt F)) : (Proc.devRef .tc main_v78 : DevRef τ sig).ty.Contents (Elt F) :=
  Host.reduce IntOp.addi (extui 32 (res_main_v55 V0) natLt_1_32) (constantI S_ 32 0#32) reducesTo_S16x20000_S16_d1 h_S_

set_option maxRecDepth 8192 in
/-- `main_call9_v5`'s composed term of the arguments (named: it is used 3 times). -/
def res_main_call9_v5 (V0 : Valuation τ sig (Elt F)) : (Proc.devRef .tc main_call9_v5 : DevRef τ sig).ty.Contents (Elt F) :=
  broadcastInDim S16x20000x1 ![0, 1] bcast_S16x20000_S16x20000x1_0_1 (select (cmpi .slt (res_main_v53 V0) (broadcastInDim S16x20000 ![] bcast_S_S16x20000 (constantI S_ 32 0#32))) (addi (res_main_v53 V0) (broadcastInDim S16x20000 ![] bcast_S_S16x20000 (constantI S_ 32 100#32))) (res_main_v53 V0))

set_option maxRecDepth 8192 in
/-- `main_v80`'s composed term of the arguments (named: it is used 3 times). -/
def res_main_v80 (V0 : Valuation τ sig (Elt F)) : (Proc.devRef .tc main_v80 : DevRef τ sig).ty.Contents (Elt F) :=
  subf (V0 (Proc.devRef .tc main_arg1)) (select (broadcastInDim S16x20000x4 ![0, 1] bcast_S16x20000_S16x20000x4_0_1 (Host.reduce IntOp.andi (andi (cmpi .sge (res_main_call9_v5 V0) (broadcastInDim S16x20000x1 ![] bcast_S_S16x20000x1 (constantI S_ 32 0#32))) (cmpi .sle (res_main_call9_v5 V0) (broadcastInDim S16x20000x1 ![0, 1, 2] bcast_S1x1x1_S16x20000x1_0_1_2 (broadcastInDim S1x1x1 ![2] bcast_S1_S1x1x1_2 (constantI S1 32 99#32))))) (constantI S_ 1 1#1) reducesTo_S16x20000x1_S16x20000_d2 h_S_)) (Host.gather gather_S16x100x4_S16x20000x1_S16x20000x4_2_1_0_0_1_2_114 (V0 (Proc.devRef .tc main_arg3)) (res_main_call9_v5 V0)) (broadcastInDim S16x20000x4 ![] bcast_S_S16x20000x4 (constant S_ .f32 0x7FC00000#32)))

set_option maxRecDepth 8192 in
/-- `main_v81`'s composed term of the arguments (named: it is used 2 times). -/
def res_main_v81 (V0 : Valuation τ sig (Elt F)) : (Proc.devRef .tc main_v81 : DevRef τ sig).ty.Contents (Elt F) :=
  Host.absf (res_main_v80 V0)

set_option maxRecDepth 8192 in
/-- The per-image classification loss before its guard. -/
def res_main_v76 (V0 : Valuation τ sig (Elt F)) : (Proc.devRef .tc main_v76 : DevRef τ sig).ty.Contents (Elt F) :=
  Host.divf (Host.reduceAdd (select (res_main_v62 V0) (Host.negf (shapeCast _ (select (Host.reduce IntOp.andi (andi (cmpi .sge (res_main_call7_v5 V0) (broadcastInDim S16x20000x1x1 ![] bcast_S_S16x20000x1x1 (constantI S_ 32 0#32))) (cmpi .sle (res_main_call7_v5 V0) (broadcastInDim S16x20000x1x1 ![0, 1, 2, 3] bcast_S1x1x1x1_S16x20000x1x1_0_1_2_3 (broadcastInDim S1x1x1x1 ![3] bcast_S1_S1x1x1x1_3 (constantI S1 32 80#32))))) (constantI S_ 1 1#1) reducesTo_S16x20000x1x1_S16x20000x1_d3 h_S_) (Host.gather gather_S16x20000x81_S16x20000x1x1_S16x20000x1_n_2_01_01_2_3_111 (subf (res_main_call5_v5 V0) (broadcastInDim S16x20000x81 ![0, 1, 2] bcast_S16x20000x1_S16x20000x81_0_1_2 (Host.log (broadcastInDim S16x20000x1 ![0, 1] bcast_S16x20000_S16x20000x1_0_1 (Host.reduceAdd (Host.exp (res_main_call5_v5 V0)) (constant S_ .f32 0x00000000#32) reducesTo_S16x20000x81_S16x20000_d2 h_S_))))) (res_main_call7_v5 V0)) (broadcastInDim S16x20000x1 ![] bcast_S_S16x20000x1 (constant S_ .f32 0x7FC00000#32))) shapeCasts_S16x20000x1_S16x20000)) (broadcastInDim S16x20000 ![1] bcast_S20000_S16x20000_1 (broadcastInDim S20000 ![] bcast_S_S20000 (id (constant S_ .f32 0x00000000#32))))) (constant S_ .f32 0x00000000#32) reducesTo_S16x20000_S16_d1 h_S_) (sitofp .f32 (maxsi (res_main_v64 V0) (broadcastInDim S16 ![] bcast_S_S16 (constantI S_ 32 1#32))))

set_option maxRecDepth 8192 in
/-- The per-image sum of the matched boxes' smooth-L1 losses. -/
def res_main_v92 (V0 : Valuation τ sig (Elt F)) : (Proc.devRef .tc main_v92 : DevRef τ sig).ty.Contents (Elt F) :=
  Host.reduceAdd (select (broadcastInDim S16x20000x4 ![0, 1, 2] bcast_S16x20000x1_S16x20000x4_0_1_2 (broadcastInDim S16x20000x1 ![0, 1] bcast_S16x20000_S16x20000x1_0_1 (res_main_v55 V0))) (select (cmpf .olt (res_main_v81 V0) (broadcastInDim S16x20000x4 ![] bcast_S_S16x20000x4 (constant S_ .f32 0x3F800000#32))) (mulf (mulf (broadcastInDim S16x20000x4 ![] bcast_S_S16x20000x4 (constant S_ .f32 0x3F000000#32)) (res_main_v80 V0)) (res_main_v80 V0)) (subf (res_main_v81 V0) (broadcastInDim S16x20000x4 ![] bcast_S_S16x20000x4 (constant S_ .f32 0x3F000000#32)))) (broadcastInDim S16x20000x4 ![1, 2] bcast_S20000x4_S16x20000x4_1_2 (broadcastInDim S20000x4 ![] bcast_S_S20000x4 (id (constant S_ .f32 0x00000000#32))))) (constant S_ .f32 0x00000000#32) reducesTo_S16x20000x4_S16_d1_2 h_S_

set_option maxRecDepth 8192 in
/-- The classification loss. -/
def res_main_v105 (V0 : Valuation τ sig (Elt F)) : (Proc.devRef .tc main_v105 : DevRef τ sig).ty.Contents (Elt F) :=
  Host.reduceAdd (select (cmpi .sgt (res_main_v64 V0) (broadcastInDim S16 ![] bcast_S_S16 (constantI S_ 32 0#32))) (res_main_v76 V0) (broadcastInDim S16 ![] bcast_S_S16 (id (constant S_ .f32 0x00000000#32)))) (constant S_ .f32 0x00000000#32) reducesTo_S16_S_d0 h_S_

set_option maxRecDepth 8192 in
/-- The regression loss. -/
def res_main_v106 (V0 : Valuation τ sig (Elt F)) : (Proc.devRef .tc main_v106 : DevRef τ sig).ty.Contents (Elt F) :=
  Host.reduceAdd (select (cmpi .sgt (res_main_v78 V0) (broadcastInDim S16 ![] bcast_S_S16 (constantI S_ 32 0#32))) (Host.divf (res_main_v92 V0) (sitofp .f32 (maxsi (muli (res_main_v78 V0) (broadcastInDim S16 ![] bcast_S_S16 (constantI S_ 32 4#32))) (broadcastInDim S16 ![] bcast_S_S16 (constantI S_ 32 1#32))))) (broadcastInDim S16 ![] bcast_S_S16 (id (constant S_ .f32 0x00000000#32)))) (constant S_ .f32 0x00000000#32) reducesTo_S16_S_d0 h_S_

set_option maxRecDepth 8192 in
/-- The total loss. -/
def res_main_v107 (V0 : Valuation τ sig (Elt F)) : (Proc.devRef .tc main_v107 : DevRef τ sig).ty.Contents (Elt F) :=
  addf (res_main_v105 V0) (res_main_v106 V0)

end Cert.ReferenceIdeal.Value

end
-- ==== Proof.Reference.Run.lean ====
/- The reference's run: every execution ends with each result at its term and the arguments unchanged. -/
module

public import proofs.«01_k».proof.Proof.Gen.ReferenceIdeal
public import proofs.«01_k».proof.Proof.Reference.Terms
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl

/-- The device's buffer contents after @main's operations up to here. -/
def val0_1 (V0 : Valuation τ sig (Elt F)) : Valuation τ sig (Elt F) := after ops_part0_0 (val0 V0)
/-- The buffers that window `ops_part0_0`'s operations write. -/
abbrev ops_part0_0_W : List (Ref sig .tc) := [main_v0, main_v1, main_v2, main_v3, main_v4, main_v5, main_v6, main_v7, main_v8, main_v9, main_v10, main_v11, main_v12, main_v13, main_v14, main_cst, main_call0_v0, main_call0_v1, main_v15, main_v16, main_v17, main_v18, main_v19, main_v20, main_v21, main_v22, main_v23, main_v24, main_v25, main_v26]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
theorem val0_1_main_arg3 (V0 : Valuation τ sig (Elt F)) : val0_1 V0 (no_index (Proc.devRef .tc main_arg3)) = V0 (Proc.devRef .tc main_arg3) :=
  (val0_1_keep V0 main_arg3 (by decide)).trans (val0_main_arg3 V0)
set_option maxRecDepth 8192 in
set_option maxHeartbeats 2000000 in
theorem val0_1_main_v20 (V0 : Valuation τ sig (Elt F)) : val0_1 V0 (no_index (Proc.devRef .tc main_v20)) = res_main_v20 V0 := by
  unfold val0_1
  simp only [ops_part0_0, TRef.binary, TRef.unary, TRef.toBuf, TRef.ofBuf, cast_eq]
  after_results_simp
  simp only [val0_main_arg3, val0_main_arg1] <;> rfl
set_option maxRecDepth 8192 in
set_option maxHeartbeats 2000000 in
theorem val0_1_main_v25 (V0 : Valuation τ sig (Elt F)) : val0_1 V0 (no_index (Proc.devRef .tc main_v25)) = subf (shapeCast _ (extractStridedSlice S16x20000x1 ![0, 0, 2] (V0 (Proc.devRef .tc main_arg1)) slices_S16x20000x4_S16x20000x1_0_0_2) shapeCasts_S16x20000x1_S16x20000) (shapeCast _ (extractStridedSlice S16x20000x1 ![0, 0, 0] (V0 (Proc.devRef .tc main_arg1)) slices_S16x20000x4_S16x20000x1_0_0_0) shapeCasts_S16x20000x1_S16x20000) := by
  unfold val0_1
  simp only [ops_part0_0, TRef.binary, TRef.unary, TRef.toBuf, TRef.ofBuf, cast_eq]
  after_results_simp
  simp only [val0_main_arg1] <;> rfl
set_option maxRecDepth 8192 in
set_option maxHeartbeats 2000000 in
theorem val0_1_main_v26 (V0 : Valuation τ sig (Elt F)) : val0_1 V0 (no_index (Proc.devRef .tc main_v26)) = extractStridedSlice S16x20000x1 ![0, 0, 3] (V0 (Proc.devRef .tc main_arg1)) slices_S16x20000x4_S16x20000x1_0_0_3 := by
  unfold val0_1
  simp only [ops_part0_0, TRef.binary, TRef.unary, TRef.toBuf, TRef.ofBuf, cast_eq]
  after_results_simp
  simp only [val0_main_arg1] <;> rfl

/-- The device's buffer contents after @main's operations up to here. -/
def val0_2 (V0 : Valuation τ sig (Elt F)) : Valuation τ sig (Elt F) := after ops_part0_1 (val0_1 V0)
/-- The buffers that window `ops_part0_1`'s operations write. -/
abbrev ops_part0_1_W : List (Ref sig .tc) := [main_v27, main_v28, main_v29, main_v30, main_v31, main_v32, main_v33, main_v34, main_v35, main_v36, main_v37, main_v38, main_v39, main_v40, main_v41, main_v42, main_v43, main_v44, main_v45, main_v46, main_v47, main_v48, main_cst_0, main_v49, main_v50, main_v51, main_cst_1, main_v52]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_arg3 (V0 : Valuation τ sig (Elt F)) : val0_2 V0 (no_index (Proc.devRef .tc main_arg3)) = V0 (Proc.devRef .tc main_arg3) :=
  (val0_2_keep V0 main_arg3 (by decide)).trans (val0_1_main_arg3 V0)
set_option maxRecDepth 8192 in
set_option maxHeartbeats 2000000 in
theorem val0_2_main_v51 (V0 : Valuation τ sig (Elt F)) : val0_2 V0 (no_index (Proc.devRef .tc main_v51)) = res_main_v51 V0 := by
  unfold val0_2
  simp only [ops_part0_1, TRef.nullary, TRef.unary, TRef.toBuf, TRef.ofBuf, cast_eq]
  after_results_simp
  simp only [val0_1_main_arg3, val0_1_main_arg1, val0_1_main_v26, val0_1_main_v25, val0_1_main_v20] <;> rfl
set_option maxRecDepth 8192 in
set_option maxHeartbeats 2000000 in
theorem val0_2_main_v52 (V0 : Valuation τ sig (Elt F)) : val0_2 V0 (no_index (Proc.devRef .tc main_v52)) = res_main_v52 V0 := by
  unfold val0_2
  simp only [ops_part0_1, TRef.nullary, TRef.unary, TRef.toBuf, TRef.ofBuf, cast_eq]
  after_results_simp
  simp only [val0_1_main_arg3, val0_1_main_arg1, val0_1_main_v26, val0_1_main_v25, val0_1_main_v20] <;> rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_call1_v0, main_call1_cst, main_call1_c, main_call1_v1_0, main_v53, main_cst_2, main_v54, main_v55]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_arg2 (V0 : Valuation τ sig (Elt F)) : val1 V0 (no_index (Proc.devRef .tc main_arg2)) = V0 (Proc.devRef .tc main_arg2) :=
  (val1_keep V0 main_arg2 (by decide)).trans (val0_2_main_arg2 V0)
theorem val1_main_arg3 (V0 : Valuation τ sig (Elt F)) : val1 V0 (no_index (Proc.devRef .tc main_arg3)) = V0 (Proc.devRef .tc main_arg3) :=
  (val1_keep V0 main_arg3 (by decide)).trans (val0_2_main_arg3 V0)
theorem val1_main_v52 (V0 : Valuation τ sig (Elt F)) : val1 V0 (no_index (Proc.devRef .tc main_v52)) = res_main_v52 V0 :=
  (val1_keep V0 main_v52 (by decide)).trans (val0_2_main_v52 V0)
set_option maxRecDepth 8192 in
theorem val1_main_v53 (V0 : Valuation τ sig (Elt F)) : val1 V0 (no_index (Proc.devRef .tc main_v53)) = res_main_v53 V0 := by
  unfold val1
  simp only [ops_part0_2, TRef.nullary, TRef.quaternary, TRef.toBuf, TRef.ofBuf, cast_eq]
  after_results_simp
  simp only [val0_2_main_v51] <;> rfl
set_option maxRecDepth 8192 in
theorem val1_main_v55 (V0 : Valuation τ sig (Elt F)) : val1 V0 (no_index (Proc.devRef .tc main_v55)) = res_main_v55 V0 := by
  unfold val1
  simp only [ops_part0_2, TRef.nullary, TRef.quaternary, TRef.binary, TRef.toBuf, TRef.ofBuf, cast_eq]
  after_results_simp
  simp only [val0_2_main_v52] <;> rfl

/-- The device's buffer contents after @main's operations up to here. -/
def val1_1 (V0 : Valuation τ sig (Elt F)) : Valuation τ sig (Elt F) := after ops_part1_0 (val1 V0)
/-- The buffers that window `ops_part1_0`'s operations write. -/
abbrev ops_part1_0_W : List (Ref sig .tc) := [main_cst_3, main_v56, main_v57, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_c_4, main_call2_v14, main_v58, main_c, main_call3_v0, main_call3_v1, main_call3_v2, main_v59]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_arg3 (V0 : Valuation τ sig (Elt F)) : val1_1 V0 (no_index (Proc.devRef .tc main_arg3)) = V0 (Proc.devRef .tc main_arg3) :=
  (val1_1_keep V0 main_arg3 (by decide)).trans (val1_main_arg3 V0)
theorem val1_1_main_v53 (V0 : Valuation τ sig (Elt F)) : val1_1 V0 (no_index (Proc.devRef .tc main_v53)) = res_main_v53 V0 :=
  (val1_1_keep V0 main_v53 (by decide)).trans (val1_main_v53 V0)
theorem val1_1_main_v55 (V0 : Valuation τ sig (Elt F)) : val1_1 V0 (no_index (Proc.devRef .tc main_v55)) = res_main_v55 V0 :=
  (val1_1_keep V0 main_v55 (by decide)).trans (val1_main_v55 V0)
set_option maxRecDepth 8192 in
set_option maxHeartbeats 2000000 in
theorem val1_1_main_v57 (V0 : Valuation τ sig (Elt F)) : val1_1 V0 (no_index (Proc.devRef .tc main_v57)) = cmpf .olt (res_main_v52 V0) (broadcastInDim S16x20000 ![] bcast_S_S16x20000 (constant S_ .f32 0x3E99999A#32)) := by
  unfold val1_1
  simp only [ops_part1_0, TRef.binary, TRef.nullary, TRef.ternary, TRef.unary, TRef.toBuf, TRef.ofBuf, cast_eq]
  after_results_simp
  simp only [val1_main_v52] <;> rfl
set_option maxRecDepth 8192 in
set_option maxHeartbeats 2000000 in
theorem val1_1_main_v59 (V0 : Valuation τ sig (Elt F)) : val1_1 V0 (no_index (Proc.devRef .tc main_v59)) = select (res_main_v55 V0) (select (Host.reduce IntOp.andi (andi (cmpi .sge (res_main_call2_v5 V0) (broadcastInDim S16x20000x1 ![] bcast_S_S16x20000x1 (constantI S_ 32 0#32))) (cmpi .sle (res_main_call2_v5 V0) (broadcastInDim S16x20000x1 ![0, 1, 2] bcast_S1x1x1_S16x20000x1_0_1_2 (broadcastInDim S1x1x1 ![2] bcast_S1_S1x1x1_2 (constantI S1 32 99#32))))) (constantI S_ 1 1#1) reducesTo_S16x20000x1_S16x20000_d2 h_S_) (Host.gather gather_S16x100_S16x20000x1_S16x20000_n_1_0_0_1_2_11 (V0 (Proc.devRef .tc main_arg2)) (res_main_call2_v5 V0)) (broadcastInDim S16x20000 ![] bcast_S_S16x20000 (constantI S_ 32 2147483648#32))) (broadcastInDim S16x20000 ![1] bcast_S20000_S16x20000_1 (broadcastInDim S20000 ![] bcast_S_S20000 (id (constantI S_ 32 4294967295#32)))) := by
  unfold val1_1
  simp only [ops_part1_0, TRef.binary, TRef.nullary, TRef.ternary, TRef.unary, TRef.toBuf, TRef.ofBuf, cast_eq]
  after_results_simp
  simp only [val1_main_v53, val1_main_arg2, val1_main_v55] <;> rfl

/-- The device's buffer contents after @main's operations up to here. -/
def val1_2 (V0 : Valuation τ sig (Elt F)) : Valuation τ sig (Elt F) := after ops_part1_1 (val1_1 V0)
/-- The buffers that window `ops_part1_1`'s operations write. -/
abbrev ops_part1_1_W : List (Ref sig .tc) := [main_c_4, main_call4_v0, main_call4_v1, main_call4_v2, main_v60, main_c_5, main_v61, main_v62, main_v63, main_c_6, main_v64, main_call5_cst, main_call5_v0, main_call5_cst_0, main_call5_v1, main_call5_v2, main_call5_v3, main_call5_v4, main_call5_v5, main_call5_v6, main_call5_cst_1, main_call5_v7, main_call5_v8, main_call5_v9, main_call5_v10, main_v65, main_c_7, main_c_8, main_call6_v0, main_call6_v1]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_arg3 (V0 : Valuation τ sig (Elt F)) : val1_2 V0 (no_index (Proc.devRef .tc main_arg3)) = V0 (Proc.devRef .tc main_arg3) :=
  (val1_2_keep V0 main_arg3 (by decide)).trans (val1_1_main_arg3 V0)
theorem val1_2_main_v53 (V0 : Valuation τ sig (Elt F)) : val1_2 V0 (no_index (Proc.devRef .tc main_v53)) = res_main_v53 V0 :=
  (val1_2_keep V0 main_v53 (by decide)).trans (val1_1_main_v53 V0)
theorem val1_2_main_v55 (V0 : Valuation τ sig (Elt F)) : val1_2 V0 (no_index (Proc.devRef .tc main_v55)) = res_main_v55 V0 :=
  (val1_2_keep V0 main_v55 (by decide)).trans (val1_1_main_v55 V0)
set_option maxRecDepth 8192 in
set_option maxHeartbeats 2000000 in
theorem val1_2_main_v60 (V0 : Valuation τ sig (Elt F)) : val1_2 V0 (no_index (Proc.devRef .tc main_v60)) = res_main_v60 V0 := by
  unfold val1_2
  simp only [ops_part1_1, TRef.binary, TRef.nullary, TRef.ternary, TRef.unary, TRef.toBuf, TRef.ofBuf, cast_eq]
  after_results_simp
  simp only [val1_1_main_v59, val1_1_main_v57] <;> rfl
set_option maxRecDepth 8192 in
set_option maxHeartbeats 2000000 in
theorem val1_2_main_v62 (V0 : Valuation τ sig (Elt F)) : val1_2 V0 (no_index (Proc.devRef .tc main_v62)) = res_main_v62 V0 := by
  unfold val1_2
  simp only [ops_part1_1, TRef.binary, TRef.nullary, TRef.ternary, TRef.unary, TRef.toBuf, TRef.ofBuf, cast_eq]
  after_results_simp
  simp only [val1_1_main_v59, val1_1_main_v57] <;> rfl
set_option maxRecDepth 8192 in
set_option maxHeartbeats 2000000 in
theorem val1_2_main_v64 (V0 : Valuation τ sig (Elt F)) : val1_2 V0 (no_index (Proc.devRef .tc main_v64)) = res_main_v64 V0 := by
  unfold val1_2
  simp only [ops_part1_1, TRef.binary, TRef.nullary, TRef.ternary, TRef.unary, TRef.toBuf, TRef.ofBuf, cast_eq]
  after_results_simp
  simp only [val1_1_main_v59, val1_1_main_v57] <;> rfl
set_option maxRecDepth 8192 in
set_option maxHeartbeats 2000000 in
theorem val1_2_main_v65 (V0 : Valuation τ sig (Elt F)) : val1_2 V0 (no_index (Proc.devRef .tc main_v65)) = subf (res_main_call5_v5 V0) (broadcastInDim S16x20000x81 ![0, 1, 2] bcast_S16x20000x1_S16x20000x81_0_1_2 (Host.log (broadcastInDim S16x20000x1 ![0, 1] bcast_S16x20000_S16x20000x1_0_1 (Host.reduceAdd (Host.exp (res_main_call5_v5 V0)) (constant S_ .f32 0x00000000#32) reducesTo_S16x20000x81_S16x20000_d2 h_S_)))) := by
  unfold val1_2
  simp only [ops_part1_1, TRef.binary, TRef.nullary, TRef.ternary, TRef.unary, TRef.toBuf, TRef.ofBuf, cast_eq]
  after_results_simp
  simp only [val1_1_main_arg0] <;> rfl
set_option maxRecDepth 8192 in
set_option maxHeartbeats 2000000 in
theorem val1_2_main_c_8 (V0 : Valuation τ sig (Elt F)) : val1_2 V0 (no_index (Proc.devRef .tc main_c_8)) = constantI S_ 32 80#32 := by
  unfold val1_2
  simp only [ops_part1_1, TRef.binary, TRef.nullary, TRef.ternary, TRef.unary, TRef.toBuf, TRef.ofBuf, cast_eq]
  after_results_simp
  all_goals rfl
set_option maxRecDepth 8192 in
set_option maxHeartbeats 2000000 in
theorem val1_2_main_call6_v1 (V0 : Valuation τ sig (Elt F)) : val1_2 V0 (no_index (Proc.devRef .tc main_call6_v1)) = broadcastInDim S16x20000 ![] bcast_S_S16x20000 (id (constantI S_ 32 0#32)) := by
  unfold val1_2
  simp only [ops_part1_1, TRef.binary, TRef.nullary, TRef.ternary, TRef.unary, TRef.toBuf, TRef.ofBuf, cast_eq]
  after_results_simp
  all_goals rfl

/-- The device's buffer contents after @main's operations up to here. -/
def val1_3 (V0 : Valuation τ sig (Elt F)) : Valuation τ sig (Elt F) := after ops_part1_2 (val1_2 V0)
/-- The buffers that window `ops_part1_2`'s operations write. -/
abbrev ops_part1_2_W : List (Ref sig .tc) := [main_call6_v2, main_call6_v3, main_call6_v4, main_v66, main_v67, main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_cst, main_call7_v14, main_v68, main_v69, main_v70, main_cst_9]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_2` does not write keeps its contents through it. -/
theorem val1_3_keep (V0 : Valuation τ sig (Elt F)) (r : Ref sig .tc) (h : r ∉ ops_part1_2_W) :
    val1_3 V0 (Proc.devRef .tc r) = val1_2 V0 (Proc.devRef .tc r) :=
  after_of_writes_sub ops_part1_2 _ ops_part1_2_writes h
theorem val1_3_main_arg0 (V0 : Valuation τ sig (Elt F)) : val1_3 V0 (no_index (Proc.devRef .tc main_arg0)) = V0 (Proc.devRef .tc main_arg0) :=
  (val1_3_keep V0 main_arg0 (by decide)).trans (val1_2_main_arg0 V0)
theorem val1_3_main_arg1 (V0 : Valuation τ sig (Elt F)) : val1_3 V0 (no_index (Proc.devRef .tc main_arg1)) = V0 (Proc.devRef .tc main_arg1) :=
  (val1_3_keep V0 main_arg1 (by decide)).trans (val1_2_main_arg1 V0)
theorem val1_3_main_arg2 (V0 : Valuation τ sig (Elt F)) : val1_3 V0 (no_index (Proc.devRef .tc main_arg2)) = V0 (Proc.devRef .tc main_arg2) :=
  (val1_3_keep V0 main_arg2 (by decide)).trans (val1_2_main_arg2 V0)
theorem val1_3_main_arg3 (V0 : Valuation τ sig (Elt F)) : val1_3 V0 (no_index (Proc.devRef .tc main_arg3)) = V0 (Proc.devRef .tc main_arg3) :=
  (val1_3_keep V0 main_arg3 (by decide)).trans (val1_2_main_arg3 V0)
theorem val1_3_main_v53 (V0 : Valuation τ sig (Elt F)) : val1_3 V0 (no_index (Proc.devRef .tc main_v53)) = res_main_v53 V0 :=
  (val1_3_keep V0 main_v53 (by decide)).trans (val1_2_main_v53 V0)
theorem val1_3_main_v55 (V0 : Valuation τ sig (Elt F)) : val1_3 V0 (no_index (Proc.devRef .tc main_v55)) = res_main_v55 V0 :=
  (val1_3_keep V0 main_v55 (by decide)).trans (val1_2_main_v55 V0)
theorem val1_3_main_v62 (V0 : Valuation τ sig (Elt F)) : val1_3 V0 (no_index (Proc.devRef .tc main_v62)) = res_main_v62 V0 :=
  (val1_3_keep V0 main_v62 (by decide)).trans (val1_2_main_v62 V0)
theorem val1_3_main_v64 (V0 : Valuation τ sig (Elt F)) : val1_3 V0 (no_index (Proc.devRef .tc main_v64)) = res_main_v64 V0 :=
  (val1_3_keep V0 main_v64 (by decide)).trans (val1_2_main_v64 V0)
set_option maxRecDepth 8192 in
set_option maxHeartbeats 2000000 in
theorem val1_3_main_v70 (V0 : Valuation τ sig (Elt F)) : val1_3 V0 (no_index (Proc.devRef .tc main_v70)) = Host.negf (shapeCast _ (select (Host.reduce IntOp.andi (andi (cmpi .sge (res_main_call7_v5 V0) (broadcastInDim S16x20000x1x1 ![] bcast_S_S16x20000x1x1 (constantI S_ 32 0#32))) (cmpi .sle (res_main_call7_v5 V0) (broadcastInDim S16x20000x1x1 ![0, 1, 2, 3] bcast_S1x1x1x1_S16x20000x1x1_0_1_2_3 (broadcastInDim S1x1x1x1 ![3] bcast_S1_S1x1x1x1_3 (constantI S1 32 80#32))))) (constantI S_ 1 1#1) reducesTo_S16x20000x1x1_S16x20000x1_d3 h_S_) (Host.gather gather_S16x20000x81_S16x20000x1x1_S16x20000x1_n_2_01_01_2_3_111 (subf (res_main_call5_v5 V0) (broadcastInDim S16x20000x81 ![0, 1, 2] bcast_S16x20000x1_S16x20000x81_0_1_2 (Host.log (broadcastInDim S16x20000x1 ![0, 1] bcast_S16x20000_S16x20000x1_0_1 (Host.reduceAdd (Host.exp (res_main_call5_v5 V0)) (constant S_ .f32 0x00000000#32) reducesTo_S16x20000x81_S16x20000_d2 h_S_))))) (res_main_call7_v5 V0)) (broadcastInDim S16x20000x1 ![] bcast_S_S16x20000x1 (constant S_ .f32 0x7FC00000#32))) shapeCasts_S16x20000x1_S16x20000) := by
  unfold val1_3
  simp only [ops_part1_2, TRef.binary, TRef.nullary, TRef.reshape, TRef.ternary, TRef.unary, TRef.toBuf, TRef.ofBuf, cast_eq]
  after_results_simp
  simp only [val1_2_main_v60, val1_2_main_call6_v1, val1_2_main_c_8, val1_2_main_v65] <;> rfl
set_option maxRecDepth 8192 in
set_option maxHeartbeats 2000000 in
theorem val1_3_main_cst_9 (V0 : Valuation τ sig (Elt F)) : val1_3 V0 (no_index (Proc.devRef .tc main_cst_9)) = constant S_ .f32 0x00000000#32 := by
  unfold val1_3
  simp only [ops_part1_2, TRef.binary, TRef.nullary, TRef.reshape, TRef.ternary, TRef.unary, TRef.toBuf, TRef.ofBuf, cast_eq]
  after_results_simp
  all_goals rfl

/-- The device's buffer contents after @main's operations up to here. -/
def val1_4 (V0 : Valuation τ sig (Elt F)) : Valuation τ sig (Elt F) := after ops_part1_3 (val1_3 V0)
/-- The buffers that window `ops_part1_3`'s operations write. -/
abbrev ops_part1_3_W : List (Ref sig .tc) := [main_call8_v0, main_call8_v1, main_call8_v2, main_v71, main_cst_10, main_v72, main_c_11, main_v73, main_v74, main_v75, main_v76, main_v77, main_c_12, main_v78, main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11]
set_option maxRecDepth 8192 in
theorem ops_part1_3_writes : (ops_part1_3 : List (HloOp τ sig (Elt F))).Forall fun op => op.writes ⊆ (ops_part1_3_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_3` does not write keeps its contents through it. -/
theorem val1_4_keep (V0 : Valuation τ sig (Elt F)) (r : Ref sig .tc) (h : r ∉ ops_part1_3_W) :
    val1_4 V0 (Proc.devRef .tc r) = val1_3 V0 (Proc.devRef .tc r) :=
  after_of_writes_sub ops_part1_3 _ ops_part1_3_writes h
theorem val1_4_main_arg0 (V0 : Valuation τ sig (Elt F)) : val1_4 V0 (no_index (Proc.devRef .tc main_arg0)) = V0 (Proc.devRef .tc main_arg0) :=
  (val1_4_keep V0 main_arg0 (by decide)).trans (val1_3_main_arg0 V0)
theorem val1_4_main_arg1 (V0 : Valuation τ sig (Elt F)) : val1_4 V0 (no_index (Proc.devRef .tc main_arg1)) = V0 (Proc.devRef .tc main_arg1) :=
  (val1_4_keep V0 main_arg1 (by decide)).trans (val1_3_main_arg1 V0)
theorem val1_4_main_arg2 (V0 : Valuation τ sig (Elt F)) : val1_4 V0 (no_index (Proc.devRef .tc main_arg2)) = V0 (Proc.devRef .tc main_arg2) :=
  (val1_4_keep V0 main_arg2 (by decide)).trans (val1_3_main_arg2 V0)
theorem val1_4_main_arg3 (V0 : Valuation τ sig (Elt F)) : val1_4 V0 (no_index (Proc.devRef .tc main_arg3)) = V0 (Proc.devRef .tc main_arg3) :=
  (val1_4_keep V0 main_arg3 (by decide)).trans (val1_3_main_arg3 V0)
theorem val1_4_main_v55 (V0 : Valuation τ sig (Elt F)) : val1_4 V0 (no_index (Proc.devRef .tc main_v55)) = res_main_v55 V0 :=
  (val1_4_keep V0 main_v55 (by decide)).trans (val1_3_main_v55 V0)
theorem val1_4_main_v64 (V0 : Valuation τ sig (Elt F)) : val1_4 V0 (no_index (Proc.devRef .tc main_v64)) = res_main_v64 V0 :=
  (val1_4_keep V0 main_v64 (by decide)).trans (val1_3_main_v64 V0)
set_option maxRecDepth 8192 in
set_option maxHeartbeats 2000000 in
theorem val1_4_main_v76 (V0 : Valuation τ sig (Elt F)) : val1_4 V0 (no_index (Proc.devRef .tc main_v76)) = res_main_v76 V0 := by
  unfold val1_4
  simp only [ops_part1_3, TRef.binary, TRef.nullary, TRef.ternary, TRef.unary, TRef.toBuf, TRef.ofBuf, cast_eq]
  after_results_simp
  simp only [val1_3_main_v64, val1_3_main_cst_9, val1_3_main_v70, val1_3_main_v62] <;> rfl
set_option maxRecDepth 8192 in
set_option maxHeartbeats 2000000 in
theorem val1_4_main_v78 (V0 : Valuation τ sig (Elt F)) : val1_4 V0 (no_index (Proc.devRef .tc main_v78)) = res_main_v78 V0 := by
  unfold val1_4
  simp only [ops_part1_3, TRef.binary, TRef.nullary, TRef.ternary, TRef.unary, TRef.toBuf, TRef.ofBuf, cast_eq]
  after_results_simp
  simp only [val1_3_main_v55] <;> rfl
set_option maxRecDepth 8192 in
set_option maxHeartbeats 2000000 in
theorem val1_4_main_call9_v5 (V0 : Valuation τ sig (Elt F)) : val1_4 V0 (no_index (Proc.devRef .tc main_call9_v5)) = res_main_call9_v5 V0 := by
  unfold val1_4
  simp only [ops_part1_3, TRef.binary, TRef.nullary, TRef.ternary, TRef.unary, TRef.toBuf, TRef.ofBuf, cast_eq]
  after_results_simp
  simp only [val1_3_main_v53] <;> rfl
set_option maxRecDepth 8192 in
set_option maxHeartbeats 2000000 in
theorem val1_4_main_call9_v11 (V0 : Valuation τ sig (Elt F)) : val1_4 V0 (no_index (Proc.devRef .tc main_call9_v11)) = andi (cmpi .sge (res_main_call9_v5 V0) (broadcastInDim S16x20000x1 ![] bcast_S_S16x20000x1 (constantI S_ 32 0#32))) (cmpi .sle (res_main_call9_v5 V0) (broadcastInDim S16x20000x1 ![0, 1, 2] bcast_S1x1x1_S16x20000x1_0_1_2 (broadcastInDim S1x1x1 ![2] bcast_S1_S1x1x1_2 (constantI S1 32 99#32)))) := by
  unfold val1_4
  simp only [ops_part1_3, TRef.binary, TRef.nullary, TRef.ternary, TRef.unary, TRef.toBuf, TRef.ofBuf, cast_eq]
  after_results_simp
  simp only [val1_3_main_v53] <;> rfl

/-- The device's buffer contents after @main's operations up to here. -/
def val1_5 (V0 : Valuation τ sig (Elt F)) : Valuation τ sig (Elt F) := after ops_part1_4 (val1_4 V0)
/-- The buffers that window `ops_part1_4`'s operations write. -/
abbrev ops_part1_4_W : List (Ref sig .tc) := [main_call9_c_3, main_call9_v12, main_call9_v13, main_call9_v14, main_call9_cst, main_call9_v15, main_v79, main_v80, main_v81, main_cst_13, main_v82, main_v83, main_cst_14, main_v84, main_v85, main_v86, main_cst_15, main_v87, main_v88, main_v89, main_v90, main_cst_16, main_call11_v0, main_call11_v1, main_call11_v2, main_call11_v3, main_v91, main_cst_17, main_v92, main_c_18]
set_option maxRecDepth 8192 in
theorem ops_part1_4_writes : (ops_part1_4 : List (HloOp τ sig (Elt F))).Forall fun op => op.writes ⊆ (ops_part1_4_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_4` does not write keeps its contents through it. -/
theorem val1_5_keep (V0 : Valuation τ sig (Elt F)) (r : Ref sig .tc) (h : r ∉ ops_part1_4_W) :
    val1_5 V0 (Proc.devRef .tc r) = val1_4 V0 (Proc.devRef .tc r) :=
  after_of_writes_sub ops_part1_4 _ ops_part1_4_writes h
theorem val1_5_main_arg0 (V0 : Valuation τ sig (Elt F)) : val1_5 V0 (no_index (Proc.devRef .tc main_arg0)) = V0 (Proc.devRef .tc main_arg0) :=
  (val1_5_keep V0 main_arg0 (by decide)).trans (val1_4_main_arg0 V0)
theorem val1_5_main_arg1 (V0 : Valuation τ sig (Elt F)) : val1_5 V0 (no_index (Proc.devRef .tc main_arg1)) = V0 (Proc.devRef .tc main_arg1) :=
  (val1_5_keep V0 main_arg1 (by decide)).trans (val1_4_main_arg1 V0)
theorem val1_5_main_arg2 (V0 : Valuation τ sig (Elt F)) : val1_5 V0 (no_index (Proc.devRef .tc main_arg2)) = V0 (Proc.devRef .tc main_arg2) :=
  (val1_5_keep V0 main_arg2 (by decide)).trans (val1_4_main_arg2 V0)
theorem val1_5_main_arg3 (V0 : Valuation τ sig (Elt F)) : val1_5 V0 (no_index (Proc.devRef .tc main_arg3)) = V0 (Proc.devRef .tc main_arg3) :=
  (val1_5_keep V0 main_arg3 (by decide)).trans (val1_4_main_arg3 V0)
theorem val1_5_main_v64 (V0 : Valuation τ sig (Elt F)) : val1_5 V0 (no_index (Proc.devRef .tc main_v64)) = res_main_v64 V0 :=
  (val1_5_keep V0 main_v64 (by decide)).trans (val1_4_main_v64 V0)
theorem val1_5_main_v76 (V0 : Valuation τ sig (Elt F)) : val1_5 V0 (no_index (Proc.devRef .tc main_v76)) = res_main_v76 V0 :=
  (val1_5_keep V0 main_v76 (by decide)).trans (val1_4_main_v76 V0)
theorem val1_5_main_v78 (V0 : Valuation τ sig (Elt F)) : val1_5 V0 (no_index (Proc.devRef .tc main_v78)) = res_main_v78 V0 :=
  (val1_5_keep V0 main_v78 (by decide)).trans (val1_4_main_v78 V0)
set_option maxRecDepth 8192 in
set_option maxHeartbeats 2000000 in
theorem val1_5_main_v92 (V0 : Valuation τ sig (Elt F)) : val1_5 V0 (no_index (Proc.devRef .tc main_v92)) = res_main_v92 V0 := by
  unfold val1_5
  simp only [ops_part1_4, TRef.binary, TRef.nullary, TRef.ternary, TRef.unary, TRef.toBuf, TRef.ofBuf, cast_eq]
  after_results_simp
  simp only [val1_4_main_call9_v5, val1_4_main_arg3, val1_4_main_call9_v11, val1_4_main_arg1, val1_4_main_v55] <;> rfl
set_option maxRecDepth 8192 in
set_option maxHeartbeats 2000000 in
theorem val1_5_main_c_18 (V0 : Valuation τ sig (Elt F)) : val1_5 V0 (no_index (Proc.devRef .tc main_c_18)) = constantI S_ 32 4#32 := by
  unfold val1_5
  simp only [ops_part1_4, TRef.binary, TRef.nullary, TRef.ternary, TRef.unary, TRef.toBuf, TRef.ofBuf, cast_eq]
  after_results_simp
  all_goals rfl

/-- The device's buffer contents after @main's first 2 windows. -/
def val2 (V0 : Valuation τ sig (Elt F)) : Valuation τ sig (Elt F) := after ops_part1_5 (val1_5 V0)
/-- The buffers that window `ops_part1_5`'s operations write. -/
abbrev ops_part1_5_W : List (Ref sig .tc) := [main_v93, main_v94, main_c_19, main_v95, main_v96, main_v97]
set_option maxRecDepth 8192 in
theorem ops_part1_5_writes : (ops_part1_5 : List (HloOp τ sig (Elt F))).Forall fun op => op.writes ⊆ (ops_part1_5_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `ops_part1_5` does not write keeps its contents through it. -/
theorem val2_keep (V0 : Valuation τ sig (Elt F)) (r : Ref sig .tc) (h : r ∉ ops_part1_5_W) :
    val2 V0 (Proc.devRef .tc r) = val1_5 V0 (Proc.devRef .tc r) :=
  after_of_writes_sub ops_part1_5 _ ops_part1_5_writes h
theorem val2_main_arg0 (V0 : Valuation τ sig (Elt F)) : val2 V0 (no_index (Proc.devRef .tc main_arg0)) = V0 (Proc.devRef .tc main_arg0) :=
  (val2_keep V0 main_arg0 (by decide)).trans (val1_5_main_arg0 V0)
theorem val2_main_arg1 (V0 : Valuation τ sig (Elt F)) : val2 V0 (no_index (Proc.devRef .tc main_arg1)) = V0 (Proc.devRef .tc main_arg1) :=
  (val2_keep V0 main_arg1 (by decide)).trans (val1_5_main_arg1 V0)
theorem val2_main_arg2 (V0 : Valuation τ sig (Elt F)) : val2 V0 (no_index (Proc.devRef .tc main_arg2)) = V0 (Proc.devRef .tc main_arg2) :=
  (val2_keep V0 main_arg2 (by decide)).trans (val1_5_main_arg2 V0)
theorem val2_main_arg3 (V0 : Valuation τ sig (Elt F)) : val2 V0 (no_index (Proc.devRef .tc main_arg3)) = V0 (Proc.devRef .tc main_arg3) :=
  (val2_keep V0 main_arg3 (by decide)).trans (val1_5_main_arg3 V0)
theorem val2_main_v64 (V0 : Valuation τ sig (Elt F)) : val2 V0 (no_index (Proc.devRef .tc main_v64)) = res_main_v64 V0 :=
  (val2_keep V0 main_v64 (by decide)).trans (val1_5_main_v64 V0)
theorem val2_main_v76 (V0 : Valuation τ sig (Elt F)) : val2 V0 (no_index (Proc.devRef .tc main_v76)) = res_main_v76 V0 :=
  (val2_keep V0 main_v76 (by decide)).trans (val1_5_main_v76 V0)
theorem val2_main_v78 (V0 : Valuation τ sig (Elt F)) : val2 V0 (no_index (Proc.devRef .tc main_v78)) = res_main_v78 V0 :=
  (val2_keep V0 main_v78 (by decide)).trans (val1_5_main_v78 V0)
theorem val2_main_v92 (V0 : Valuation τ sig (Elt F)) : val2 V0 (no_index (Proc.devRef .tc main_v92)) = res_main_v92 V0 :=
  (val2_keep V0 main_v92 (by decide)).trans (val1_5_main_v92 V0)
set_option maxRecDepth 8192 in
theorem val2_main_v97 (V0 : Valuation τ sig (Elt F)) : val2 V0 (no_index (Proc.devRef .tc main_v97)) = sitofp .f32 (maxsi (muli (res_main_v78 V0) (broadcastInDim S16 ![] bcast_S_S16 (constantI S_ 32 4#32))) (broadcastInDim S16 ![] bcast_S_S16 (constantI S_ 32 1#32))) := by
  unfold val2
  simp only [ops_part1_5]
  after_results_simp
  simp only [val1_5_main_c_18, val1_5_main_v78] <;> rfl

/-- The device's buffer contents after @main's first 3 windows. -/
def val3 (V0 : Valuation τ sig (Elt F)) : Valuation τ sig (Elt F) := after ops_part2 (val2 V0)
/-- The buffers that window `main_part2`'s operations write. -/
abbrev ops_part2_W : List (Ref sig .tc) := [main_v98, main_c_20, main_v99, main_v100, main_cst_21, main_call12_v0, main_call12_v1, main_v101, main_c_22, main_v102, main_v103, main_cst_23, main_call13_v0, main_call13_v1, main_v104, main_cst_24, main_v105, main_cst_25, main_v106, main_v107]
set_option maxRecDepth 8192 in
theorem ops_part2_writes : (ops_part2 : List (HloOp τ sig (Elt F))).Forall fun op => op.writes ⊆ (ops_part2_W.map (Proc.devRef (τ := τ) .tc)).toFinset := by
  simp only [List.Forall]
  and_intros <;> (simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
set_option maxRecDepth 8192 in
set_option maxHeartbeats 2000000 in
theorem val3_main_v105 (V0 : Valuation τ sig (Elt F)) : val3 V0 (no_index (Proc.devRef .tc main_v105)) = res_main_v105 V0 := by
  unfold val3
  simp only [ops_part2, TRef.ternary, TRef.unary, TRef.toBuf, TRef.ofBuf, cast_eq]
  after_results_simp
  simp only [val2_main_v76, val2_main_v64] <;> rfl
set_option maxRecDepth 8192 in
set_option maxHeartbeats 2000000 in
theorem val3_main_v106 (V0 : Valuation τ sig (Elt F)) : val3 V0 (no_index (Proc.devRef .tc main_v106)) = res_main_v106 V0 := by
  unfold val3
  simp only [ops_part2, TRef.ternary, TRef.unary, TRef.toBuf, TRef.ofBuf, cast_eq]
  after_results_simp
  simp only [val2_main_v97, val2_main_v92, val2_main_v78] <;> rfl
set_option maxRecDepth 8192 in
set_option maxHeartbeats 2000000 in
theorem val3_main_v107 (V0 : Valuation τ sig (Elt F)) : val3 V0 (no_index (Proc.devRef .tc main_v107)) = res_main_v107 V0 := by
  unfold val3
  simp only [ops_part2, TRef.ternary, TRef.unary, TRef.toBuf, TRef.ofBuf, cast_eq]
  after_results_simp
  simp only [val2_main_v97, val2_main_v92, val2_main_v78, val2_main_v76, val2_main_v64] <;> rfl

theorem after_ops (V0 : Valuation τ sig (Elt F)) : after ops V0 = val3 V0 := by
  simp only [ops, ops_part0, ops_part1, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v107) = res_main_v107 (launchContents m c)
      ∧ r.2.mem ((c.tc : Thread nD τ).loc main_v106) = res_main_v106 (launchContents m c)
      ∧ r.2.mem ((c.tc : Thread nD τ).loc main_v105) = res_main_v105 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v107).trans ((congrFun (after_ops (launchContents m c)) (Proc.devRef .tc main_v107)).trans (val3_main_v107 (launchContents m c))),
      (h c main_v106).trans ((congrFun (after_ops (launchContents m c)) (Proc.devRef .tc main_v106)).trans (val3_main_v106 (launchContents m c))),
      (h c main_v105).trans ((congrFun (after_ops (launchContents m c)) (Proc.devRef .tc main_v105)).trans (val3_main_v105 (launchContents m c))),
      (h c main_arg0).trans ((congrFun (after_ops (launchContents m c)) (Proc.devRef .tc main_arg0)).trans (val3_main_arg0 (launchContents m c))),
      (h c main_arg1).trans ((congrFun (after_ops (launchContents m c)) (Proc.devRef .tc main_arg1)).trans (val3_main_arg1 (launchContents m c))),
      (h c main_arg2).trans ((congrFun (after_ops (launchContents m c)) (Proc.devRef .tc main_arg2)).trans (val3_main_arg2 (launchContents m c))),
      (h c main_arg3).trans ((congrFun (after_ops (launchContents m c)) (Proc.devRef .tc main_arg3)).trans (val3_main_arg3 (launchContents m c)))⟩)
    (run_seq scopedRefs_eq scopedSems_eq defs main (fun _ => ops) main_eq (fun _ => ops_sub) m ρ fun _ => ops_fresh)

end Cert.ReferenceIdeal.Value

end
-- ==== Proof.Loss.Overlap.lean ====
/- The overlap of two boxes: intersection over union. Where the first box is finite and has an area of at least the bound,
   the quotient the kernel takes (no guard on the union, its sum bracketed another way) is the guarded quotient of the
   reference, or less than everything where that one is zero. -/
module

public import Idealize.ShloMosaic.Lib.Pointwise

@[expose] public section

noncomputable section

namespace Cert.Loss

open Idealize.ShloMosaic

/-- The least union the reference divides by. -/
def eps : EReal := Ideal.ofBits .f32 897988541#32
/-- The overlap from which a predicted box counts as matched. -/
def half : EReal := Ideal.ofBits .f32 1056964608#32
/-- The overlap below which a predicted box counts as background. -/
def low : EReal := Ideal.ofBits .f32 1050253722#32

/-- The area common to two boxes given by their corners `(x₁, y₁, x₂, y₂)`. -/
def inter (a b : Fin 4 → EReal) : EReal :=
  max (min (a 2) (b 2) - max (a 0) (b 0)) 0 * max (min (a 3) (b 3) - max (a 1) (b 1)) 0

/-- The area of a box. -/
def area (a : Fin 4 → EReal) : EReal := (a 2 - a 0) * (a 3 - a 1)

/-- Intersection over union, the union kept from below. -/
def iou (a b : Fin 4 → EReal) : EReal := Ideal.div (inter a b) (max (area a + area b - inter a b) eps)

/-- Intersection over union, divided by the union itself, as the kernel adds it up. -/
def ratio (a b : Fin 4 → EReal) : EReal := Ideal.div (inter a b) (area a + (area b - inter a b))

theorem coe_max (x y : ℝ) : ((max x y : ℝ) : EReal) = max (x : EReal) (y : EReal) := EReal.coe_strictMono.monotone.map_max
theorem coe_min (x y : ℝ) : ((min x y : ℝ) : EReal) = min (x : EReal) (y : EReal) := EReal.coe_strictMono.monotone.map_min

theorem eps_pos : 0 < eps := by
  have : eps = (((2 ^ 23 + 407485 : ℕ) : ℝ) * (2 : ℝ) ^ (-43 : ℤ) : ℝ) := by
    unfold eps
    simp [Ideal.ofBits, Ideal.ieee, -EReal.coe_mul]
  rw [this]
  exact EReal.coe_pos.mpr (by positivity)

theorem half_eq : half = ((1 / 2 : ℝ) : EReal) := by
  unfold half
  simp [Ideal.ofBits, Ideal.ieee, -EReal.coe_mul]; norm_num

theorem low_lt_half : low < half := by
  have h : low = (((2 ^ 23 + 1677722 : ℕ) : ℝ) * (2 : ℝ) ^ (-25 : ℤ) : ℝ) := by
    unfold low
    simp [Ideal.ofBits, Ideal.ieee, -EReal.coe_mul]
  rw [h, half_eq]
  exact EReal.coe_lt_coe_iff.mpr (by norm_num)

/-- A quotient of reals by a positive one. -/
theorem div_coe (x y : ℝ) (hy : 0 < y) : Ideal.div (x : EReal) (y : EReal) = ((x / y : ℝ) : EReal) := by
  unfold Ideal.div
  rw [if_neg (by exact_mod_cast hy.ne'), div_eq_mul_inv, EReal.coe_mul, EReal.coe_inv]

/-- No intersection over a union kept from below is zero. -/
theorem iou_of_inter (a b : Fin 4 → EReal) (h : inter a b = 0) : iou a b = 0 := by
  unfold iou Ideal.div
  rw [h, if_neg (lt_of_lt_of_le eps_pos (le_max_right _ _)).ne', zero_mul]

/-- No intersection over the union itself is zero, or less than everything where the union is zero. -/
theorem ratio_of_inter (a b : Fin 4 → EReal) (h : inter a b = 0) : ratio a b = 0 ∨ ratio a b = ⊥ := by
  unfold ratio Ideal.div
  rw [h]
  split_ifs with h1 h2
  · exact absurd h2 (lt_irrefl _)
  · exact Or.inr rfl
  · exact Or.inl (zero_mul _)

/-- A side that has length in common with a finite one runs upwards, and is finite or endless. -/
theorem side (x0 x2 : ℝ) (y0 y2 : EReal) (h : max (min (x2 : EReal) y2 - max (x0 : EReal) y0) 0 ≠ 0) :
    ((∃ r : ℝ, y0 = r) ∧ ∃ r : ℝ, y2 = r) ∨ y2 - y0 = ⊤ := by
  induction y0 with
  | top => exact absurd (by rw [max_eq_right le_top, EReal.sub_top]; exact max_eq_right bot_le) h
  | bot =>
    induction y2 with
    | bot => exact absurd (by rw [min_eq_right bot_le, EReal.bot_sub]; exact max_eq_right bot_le) h
    | coe r => exact Or.inr rfl
    | top => exact Or.inr rfl
  | coe q =>
    induction y2 with
    | bot => exact absurd (by rw [min_eq_right bot_le, EReal.bot_sub]; exact max_eq_right bot_le) h
    | coe r => exact Or.inl ⟨⟨q, rfl⟩, r, rfl⟩
    | top => exact Or.inr rfl

/-- What a side has in common with a finite one, where it has, is a real number, no longer than the side. -/
theorem side_real (x0 x2 : ℝ) (y0 y2 : EReal) : ∃ r : ℝ, max (min (x2 : EReal) y2 - max (x0 : EReal) y0) 0 = r := by
  induction y0 with
  | top => exact ⟨0, by rw [max_eq_right le_top, EReal.sub_top]; exact max_eq_right bot_le⟩
  | bot =>
    induction y2 with
    | bot => exact ⟨0, by rw [min_eq_right bot_le, EReal.bot_sub]; exact max_eq_right bot_le⟩
    | coe r => exact ⟨max (min x2 r - x0) 0, by rw [max_eq_left bot_le, coe_max, EReal.coe_sub, coe_min, EReal.coe_zero]⟩
    | top => exact ⟨max (x2 - x0) 0, by rw [max_eq_left bot_le, min_eq_left le_top, coe_max, EReal.coe_sub, EReal.coe_zero]⟩
  | coe q =>
    induction y2 with
    | bot => exact ⟨0, by rw [min_eq_right bot_le, EReal.bot_sub]; exact max_eq_right bot_le⟩
    | coe r => exact ⟨max (min x2 r - max x0 q) 0, by rw [coe_max, EReal.coe_sub, coe_min, coe_max, EReal.coe_zero]⟩
    | top => exact ⟨max (x2 - max x0 q) 0, by rw [min_eq_left le_top, coe_max, EReal.coe_sub, coe_max, EReal.coe_zero]⟩

theorem side_up (x0 x2 : ℝ) (y0 y2 : EReal) (h : max (min (x2 : EReal) y2 - max (x0 : EReal) y0) 0 ≠ 0) : 0 < y2 - y0 := by
  have h' : min (x2 : EReal) y2 - max (x0 : EReal) y0 ≤ y2 - y0 := EReal.sub_le_sub (min_le_right _ _) (le_max_right _ _)
  refine lt_of_lt_of_le (not_le.mp fun l => h (max_eq_right l)) h'

/-- An endless box that meets a finite one overlaps it by nothing, in either spelling. -/
theorem endless (a b : Fin 4 → EReal) (A I : ℝ) (hA : area a = A) (hI : inter a b = I) (hb : area b = ⊤) : iou a b = 0 ∧ ratio a b = 0 := by
  unfold iou ratio Ideal.div
  rw [hA, hI, hb, EReal.coe_add_top, EReal.top_sub_coe, EReal.coe_add_top, max_eq_left le_top, if_neg (by simp), EReal.inv_top, mul_zero]
  exact ⟨rfl, rfl⟩

/-- The two spellings of the overlap agree, but that the kernel's may be less than everything where the boxes do not meet;
    and the overlap is a real number that is not negative. -/
theorem overlap (a b : Fin 4 → EReal) (ha : ∀ k, ∃ r : ℝ, a k = r) (hA : eps ≤ area a) :
    (ratio a b = iou a b ∨ (ratio a b = ⊥ ∧ iou a b = 0)) ∧ ∃ r : ℝ, 0 ≤ r ∧ iou a b = r := by
  by_cases hz : inter a b = 0
  · have e := iou_of_inter a b hz
    refine ⟨?_, 0, le_refl _, by rw [e]; rfl⟩
    rcases ratio_of_inter a b hz with h | h
    · exact Or.inl (h.trans e.symm)
    · exact Or.inr ⟨h, e⟩
  obtain ⟨a0, e0⟩ := ha 0
  obtain ⟨a1, e1⟩ := ha 1
  obtain ⟨a2, e2⟩ := ha 2
  obtain ⟨a3, e3⟩ := ha 3
  have hAa : area a = (((a2 - a0) * (a3 - a1) : ℝ) : EReal) := by
    unfold area; rw [e0, e1, e2, e3, EReal.coe_mul, EReal.coe_sub, EReal.coe_sub]
  have hx : max (min (a2 : EReal) (b 2) - max (a0 : EReal) (b 0)) 0 ≠ 0 := fun h => hz (by unfold inter; rw [e0, e2, h, zero_mul])
  have hy : max (min (a3 : EReal) (b 3) - max (a1 : EReal) (b 1)) 0 ≠ 0 := fun h => hz (by unfold inter; rw [e1, e3, h, mul_zero])
  -- an endless box overlaps by nothing
  have far : area b = ⊤ → (ratio a b = iou a b ∨ (ratio a b = ⊥ ∧ iou a b = 0)) ∧ ∃ r : ℝ, 0 ≤ r ∧ iou a b = r := fun hb => by
    obtain ⟨p, hp⟩ := side_real a0 a2 (b 0) (b 2)
    obtain ⟨q, hq⟩ := side_real a1 a3 (b 1) (b 3)
    have h := endless a b _ (p * q) hAa (by unfold inter; rw [e0, e1, e2, e3, hp, hq, EReal.coe_mul]) hb
    exact ⟨Or.inl (h.2.trans h.1.symm), 0, le_refl _, by rw [h.1]; rfl⟩
  rcases side a0 a2 (b 0) (b 2) hx with ⟨⟨b0, f0⟩, b2, f2⟩ | ht
  swap
  · exact far (by unfold area; rw [ht, EReal.top_mul_of_pos (side_up a1 a3 (b 1) (b 3) hy)])
  rcases side a1 a3 (b 1) (b 3) hy with ⟨⟨b1, f1⟩, b3, f3⟩ | ht
  swap
  · exact far (by unfold area; rw [ht, EReal.mul_top_of_pos (side_up a0 a2 (b 0) (b 2) hx)])
  clear far hx hy
  have hI : inter a b = ((max (min a2 b2 - max a0 b0) 0 * max (min a3 b3 - max a1 b1) 0 : ℝ) : EReal) := by
    unfold inter
    rw [e0, e1, e2, e3, f0, f1, f2, f3, EReal.coe_mul, coe_max, coe_max, EReal.coe_sub, EReal.coe_sub, coe_min, coe_min, coe_max, coe_max,
      EReal.coe_zero]
  have hAb : area b = (((b2 - b0) * (b3 - b1) : ℝ) : EReal) := by
    unfold area; rw [f0, f1, f2, f3, EReal.coe_mul, EReal.coe_sub, EReal.coe_sub]
  have hI0 : 0 ≤ max (min a2 b2 - max a0 b0) 0 * max (min a3 b3 - max a1 b1) 0 :=
    mul_nonneg (le_max_right _ _) (le_max_right _ _)
  have hne : max (min a2 b2 - max a0 b0) 0 * max (min a3 b3 - max a1 b1) 0 ≠ 0 := fun h => hz (by rw [hI, h]; rfl)
  -- boxes that meet are in order, as far as the intersection can tell
  have side : ∀ x0 x2 y0 y2 : ℝ, max (min x2 y2 - max x0 y0) 0 ≠ 0 → max (min x2 y2 - max x0 y0) 0 ≤ y2 - y0 := fun x0 x2 y0 y2 h => by
    have h' : min x2 y2 - max x0 y0 ≤ y2 - y0 := sub_le_sub (min_le_right _ _) (le_max_right _ _)
    rcases le_total (min x2 y2 - max x0 y0) 0 with l | l
    · exact absurd (max_eq_right l) h
    · rwa [max_eq_left l]
  have hw := side a0 a2 b0 b2 (left_ne_zero_of_mul hne)
  have hh := side a1 a3 b1 b3 (right_ne_zero_of_mul hne)
  have hIB : max (min a2 b2 - max a0 b0) 0 * max (min a3 b3 - max a1 b1) 0 ≤ (b2 - b0) * (b3 - b1) :=
    mul_le_mul hw hh (le_max_right _ _) ((le_max_right _ _).trans hw)
  clear hne hz hw hh
  generalize max (min a2 b2 - max a0 b0) 0 * max (min a3 b3 - max a1 b1) 0 = I at *
  generalize (a2 - a0) * (a3 - a1) = A at *
  generalize (b2 - b0) * (b3 - b1) = B at *
  have hA0 : 0 < A := by
    have := lt_of_lt_of_le eps_pos hA
    rw [hAa] at this
    exact_mod_cast this
  have hU : eps ≤ ((A + B - I : ℝ) : EReal) := by
    refine hA.trans ?_
    rw [hAa]
    exact EReal.coe_le_coe_iff.mpr (by linarith)
  have hpos : 0 < A + B - I := by linarith
  have e : iou a b = ((I / (A + B - I) : ℝ) : EReal) := by
    unfold iou
    rw [hI, hAa, hAb, ← EReal.coe_add, ← EReal.coe_sub, max_eq_left hU, div_coe _ _ hpos]
  refine ⟨Or.inl ?_, I / (A + B - I), div_nonneg hI0 hpos.le, e⟩
  unfold ratio
  rw [e, hI, hAa, hAb, ← EReal.coe_sub, ← EReal.coe_add, div_coe _ _ (by linarith), add_sub_assoc]

/-- The box of zeros meets no box. -/
theorem inter_zero (a : Fin 4 → EReal) : inter a (fun _ => 0) = 0 := by
  have h : ∀ x y : EReal, max (min x 0 - max y 0) 0 = 0 := fun x y => by
    refine max_eq_right ?_
    have h1 : min x 0 ≤ 0 := min_le_right _ _
    have h2 : (0 : EReal) ≤ max y 0 := le_max_right _ _
    calc min x 0 - max y 0 ≤ 0 - 0 := EReal.sub_le_sub h1 h2
      _ = 0 := by simp
  unfold inter
  rw [h, h, mul_zero]

/-- The box of zeros overlaps no box. -/
theorem ratio_zero (a : Fin 4 → EReal) (hA : eps ≤ area a) : ratio a (fun _ => 0) = 0 := by
  have h : area a ≠ 0 := (lt_of_lt_of_le eps_pos hA).ne'
  have e : area (fun _ => (0 : EReal)) = 0 := by simp [area]
  unfold ratio Ideal.div
  rw [inter_zero, e, sub_zero, add_zero, if_neg h, zero_mul]

end Cert.Loss

end
-- ==== Proof.Loss.First.lean ====
/- The first place of the greatest value, and the way the kernel finds it: eight interleaved runs, each keeping its own
   greatest value and the chunk where it was met first, then the least place among the runs that hold the greatest. -/
module

public import Idealize.ShloMosaic.Lib.Pointwise
public import Idealize.ShloMosaic.Lib.Routing.Words

@[expose] public section

noncomputable section

namespace Cert.Loss

open Idealize.ShloMosaic

/-- `g` is the first place where `f` is greatest. -/
def IsFirst {n : ℕ} (f : Fin n → EReal) (g : Fin n) : Prop := ∀ h, f h < f g ∨ (f h = f g ∧ g ≤ h)

theorem IsFirst.unique {n : ℕ} {f : Fin n → EReal} {g g' : Fin n} (h : IsFirst f g) (h' : IsFirst f g') : g = g' := by
  rcases h g' with l | ⟨e, l⟩
  · rcases h' g with l' | ⟨e', _⟩
    · exact absurd (l.trans l') (lt_irrefl _)
    · rw [e'] at l; exact absurd l (lt_irrefl _)
  · rcases h' g with l' | ⟨_, l'⟩
    · rw [e] at l'; exact absurd l' (lt_irrefl _)
    · exact le_antisymm l l'

theorem IsFirst.le {n : ℕ} {f : Fin n → EReal} {g : Fin n} (h : IsFirst f g) (k : Fin n) : f k ≤ f g := by
  rcases h k with l | ⟨e, _⟩
  · exact l.le
  · exact e.le

theorem exists_first {n : ℕ} [NeZero n] (f : Fin n → EReal) : ∃ g, IsFirst f g := by
  obtain ⟨m, hm⟩ := Finite.exists_max f
  have hne : (Finset.univ.filter fun g => f g = f m).Nonempty := ⟨m, by simp⟩
  refine ⟨(Finset.univ.filter fun g => f g = f m).min' hne, fun h => ?_⟩
  have hg : f ((Finset.univ.filter fun g => f g = f m).min' hne) = f m :=
    (Finset.mem_filter.mp (Finset.min'_mem _ hne)).2
  rw [hg]
  rcases (hm h).lt_or_eq with l | e
  · exact Or.inl l
  · exact Or.inr ⟨e, Finset.min'_le _ _ (by simp [e])⟩

/-- The first place of the greatest value. -/
def first (f : Fin 100 → EReal) : Fin 100 := Classical.choose (exists_first f)

theorem first_isFirst (f : Fin 100 → EReal) : IsFirst f (first f) := Classical.choose_spec (exists_first f)

/-- One run over the chunks: the greatest value so far and the number of the chunk where it was met first. -/
def walk (u : ℕ → EReal) (z : EReal) : ℕ → EReal × BitVec 32
  | 0 => (z, 0#32)
  | k + 1 => (if (walk u z k).1 < u k then u k else (walk u z k).1, if (walk u z k).1 < u k then BitVec.ofNat 32 k else (walk u z k).2)

/-- Values that are not negative, some of them replaced by one less than everything: the run holds the first greatest value it
    met, or, where it met none that is not negative, what it started from. -/
theorem walk_spec (u : ℕ → EReal) (z : EReal) (hz : z < 0) (hu : ∀ k, 0 ≤ u k ∨ u k = ⊥) (k : ℕ) :
    (∃ c < k, walk u z k = (u c, BitVec.ofNat 32 c) ∧ 0 ≤ u c ∧ ∀ d < k, u d < u c ∨ (u d = u c ∧ c ≤ d))
    ∨ (walk u z k = (z, 0#32) ∧ ∀ d < k, u d = ⊥) := by
  induction k with
  | zero => exact Or.inr ⟨rfl, fun d hd => absurd hd (Nat.not_lt_zero d)⟩
  | succ k ih =>
    rcases ih with ⟨c, hc, e, h0, h⟩ | ⟨e, h⟩
    · left
      by_cases l : u c < u k
      · refine ⟨k, Nat.lt_succ_self k, by simp [walk, e, l], h0.trans l.le, fun d hd => ?_⟩
        rcases Nat.lt_succ_iff_lt_or_eq.mp hd with hd | rfl
        · left
          rcases h d hd with l' | ⟨e', _⟩
          · exact l'.trans l
          · rw [e']; exact l
        · exact Or.inr ⟨rfl, le_refl _⟩
      · refine ⟨c, hc.trans (Nat.lt_succ_self k), by simp [walk, e, l], h0, fun d hd => ?_⟩
        rcases Nat.lt_succ_iff_lt_or_eq.mp hd with hd | rfl
        · exact h d hd
        · rcases (not_lt.mp l).lt_or_eq with l' | e'
          · exact Or.inl l'
          · exact Or.inr ⟨e', hc.le⟩
    · rcases hu k with h0 | hb
      · left
        have l : z < u k := hz.trans_le h0
        refine ⟨k, Nat.lt_succ_self k, by simp [walk, e, l], h0, fun d hd => ?_⟩
        rcases Nat.lt_succ_iff_lt_or_eq.mp hd with hd | rfl
        · rw [h d hd]
          exact Or.inl (lt_of_lt_of_le EReal.bot_lt_zero h0)
        · exact Or.inr ⟨rfl, le_refl _⟩
      · right
        refine ⟨by simp [walk, e, hb], fun d hd => ?_⟩
        rcases Nat.lt_succ_iff_lt_or_eq.mp hd with hd | rfl
        · exact h d hd
        · exact hb

/-- The greatest of a family that has a greatest member. -/
theorem fold_max_eq {ι : Type} [Fintype ι] (z : EReal) (v : ι → EReal) (i : ι) (hz : z ≤ v i) (h : ∀ j, v j ≤ v i) :
    Finset.fold max z v Finset.univ = v i := by
  refine le_antisymm ?_ ?_
  · exact Finset.fold_max_le (v i) |>.mpr ⟨hz, fun j _ => h j⟩
  · exact Finset.le_fold_max (v i) |>.mpr (Or.inr ⟨i, Finset.mem_univ _, le_refl _⟩)

theorem minsi_word (a b : ℕ) (ha : a < 2 ^ 31) (hb : b < 2 ^ 31) :
    IntOp.minsi (BitVec.ofNat 32 a) (BitVec.ofNat 32 b) = BitVec.ofNat 32 (min a b) := by
  have h := WordCmp.toInt_ofNat_of_lt (w := 32) ha
  have h' := WordCmp.toInt_ofNat_of_lt (w := 32) hb
  unfold IntOp.minsi
  rw [BitVec.slt, h, h']
  by_cases l : a < b
  · simp [l, l.le]
  · simp [l, not_lt.mp l]

/-- The least of a family of small words that has a least member. -/
theorem fold_min_word {ι : Type} [Fintype ι] [DecidableEq ι] (v : ι → ℕ) (hv : ∀ j, v j < 2 ^ 31) (i : ι) (h : ∀ j, v i ≤ v j) :
    Finset.fold IntOp.minsi (2147483647#32) (fun j => BitVec.ofNat 32 (v j)) Finset.univ = BitVec.ofNat 32 (v i) := by
  have key : ∀ s : Finset ι, Finset.fold min (2147483647 : ℕ) v s < 2 ^ 31
      ∧ Finset.fold IntOp.minsi (2147483647#32) (fun j => BitVec.ofNat 32 (v j)) s = BitVec.ofNat 32 (Finset.fold min (2147483647 : ℕ) v s) := by
    intro s
    induction s using Finset.induction_on with
    | empty => exact ⟨by simp, by simp⟩
    | insert a s ha ih =>
      rw [Finset.fold_insert ha, Finset.fold_insert ha, ih.2, minsi_word _ _ (hv a) ih.1]
      exact ⟨lt_of_le_of_lt (min_le_left _ _) (hv a), rfl⟩
  rw [(key Finset.univ).2]
  congr 1
  refine le_antisymm ?_ ?_
  · exact Finset.fold_min_le (v i) |>.mpr (Or.inr ⟨i, Finset.mem_univ _, le_refl _⟩)
  · exact Finset.le_fold_min (v i) |>.mpr ⟨Nat.le_of_lt_succ (hv i), fun j _ => h j⟩

/-- The values of the hundred places followed by zeros. -/
def padded (f : Fin 100 → EReal) (i : ℕ) : EReal := if h : i < 100 then f ⟨i, h⟩ else 0

/-- Eight interleaved runs of thirteen chunks find the greatest value, and its first place where it is positive. They may read
    a value less than everything in place of a zero. -/
theorem runs_find (f v : Fin 100 → EReal) (hf : ∀ g, 0 ≤ f g) (hv : ∀ g, v g = f g ∨ (v g = ⊥ ∧ f g = 0)) (z b : EReal) (hz : z < 0) (hb : b ≤ 0)
    (s : Fin 8 → EReal × BitVec 32) (hs : ∀ r : Fin 8, s r = walk (fun k => padded v (8 * k + r.val)) z 13) :
    Finset.fold max b (fun r => (s r).1) Finset.univ = f (first f)
    ∧ (0 < f (first f) → Finset.fold IntOp.minsi (2147483647#32)
        (fun r => if (s r).1 = f (first f) then IntOp.addi (IntOp.muli (s r).2 8#32) (BitVec.ofNat 32 r.val) else 104#32) Finset.univ
      = BitVec.ofNat 32 (first f).val) := by
  have hg := first_isFirst f
  generalize first f = g at hg ⊢
  have hvF : ∀ i, padded v i = padded f i ∨ (padded v i = ⊥ ∧ padded f i = 0) := fun i => by
    unfold padded
    split
    · exact hv _
    · exact Or.inl rfl
  have hF : ∀ i, 0 ≤ padded f i := fun i => by unfold padded; split <;> [exact hf _; exact le_refl _]
  have hV : ∀ i, 0 ≤ padded v i ∨ padded v i = ⊥ := fun i => (hvF i).imp (fun e => by rw [e]; exact hF i) fun e => e.1
  have hle' : ∀ i, padded f i ≤ f g := fun i => by unfold padded; split <;> [exact hg.le _; exact hf g]
  have hle : ∀ i, padded v i ≤ f g := fun i => by
    rcases hvF i with e | ⟨e, _⟩
    · rw [e]; exact hle' i
    · rw [e]; exact bot_le
  have hlt : 0 < f g → ∀ i < g.val, padded v i < f g := fun h0 i hi => by
    rcases hvF i with e | ⟨e, _⟩
    · have h100 : i < 100 := hi.trans g.isLt
      rw [e]
      unfold padded
      rw [dif_pos h100]
      rcases hg ⟨i, h100⟩ with l | ⟨_, l⟩
      · exact l
      · exact absurd hi (not_lt.mpr l)
    · rw [e]; exact EReal.bot_lt_zero.trans h0
  have hgF : 0 < f g → padded v g.val = f g := fun h0 => by
    have e : padded f g.val = f g := by unfold padded; rw [dif_pos g.isLt]
    rcases hvF g.val with e' | ⟨_, e'⟩
    · rw [e', e]
    · rw [e] at e'; exact absurd e' h0.ne'
  have hw : ∀ r : Fin 8, _ := fun r => walk_spec (fun k => padded v (8 * k + r.val)) z hz (fun k => hV _) 13
  have hr : g.val % 8 < 8 := Nat.mod_lt _ (by norm_num)
  have hq : g.val / 8 < 13 := by have := g.isLt; omega
  have hgq : 8 * (g.val / 8) + g.val % 8 = g.val := by omega
  -- the run that holds the first greatest value, if it is positive
  have hrow : 0 < f g → s ⟨g.val % 8, hr⟩ = (f g, BitVec.ofNat 32 (g.val / 8)) := fun h0 => by
    rw [hs]
    rcases hw ⟨g.val % 8, hr⟩ with ⟨c, hc, e, _, h⟩ | ⟨_, h⟩
    · have h' := h (g.val / 8) hq
      dsimp only at h' e
      rw [hgq, hgF h0] at h'
      have ec : c = g.val / 8 := by
        rcases h' with l | ⟨e, l⟩
        · exact absurd l (not_lt.mpr (hle _))
        · rcases l.lt_or_eq with l' | e'
          · exact absurd e.symm (hlt h0 _ (by omega)).ne
          · exact e'
      rw [e, ec, hgq, hgF h0]
    · have h' := h (g.val / 8) hq
      dsimp only at h'
      rw [hgq, hgF h0] at h'
      exact absurd h' (EReal.bot_lt_zero.trans h0).ne'
  have htop : ∀ r, (s r).1 ≤ f g := fun r => by
    rw [hs]
    rcases hw r with ⟨c, _, e, _, _⟩ | ⟨e, _⟩
    · rw [e]; exact hle _
    · rw [e]; exact hz.le.trans (hf g)
  -- some run reaches it
  have hsome : ∃ r, (s r).1 = f g := by
    rcases (hf g).lt_or_eq with h0 | h0
    · exact ⟨_, by rw [hrow h0]⟩
    · refine ⟨4, le_antisymm (htop 4) ?_⟩
      have h100 : padded v 100 = 0 := by unfold padded; rw [dif_neg (by norm_num)]
      rw [← h0, hs]
      rcases hw 4 with ⟨c, _, e, hc, _⟩ | ⟨_, h⟩
      · rw [e]; exact hc
      · exact absurd (h100.symm.trans (h 12 (by norm_num))) (by simp)
  refine ⟨?_, fun h0 => ?_⟩
  · obtain ⟨r, hr⟩ := hsome
    rw [fold_max_eq b (fun r => (s r).1) r (by rw [hr]; exact hb.trans (hf g)) (fun j => by rw [hr]; exact htop j)]
    exact hr
  · have hrow := hrow h0
    have hc : ∀ r, ∃ n, n < 2 ^ 31 ∧ g.val ≤ n ∧ (if (s r).1 = f g then IntOp.addi (IntOp.muli (s r).2 8#32) (BitVec.ofNat 32 r.val) else 104#32) = BitVec.ofNat 32 n
        ∧ (r = ⟨g.val % 8, hr⟩ → n = g.val) := fun r => by
      split_ifs with h
      · rw [hs] at h ⊢
        rcases hw r with ⟨c, hc, e, _, _⟩ | ⟨e, _⟩
        · refine ⟨8 * c + r.val, by have := r.isLt; omega, ?_, ?_, ?_⟩
          · by_contra hn
            rw [e] at h
            exact (hlt h0 _ (not_le.mp hn)).ne h
          · rw [e]
            show BitVec.ofNat 32 c * 8#32 + BitVec.ofNat 32 r.val = _
            rw [show (8#32) = BitVec.ofNat 32 8 from rfl, ← BitVec.ofNat_mul, ← BitVec.ofNat_add, Nat.mul_comm]
          · intro er
            have e1 := (hs r).symm.trans (er ▸ hrow)
            rw [e] at e1
            have e2 := congrArg BitVec.toNat (congrArg Prod.snd e1)
            dsimp only at e2
            rw [BitVec.toNat_ofNat, BitVec.toNat_ofNat, Nat.mod_eq_of_lt (by omega), Nat.mod_eq_of_lt (by omega)] at e2
            rw [er, e2]
            exact hgq
        · rw [e] at h
          exact absurd h (hz.trans h0).ne
      · refine ⟨104, by norm_num, by have := g.isLt; omega, rfl, fun er => absurd ?_ h⟩
        rw [er, hrow]
    choose n hn hgn hfun hat using hc
    rw [funext hfun, fold_min_word _ hn ⟨g.val % 8, hr⟩ (fun j => by rw [hat _ rfl]; exact hgn j), hat _ rfl]

end Cert.Loss

end
-- ==== Proof.Loss.Image.lean ====
/- The losses of one image in plain mathematics: every predicted box is matched with the ground-truth box it overlaps
   most (the first of them), the matched and the background boxes give the cross-entropy, the matched ones the
   smooth-L1 distance. With the facts on sums, logarithms and words that both programs need. -/
module

public import proofs.«01_k».proof.Proof.Loss.Overlap
public import proofs.«01_k».proof.Proof.Loss.First

@[expose] public section

noncomputable section

namespace Cert.Loss

open Idealize.ShloMosaic

/-- The ground-truth box a predicted box is matched with. -/
def matched (a : Fin 4 → EReal) (g : Fin 100 → Fin 4 → EReal) : Fin 100 := first fun h => iou a (g h)

/-- Its overlap. -/
def best (a : Fin 4 → EReal) (g : Fin 100 → Fin 4 → EReal) : EReal := iou a (g (matched a g))

/-- The class a predicted box should have: its match's label where the overlap is large, else background. -/
def label (a : Fin 4 → EReal) (g : Fin 100 → Fin 4 → EReal) (l : Fin 100 → BitVec 32) : Fin 81 :=
  if half ≤ best a g then Fin.ofNat 81 (l (matched a g)).toNat else 0

/-- The predicted boxes that count in the classification loss. -/
def Counts (a : Fin 4 → EReal) (g : Fin 100 → Fin 4 → EReal) : Prop := half ≤ best a g ∨ best a g < low

open Classical in
/-- The cross-entropy of one predicted box. -/
def entropy (x : Fin 81 → EReal) (a : Fin 4 → EReal) (g : Fin 100 → Fin 4 → EReal) (l : Fin 100 → BitVec 32) : EReal :=
  if Counts a g then Ideal.log (∑ k, Ideal.exp (x k)) - x (label a g l) else 0

/-- Smooth L1 of one coordinate. -/
def smooth (d : EReal) : EReal := if max d (-d) < 1 then half * d * d else max d (-d) - half

open Classical in
/-- The smooth-L1 distance of one predicted box to its match. -/
def distance (a : Fin 4 → EReal) (g : Fin 100 → Fin 4 → EReal) : EReal :=
  if half ≤ best a g then ∑ k, smooth (a k - g (matched a g) k) else 0

open Classical in
/-- A property counted: 1 where it holds. -/
def one (P : Prop) : EReal := if P then 1 else 0

/-! ## Real numbers among the extended ones -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logarithm of a sum of exponentials does not depend on the shift it is taken with. -/
theorem log_sum_shift (x : Fin 81 → ℝ) (M : ℝ) :
    Ideal.log (∑ k, Ideal.exp ((x k : EReal) - (M : EReal))) = ((Real.log (∑ k, Real.exp (x k)) - M : ℝ) : EReal) := by
  have hpos : 0 < ∑ k, Real.exp (x k) := Finset.sum_pos (fun k _ => Real.exp_pos _) ⟨0, Finset.mem_univ _⟩
  have e : ∑ k, Ideal.exp ((x k : EReal) - (M : EReal)) = (((∑ k, Real.exp (x k)) * Real.exp (-M) : ℝ) : EReal) := by
    rw [Finset.sum_mul, coe_sum]
    refine Finset.sum_congr rfl fun k _ => ?_
    rw [← EReal.coe_sub, Ideal.exp_coe, sub_eq_add_neg, Real.exp_add]
  rw [e, Ideal.log_coe, if_neg (not_le.mpr (mul_pos hpos (Real.exp_pos _))), Real.log_mul hpos.ne' (Real.exp_pos _).ne', Real.log_exp,
    sub_eq_add_neg]

theorem log_sum (x : Fin 81 → ℝ) : Ideal.log (∑ k, Ideal.exp (x k : EReal)) = ((Real.log (∑ k, Real.exp (x k)) : ℝ) : EReal) := by
  have h := log_sum_shift x 0
  simpa using h

/-- The cross-entropy as the kernel takes it, with a shift added back. -/
theorem entropy_added (x : Fin 81 → EReal) (hx : ∀ k, ∃ r : ℝ, x k = r) (M : EReal) (hM : ∃ r : ℝ, M = r) (j : Fin 81) :
    M + Ideal.log (∑ k, Ideal.exp (x k - M)) - x j = Ideal.log (∑ k, Ideal.exp (x k)) - x j := by
  choose r hr using hx
  obtain ⟨M, rfl⟩ := hM
  simp only [hr]
  rw [log_sum_shift, log_sum, ← EReal.coe_add, add_sub_cancel]

/-- The cross-entropy as the negated logarithm of a softmax. -/
theorem entropy_negated (x : Fin 81 → EReal) (hx : ∀ k, ∃ r : ℝ, x k = r) (M : EReal) (hM : ∃ r : ℝ, M = r) (j : Fin 81) :
    -((x j - M) - Ideal.log (∑ k, Ideal.exp (x k - M))) = Ideal.log (∑ k, Ideal.exp (x k)) - x j := by
  choose r hr using hx
  obtain ⟨M, rfl⟩ := hM
  simp only [hr]
  rw [log_sum_shift, log_sum, ← EReal.coe_sub, ← EReal.coe_sub, ← EReal.coe_sub, ← EReal.coe_neg]
  congr 1
  ring

/-- The greatest of finitely many real numbers is real. -/
theorem fold_max_real {ι : Type} [Fintype ι] [Nonempty ι] (v : ι → EReal) (hv : ∀ i, ∃ r : ℝ, v i = r) :
    ∃ r : ℝ, Finset.fold max ⊥ v Finset.univ = r := by
  obtain ⟨i, hi⟩ := Finite.exists_max v
  rw [fold_max_eq ⊥ v i bot_le hi]
  exact hv i

/-! ## Words -/

theorem neg_inf : Ideal.ofBits .f32 4286578688#32 = ⊥ := by
  simp [Ideal.ofBits, Ideal.ieee]

theorem pos_inf : Ideal.ofBits .f32 0x7F800000#32 = ⊤ := by
  simp [Ideal.ofBits, Ideal.ieee]

theorem four : Ideal.ofBits .f32 0x40800000#32 = ((4 : ℝ) : EReal) := by
  simp [Ideal.ofBits, Ideal.ieee, -EReal.coe_mul]; norm_num

theorem half_pos : 0 < half := by
  rw [half_eq]
  exact EReal.coe_pos.mpr (by norm_num)

theorem minus_one_neg : Ideal.ofBits .f32 0xBF800000#32 < 0 := by
  have : Ideal.ofBits .f32 0xBF800000#32 = ((-1 : ℝ) : EReal) := by
    simp [Ideal.ofBits, Ideal.ieee, -EReal.coe_mul, -EReal.coe_neg]; norm_num
  rw [this]
  exact_mod_cast (by norm_num : (-1 : ℝ) < 0)

/-- A sum that a comparison of words reduces to one term. -/
theorem sum_hit {n : ℕ} (hn : n ≤ 2 ^ 32) (v : Fin n → EReal) (j : Fin n) :
    ∑ x, Scalar.select (IntOp.cmpi .eq (BitVec.ofNat 32 x.val) (BitVec.ofNat 32 j.val)) (v x) 0 = v j := by
  rw [Finset.sum_eq_single j]
  · simp [IntOp.cmpi, Scalar.select]
  · intro x _ hx
    have : BitVec.ofNat 32 x.val ≠ BitVec.ofNat 32 j.val := fun h => hx (Fin.ext (by
      have h' := congrArg BitVec.toNat h
      rwa [BitVec.toNat_ofNat, BitVec.toNat_ofNat, Nat.mod_eq_of_lt (x.isLt.trans_le hn), Nat.mod_eq_of_lt (j.isLt.trans_le hn)] at h'))
    rw [show IntOp.cmpi .eq (BitVec.ofNat 32 x.val) (BitVec.ofNat 32 j.val) = 0#1 from by
      show BitVec.ofBool (BitVec.ofNat 32 x.val == BitVec.ofNat 32 j.val) = 0#1
      rw [beq_false_of_ne this]; rfl]
    simp [Scalar.select]
  · intro h; exact absurd (Finset.mem_univ _) h

/-- A small word that went through a real number is the same word. -/
theorem fptosi_word (w : BitVec 32) (h : w.toNat < 81) : Ideal.fptosi 32 ((w.toInt : ℝ) : EReal) = BitVec.ofNat 32 w.toNat := by
  have hw : w.toInt = (w.toNat : ℤ) := by rw [BitVec.toInt_eq_toNat_cond]; split <;> omega
  rw [hw]
  unfold Ideal.fptosi
  have h0 : (0 : ℝ) ≤ ((w.toNat : ℤ) : ℝ) := by exact_mod_cast Nat.zero_le _
  rw [Ideal.toIntClamped_coe, if_pos h0, Int.floor_intCast]
  rw [min_eq_right (by push_cast; norm_num; omega), max_eq_right (by push_cast; omega)]
  rw [BitVec.ofInt_natCast]

theorem fptosi_zero : Ideal.fptosi 32 (0 : EReal) = BitVec.ofNat 32 0 := by
  have := fptosi_word 0#32 (by norm_num)
  simpa using this

/-- A sum of ones counts. -/
theorem sum_one {n : ℕ} (P : Fin n → Prop) [DecidablePred P] :
    ∑ p, one (P p) = (((Finset.univ.filter P).card : ℝ) : EReal) := by
  rw [Finset.card_filter, Nat.cast_sum, coe_sum]
  refine Finset.sum_congr rfl fun p _ => ?_
  unfold one
  by_cases h : P p <;> simp [h]

end Cert.Loss

end
-- ==== Proof.Loss.Spec.lean ====
/- The two losses as mathematics: of every image the mean cross-entropy of the boxes that count and the mean smooth-L1
   distance of the matched ones; and what is asked of the inputs. -/
module

public import proofs.«01_k».proof.Proof.Loss.Image

@[expose] public section

noncomputable section

namespace Cert.Loss

open Idealize.ShloMosaic

variable (x : Fin 16 → Fin 20000 → Fin 81 → EReal) (a : Fin 16 → Fin 20000 → Fin 4 → EReal)
  (l : Fin 16 → Fin 100 → BitVec 32) (g : Fin 16 → Fin 100 → Fin 4 → EReal)

/-- What is asked of the inputs: finite logits, predicted boxes that are finite and not too small, labels
    that are classes. -/
structure Inputs : Prop where
  logits : ∀ b p k, ∃ r : ℝ, x b p k = r
  box : ∀ b p k, ∃ r : ℝ, a b p k = r
  size : ∀ b p, eps ≤ area (a b p)
  labels : ∀ b h, (l b h).toNat < 81

open Classical in
/-- How many boxes of an image count. -/
def counted (b : Fin 16) : ℕ := (Finset.univ.filter fun p => Counts (a b p) (g b)).card

open Classical in
/-- How many boxes of an image are matched. -/
def hits (b : Fin 16) : ℕ := (Finset.univ.filter fun p => half ≤ best (a b p) (g b)).card

/-- The summed cross-entropy of an image. -/
def entropies (b : Fin 16) : EReal := ∑ p, entropy (x b p) (a b p) (g b) (l b)

/-- The summed distance of an image. -/
def distances (b : Fin 16) : EReal := ∑ p, distance (a b p) (g b)

/-- The classification loss. -/
def classLoss : EReal := ∑ b, if 0 < counted a g b then Ideal.div (entropies x a l g b) ((counted a g b : ℝ) : EReal) else 0

/-- The regression loss. -/
def boxLoss : EReal := ∑ b, if 0 < hits a g b then Ideal.div (distances a g b) ((4 * (hits a g b : ℝ) : ℝ) : EReal) else 0

/-- No image has more boxes than there are. -/
theorem counted_le (b : Fin 16) : counted a g b ≤ 20000 := by
  classical
  exact (Finset.card_filter_le _ _).trans (by simp)
theorem hits_le (b : Fin 16) : hits a g b ≤ 20000 := by
  classical
  exact (Finset.card_filter_le _ _).trans (by simp)

end Cert.Loss
-- ==== Proof.Loss.Asked.lean ====
/- What the precondition asks, entry by entry: each of its reductions is one, so each entry it reads is. -/
module

public import proofs.«01_k».proof.Pre_well_formed
public import proofs.«01_k».proof.Proof.Gen.Pre_well_formed
public import proofs.«01_k».proof.Proof.Loss.Spec
public import Idealize.ShloMosaic.Lib.ReduceAll

@[expose] public section

set_option maxRecDepth 16384

noncomputable section

namespace Cert.Loss.Asked

open Idealize.ShloMosaic Cert.Pre_well_formed

variable (x : FVec Ideal S16x20000x81 .f32) (a : FVec Ideal S16x20000x4 .f32) (l : IVec S16x100 32) (g : FVec Ideal S16x100x4 .f32)

/-- A number whose size is below infinity is real. -/
theorem real_of_lt (v : EReal) (h : max v (-v) < ⊤) : ∃ r : ℝ, v = r := by
  induction v with
  | bot => simp at h
  | top => simp at h
  | coe r => exact ⟨r, rfl⟩

/-- A comparison whose bit is set holds. -/
theorem of_bit (P : Prop) [Decidable P] (h : BitVec.ofBool (decide P) = 1#1) : P := by
  by_contra h'
  simp [h'] at h

/-- An entry of an array whose sizes are all below infinity is real. -/
theorem real_entry {s : Shape} (X : FVec Ideal s .f32) (w : S_.BroadcastsInDim s (![] : Fin 0 → Fin s.rank)) (i : s.Idx)
    (h : cmpf .olt (Host.absf X) (broadcastInDim s ![] w (constant S_ .f32 0x7F800000#32)) i = 1#1) : ∃ r : ℝ, X i = r := by
  have h' := of_bit (max (X i) (-X i) < Ideal.ofBits .f32 0x7F800000#32) h
  rw [pos_inf] at h'
  exact real_of_lt _ h'

theorem label_entry (w : BitVec 32) (h : IntOp.andi (IntOp.cmpi .sge w 0#32) (IntOp.cmpi .slt w 81#32) = 1#1) : w.toNat < 81 := by
  obtain ⟨h0, h1⟩ := IntOp.andi_eq_one.1 h
  have h0 := IntOp.cmpi_sge.1 h0
  have h1 := IntOp.cmpi_slt.1 h1
  rw [show (0#32).toInt = 0 from by decide] at h0
  rw [show (81#32).toInt = 81 from by decide] at h1
  rw [BitVec.toInt_eq_toNat_cond] at h0 h1
  split at h0 <;> split at h1 <;> omega

/-- The area of a box of an array none of whose areas is below the bound. -/
theorem area_a (w0 : S16x20000x4.Slices ![0, 0, 0] S16x20000x1) (w1 : S16x20000x4.Slices ![0, 0, 1] S16x20000x1) (w2 : S16x20000x4.Slices ![0, 0, 2] S16x20000x1)
    (w3 : S16x20000x4.Slices ![0, 0, 3] S16x20000x1) (w : S16x20000x1.ShapeCasts S16x20000) (v : S_.BroadcastsInDim S16x20000 (![] : Fin 0 → Fin 2)) (b : Fin 16) (p : Fin 20000)
    (h : cmpf .oge (mulf
          (subf (shapeCast S16x20000 (extractStridedSlice S16x20000x1 ![0, 0, 2] a w2) w) (shapeCast S16x20000 (extractStridedSlice S16x20000x1 ![0, 0, 0] a w0) w))
          (subf (shapeCast S16x20000 (extractStridedSlice S16x20000x1 ![0, 0, 3] a w3) w) (shapeCast S16x20000 (extractStridedSlice S16x20000x1 ![0, 0, 1] a w1) w)))
        (broadcastInDim S16x20000 ![] v (constant S_ .f32 0x358637BD#32)) (ix2 b p) = 1#1) :
    eps ≤ area fun k => a (ix3 b p k) := by
  have q := h
  pointwise at q
  exact of_bit _ q

instance : Subsingleton S_.Idx := ⟨fun i j => funext fun k => k.elim0⟩

theorem inputs_of (h : fn (F := Ideal) x a l g = fun _ => 1#1) :
    Inputs (fun b p k => x (ix3 b p k)) (fun b p k => a (ix3 b p k)) (fun b k => l (ix2 b k)) := by
  have e := congrFun h ix0
  unfold fn fn_part1 at e
  obtain ⟨e, hl⟩ := IntOp.andi_eq_one.1 e
  obtain ⟨e, ha⟩ := IntOp.andi_eq_one.1 e
  obtain ⟨xf, af⟩ := IntOp.andi_eq_one.1 e
  have hl := Host.reduce_andi_all _ _ _ _ _ hl
  have ha := Host.reduce_andi_all _ _ _ _ _ ha
  have af := Host.reduce_andi_all _ _ _ _ _ af
  have xf := Host.reduce_andi_all _ _ _ _ _ xf
  exact ⟨fun b p k => real_entry x _ _ (xf _),
    fun b p k => real_entry a _ _ (af _),
    fun b p => area_a a _ _ _ _ _ _ b p (ha _),
    fun b k => label_entry _ (hl (ix2 b k))⟩

end Cert.Loss.Asked
-- ==== Proof.Loss.Match.lean ====
/- What the kernel's body keeps while it walks the ground-truth boxes in chunks of eight: the running maxima of the
   overlaps and the chunks where they were met, as one chain of thirteen equal steps. -/
module

public import proofs.«01_k».proof.Proof.Gen.KernelIdeal.Skeleton
public import Idealize.ShloMosaic.Lib.Pointwise

@[expose] public section

set_option maxRecDepth 16384

noncomputable section

namespace Cert.Loss

open Idealize.ShloMosaic Idealize.SL.Sem Cert.KernelIdeal Cert.KernelIdeal.Gen

variable {F : FTy → Type} [FloatOps F]

/-- The overlaps (intersection over union) of eight consecutive ground-truth boxes with every predicted box. -/
def iouV (v5 : FVec F S104x4 .f32) (v8 v9 v10 v11 v14 : FVec F S1x10000 .f32) (o : ℕ)
    (h : S104x4.Slices ![o, 0] S8x4) : FVec F S8x10000 .f32 :=
  let g := extractStridedSlice S8x4 ![o, 0] v5 h
  let x1 := extractStridedSlice S8x1 ![0, 0] g slices_S8x4_o0_0_S8x1
  let y1 := extractStridedSlice S8x1 ![0, 1] g slices_S8x4_o0_1_S8x1
  let x2 := extractStridedSlice S8x1 ![0, 2] g slices_S8x4_o0_2_S8x1
  let y2 := extractStridedSlice S8x1 ![0, 3] g slices_S8x4_o0_3_S8x1
  let z := broadcast S8x10000 (Scalar.ofBits (F := F) .f32 0x00000000#32)
  let w := maximumf (subf (minimumf (broadcastTo S8x10000 v10 broadcasts_S1x10000_S8x10000) (broadcastTo S8x10000 x2 broadcasts_S8x1_S8x10000))
    (maximumf (broadcastTo S8x10000 v8 broadcasts_S1x10000_S8x10000) (broadcastTo S8x10000 x1 broadcasts_S8x1_S8x10000))) z
  let t := maximumf (subf (minimumf (broadcastTo S8x10000 v11 broadcasts_S1x10000_S8x10000) (broadcastTo S8x10000 y2 broadcasts_S8x1_S8x10000))
    (maximumf (broadcastTo S8x10000 v9 broadcasts_S1x10000_S8x10000) (broadcastTo S8x10000 y1 broadcasts_S8x1_S8x10000))) z
  let i := mulf w t
  divf i (addf (broadcastTo S8x10000 v14 broadcasts_S1x10000_S8x10000)
    (subf (broadcastTo S8x10000 (mulf (subf x2 x1) (subf y2 y1)) broadcasts_S8x1_S8x10000) i))

/-- One step of the walk: where the chunk's overlap is greater than the running maximum it takes its place, and the
    chunk's number is noted. -/
def stepV (c : BitVec 32) (u : FVec F S8x10000 .f32) (s : FVec F S8x10000 .f32 × IVec S8x10000 32) :
    FVec F S8x10000 .f32 × IVec S8x10000 32 :=
  (select (cmpf .ogt u s.1) u s.1, select (cmpf .ogt u s.1) (broadcast S8x10000 c) s.2)

section
variable (v5 : FVec F S104x4 .f32) (v8 v9 v10 v11 v14 : FVec F S1x10000 .f32)

/-- The walk's state before the first chunk: maxima at −1, chunk numbers at 0. -/
def st0 : FVec F S8x10000 .f32 × IVec S8x10000 32 := (k0_pay13, k0_pay14)
def st1 : FVec F S8x10000 .f32 × IVec S8x10000 32 :=
  stepV 0#32 (iouV v5 v8 v9 v10 v11 v14 0 slices_S104x4_o0_0_S8x4) st0
def st2 : FVec F S8x10000 .f32 × IVec S8x10000 32 :=
  stepV 1#32 (iouV v5 v8 v9 v10 v11 v14 8 slices_S104x4_o8_0_S8x4) (st1 v5 v8 v9 v10 v11 v14)
def st3 : FVec F S8x10000 .f32 × IVec S8x10000 32 :=
  stepV 2#32 (iouV v5 v8 v9 v10 v11 v14 16 slices_S104x4_o16_0_S8x4) (st2 v5 v8 v9 v10 v11 v14)
def st4 : FVec F S8x10000 .f32 × IVec S8x10000 32 :=
  stepV 3#32 (iouV v5 v8 v9 v10 v11 v14 24 slices_S104x4_o24_0_S8x4) (st3 v5 v8 v9 v10 v11 v14)
def st5 : FVec F S8x10000 .f32 × IVec S8x10000 32 :=
  stepV 4#32 (iouV v5 v8 v9 v10 v11 v14 32 slices_S104x4_o32_0_S8x4) (st4 v5 v8 v9 v10 v11 v14)
def st6 : FVec F S8x10000 .f32 × IVec S8x10000 32 :=
  stepV 5#32 (iouV v5 v8 v9 v10 v11 v14 40 slices_S104x4_o40_0_S8x4) (st5 v5 v8 v9 v10 v11 v14)
def st7 : FVec F S8x10000 .f32 × IVec S8x10000 32 :=
  stepV 6#32 (iouV v5 v8 v9 v10 v11 v14 48 slices_S104x4_o48_0_S8x4) (st6 v5 v8 v9 v10 v11 v14)
def st8 : FVec F S8x10000 .f32 × IVec S8x10000 32 :=
  stepV 7#32 (iouV v5 v8 v9 v10 v11 v14 56 slices_S104x4_o56_0_S8x4) (st7 v5 v8 v9 v10 v11 v14)
def st9 : FVec F S8x10000 .f32 × IVec S8x10000 32 :=
  stepV 8#32 (iouV v5 v8 v9 v10 v11 v14 64 slices_S104x4_o64_0_S8x4) (st8 v5 v8 v9 v10 v11 v14)
def st10 : FVec F S8x10000 .f32 × IVec S8x10000 32 :=
  stepV 9#32 (iouV v5 v8 v9 v10 v11 v14 72 slices_S104x4_o72_0_S8x4) (st9 v5 v8 v9 v10 v11 v14)
def st11 : FVec F S8x10000 .f32 × IVec S8x10000 32 :=
  stepV 10#32 (iouV v5 v8 v9 v10 v11 v14 80 slices_S104x4_o80_0_S8x4) (st10 v5 v8 v9 v10 v11 v14)
def st12 : FVec F S8x10000 .f32 × IVec S8x10000 32 :=
  stepV 11#32 (iouV v5 v8 v9 v10 v11 v14 88 slices_S104x4_o88_0_S8x4) (st11 v5 v8 v9 v10 v11 v14)
def st13 : FVec F S8x10000 .f32 × IVec S8x10000 32 :=
  stepV 12#32 (iouV v5 v8 v9 v10 v11 v14 96 slices_S104x4_o96_0_S8x4) (st12 v5 v8 v9 v10 v11 v14)

end

end Cert.Loss

end
-- ==== Proof.Loss.Block.lean ====
/- The tile that one run of the kernel's body computes from its four blocks: the four partial sums in its first rows. -/
module

public import proofs.«01_k».proof.Proof.Loss.Match
public import proofs.«01_k».proof.Proof.KernelIdealRun.Frame
public import Idealize.ShloMosaic.Lib.Pipeline.ValueKit

@[expose] public section

set_option maxRecDepth 16384

noncomputable section

namespace Cert.Loss

open Idealize.ShloMosaic Idealize.ShloMosaic.TcCoe Idealize.SL.Sem Cert.KernelIdeal Cert.KernelIdeal.Gen

variable {F : FTy → Type} [FloatOps F]

section
variable (x0 : Vec F S1x10000x81 .f32) (x1 : Vec F S1x1x4x10000 .f32) (x2 : Vec F S1x104x4 .f32) (x3 : Vec F S1x8x100 .f32)

/-- The walk's state before the last chunk, of a block of predicted boxes and the padded ground-truth boxes. -/
def before12 : FVec F S8x10000 .f32 × IVec S8x10000 32 :=
  st12 (k0_pay6 x2) (k0_pay8 x1) (k0_pay9 x1) (k0_pay10 x1) (k0_pay11 x1) (k0_pay12 x1)

/-- Where the last chunk's overlap is greater. -/
def last : IVec S8x10000 1 :=
  cmpf .ogt (iouV (k0_pay6 x2) (k0_pay8 x1) (k0_pay9 x1) (k0_pay10 x1) (k0_pay11 x1) (k0_pay12 x1) 96 slices_S104x4_o96_0_S8x4)
    (before12 x1 x2).1

/-- The final maxima, row by row. -/
def maxV : FVec F S8x10000 .f32 :=
  (st13 (k0_pay6 x2) (k0_pay8 x1) (k0_pay9 x1) (k0_pay10 x1) (k0_pay11 x1) (k0_pay12 x1)).1

/-- The tile of a block: cross-entropy, valid anchors, smooth-L1 and positive anchors in rows 0 to 3. -/
def updV : FVec F S8x128 .f32 :=
  k0_pay1 (k0_pay119 (k0_pay117 (k0_pay5 x1) (k0_pay7 x3) (before12 x1 x2).2 (last x1 x2) (maxV x1 x2) k0_pay111) (k0_pay118 (maxV x1 x2)))
    (k0_pay120 (k0_pay118 (maxV x1 x2)))
    (k0_pay122 (k0_pay4 x0) (k0_pay115 (maxV x1 x2)) (k0_pay116 (k0_pay7 x3) (before12 x1 x2).2 (last x1 x2) (maxV x1 x2) k0_pay111))
    (k0_pay123 (F := F) (k0_pay115 (maxV x1 x2)))
    (iota .tc S8x128 32 [0] iota_S8x128_d0_w32) k0_pay124

end

variable (m : (ℓ : Loc nD τ sig) → Buf (Elt F) ℓ)

/-- At an image's first block the output block is the tile. -/
theorem out_A (c : Dev nD) (t : Fin cfg0.N) (h0 : t.val % 2 = 0) (h1 : ¬t.val % 2 = 1) :
    outsAt0 m c t.val t.isLt
      = shapeCast S1x8x128 (updV (iblk m c 0 t) (iblk m c 1 t) (iblk m c 2 t) (iblk m c 3 t)) shapeCasts_S8x128_S1x8x128 := by
  rw [outsAt0_A m c t h0 h1]
  frame_out
  rfl

/-- At its second block the tile is added to what is there. -/
theorem out_B (c : Dev nD) (t : Fin cfg0.N) (h0 : ¬t.val % 2 = 0) (h1 : t.val % 2 = 1) :
    outsAt0 m c t.val t.isLt
      = k0_pay3 (F := F) (k0_pay119 (k0_pay117 (k0_pay5 (iblk m c 1 t)) (k0_pay7 (iblk m c 3 t)) (before12 (iblk m c 1 t) (iblk m c 2 t)).2 (last (iblk m c 1 t) (iblk m c 2 t)) (maxV (iblk m c 1 t) (iblk m c 2 t)) k0_pay111) (k0_pay118 (maxV (iblk m c 1 t) (iblk m c 2 t))))
    (k0_pay120 (k0_pay118 (maxV (iblk m c 1 t) (iblk m c 2 t))))
    (k0_pay122 (k0_pay4 (iblk m c 0 t)) (k0_pay115 (maxV (iblk m c 1 t) (iblk m c 2 t))) (k0_pay116 (k0_pay7 (iblk m c 3 t)) (before12 (iblk m c 1 t) (iblk m c 2 t)).2 (last (iblk m c 1 t) (iblk m c 2 t)) (maxV (iblk m c 1 t) (iblk m c 2 t)) k0_pay111))
    (k0_pay123 (F := F) (k0_pay115 (maxV (iblk m c 1 t) (iblk m c 2 t))))
    (iota .tc S8x128 32 [0] iota_S8x128_d0_w32) k0_pay124 (outsAt0 m c (t.val - 1) (Nat.lt_of_le_of_lt (Nat.sub_le _ _) t.isLt)) := by
  rw [outsAt0_B m c t h0 h1]
  frame_out
  rfl

end Cert.Loss

end
-- ==== Proof.Loss.Acc.lean ====
/- The accumulator: what the two runs of the body over one image leave in the output window, and the whole output array. -/
module

public import proofs.«01_k».proof.Proof.Loss.Block
public import Idealize.ShloMosaic.Lib.Pipeline.ValueKit
@[expose] public section
set_option maxRecDepth 16384
noncomputable section
namespace Cert.Loss
open Idealize.ShloMosaic Idealize.ShloMosaic.TcCoe Idealize.SL.Sem Cert.KernelIdeal Cert.KernelIdeal.Gen
variable (m : (ℓ : Loc nD τ sig) → Buf (Elt Ideal) ℓ)

/-- The block each point of the grid reads and writes. -/
theorem idx : ∀ t : Fin cfg0.N, win0_0.index t = ![t.val / 2, t.val % 2, 0] ∧ win0_1.index t = ![t.val / 2, t.val % 2, 0, 0]
    ∧ win0_2.index t = ![t.val / 2, 0, 0] ∧ win0_3.index t = ![t.val / 2, 0, 0] ∧ win0_4.index t = ![t.val / 2, 0, 0] :=
  (by decide +kernel : ∀ t : Fin grid0.N, _)

/-- The four rows of sums one block of boxes adds. -/
def tile (c : Dev nD) (t : Fin cfg0.N) : FVec Ideal S8x128 .f32 := updV (iblk m c 0 t) (iblk m c 1 t) (iblk m c 2 t) (iblk m c 3 t)

/-- After the first block of an image: its own sums. -/
theorem out_even (c : Dev nD) (t : Fin cfg0.N) (h : t.val % 2 = 0) (r : Fin 8) (n : Fin 128) :
    outsAt0 m c t.val t.isLt (ix3 0 r n) = tile m c t (ix2 r n) := by
  rw [out_A m c t h (by omega)]
  unfold tile
  pointwise

/-- After the second block: the sums of both. -/
theorem out_odd (c : Dev nD) (t : Fin cfg0.N) (h : t.val % 2 = 1) (r : Fin 8) (n : Fin 128) :
    outsAt0 m c t.val t.isLt (ix3 0 r n) = tile m c ⟨t.val - 1, Nat.lt_of_le_of_lt (Nat.sub_le _ _) t.isLt⟩ (ix2 r n) + tile m c t (ix2 r n) := by
  rw [out_B m c t (by omega) h, ← out_even m c ⟨t.val - 1, _⟩ (by show (t.val - 1) % 2 = 0; omega)]
  unfold tile updV
  pointwise [k0_pay3]

/-- The output array at the end of the grid: of every image, the sums of its two blocks. -/
theorem final (c : Dev nD) : (dats m 0 c).arrAt 4 (cfgs 0).N
    = fun i : S16x8x128.Idx => tile m c ⟨2 * (i 0).val, by have := (i 0).isLt; show _ < 32; change _ < 16 at this; omega⟩ (ix2 (i 1) (i 2))
      + tile m c ⟨2 * (i 0).val + 1, by have := (i 0).isLt; show _ < 32; change _ < 16 at this; omega⟩ (ix2 (i 1) (i 2)) := by
  refine (dats m 0 c).arrAt_eq_of_covers 4 _ (by decide +kernel) fun t hf y => ?_
  have ht := (flush0_4 t).mp hf
  idx_vars y
  blk_simp
  rw [after0_4]
  obtain rfl : y0 = 0 := Subsingleton.elim _ _
  rw [out_odd m c t ht]
  have h0 : win0_4.index t 0 = t.val / 2 := by rw [(idx t).2.2.2.2]; rfl
  have e : ix2 ((win0_4.blk t).view.emb (ix3 0 y1 y2) 1) ((win0_4.blk t).view.emb (ix3 0 y1 y2) 2) = ix2 y1 y2 := by
    blk_ext [idx t]
  refine congrArg₂ (· + ·) (congrArg₂ (tile m c) (Fin.ext ?_) e.symm) (congrArg₂ (tile m c) (Fin.ext ?_) e.symm)
  · show t.val - 1 = 2 * win0_4.index t 0
    omega
  · show t.val = 2 * win0_4.index t 0 + 1
    omega

end Cert.Loss
-- ==== Proof.Loss.Column.lean ====
/- The match of one column (one predicted box) of a block: what the walk over the chunks leaves, and the ground-truth
   box the kernel reads off it. -/
module

public import proofs.«01_k».proof.Proof.Loss.Block
public import proofs.«01_k».proof.Proof.Loss.Image

@[expose] public section

set_option maxRecDepth 16384

noncomputable section

namespace Cert.Loss

open Idealize.ShloMosaic Idealize.ShloMosaic.TcCoe Idealize.SL.Sem Cert.KernelIdeal Cert.KernelIdeal.Gen

variable (x1 : Vec Ideal S1x1x4x10000 .f32) (x2 : Vec Ideal S1x104x4 .f32)

/-- The predicted box in a column. -/
def boxAt (p : Fin 10000) (k : Fin 4) : EReal := x1 (ix4 0 0 k p)

/-- A chunk's overlaps at an entry, in the kernel's spelling. -/
theorem iouV_at (o : ℕ) (h : S104x4.Slices ![o, 0] S8x4) (r : Fin 8) (p : Fin 10000) (hr : o + r.val < 104) :
    iouV (k0_pay6 x2) (k0_pay8 x1) (k0_pay9 x1) (k0_pay10 x1) (k0_pay11 x1) (k0_pay12 x1) o h (ix2 r p)
      = ratio (boxAt x1 p) (fun k => x2 (ix3 0 ⟨o + r.val, hr⟩ k)) := by
  pointwise [iouV, k0_pay6, k0_pay5, k0_pay8, k0_pay9, k0_pay10, k0_pay11, k0_pay12]
  rfl

/-- One step of the walk at an entry. -/
theorem stepV_at (u : FVec Ideal S8x10000 .f32) (s : FVec Ideal S8x10000 .f32 × IVec S8x10000 32) (w : ℕ → EReal) (z : EReal) (k : ℕ)
    (r : Fin 8) (p : Fin 10000) (hs : (s.1 (ix2 r p), s.2 (ix2 r p)) = walk w z k) (hu : u (ix2 r p) = w k) :
    ((stepV (BitVec.ofNat 32 k) u s).1 (ix2 r p), (stepV (BitVec.ofNat 32 k) u s).2 (ix2 r p)) = walk w z (k + 1) := by
  have h1 : s.1 (ix2 r p) = (walk w z k).1 := congrArg Prod.fst hs
  have h2 : s.2 (ix2 r p) = (walk w z k).2 := congrArg Prod.snd hs
  unfold walk
  rw [← h1, ← h2, ← hu]
  refine Prod.ext ?_ ?_
  · pointwise [stepV]
  · pointwise [stepV]

section
variable (g : Fin 100 → Fin 4 → EReal) (p : Fin 10000)

/-- What is asked of the blocks: the padded ground-truth boxes, and a predicted box that is finite and not too small. -/
structure Fits : Prop where
  real : ∀ (i : ℕ) (h : i < 104) (h' : i < 100) (k : Fin 4), x2 (ix3 0 ⟨i, h⟩ k) = g ⟨i, h'⟩ k
  pad : ∀ (i : ℕ) (h : i < 104) (_ : ¬i < 100) (k : Fin 4), x2 (ix3 0 ⟨i, h⟩ k) = 0
  box : ∀ k, ∃ r : ℝ, boxAt x1 p k = r
  size : eps ≤ area (boxAt x1 p)

variable {x1 x2 g p} (H : Fits x1 x2 g p)
include H

/-- The overlaps of a column with the padded boxes. -/
theorem chunk_at (c : ℕ) (hc : c < 13) (h : S104x4.Slices ![8 * c, 0] S8x4) (r : Fin 8) :
    iouV (k0_pay6 x2) (k0_pay8 x1) (k0_pay9 x1) (k0_pay10 x1) (k0_pay11 x1) (k0_pay12 x1) (8 * c) h (ix2 r p)
      = padded (fun h => ratio (boxAt x1 p) (g h)) (8 * c + r.val) := by
  have hr : 8 * c + r.val < 104 := by omega
  rw [iouV_at x1 x2 (8 * c) h r p hr]
  unfold padded
  by_cases h' : 8 * c + r.val < 100
  · rw [dif_pos h']
    have e : (fun k => x2 (ix3 0 ⟨8 * c + r.val, hr⟩ k)) = g ⟨8 * c + r.val, h'⟩ := funext fun k => H.real _ hr h' k
    rw [e]
  · rw [dif_neg h']
    have e : (fun k => x2 (ix3 0 ⟨8 * c + r.val, hr⟩ k)) = fun _ => 0 := funext fun k => H.pad _ hr h' k
    rw [e]
    exact ratio_zero _ H.size

theorem st0_walk (r : Fin 8) :
    ((st0 (F := Ideal)).1 (ix2 r p), (st0 (F := Ideal)).2 (ix2 r p))
      = walk (fun k => padded (fun h => ratio (boxAt x1 p) (g h)) (8 * k + r.val)) (Ideal.ofBits .f32 0xBF800000#32) 0 := by
  unfold walk st0
  refine Prod.ext ?_ ?_
  · pointwise [k0_pay13]
  · pointwise [k0_pay14]

/-- After the thirteen chunks an entry of the walk is its row's run. -/
theorem st13_walk (r : Fin 8) :
    ((st13 (k0_pay6 x2) (k0_pay8 x1) (k0_pay9 x1) (k0_pay10 x1) (k0_pay11 x1) (k0_pay12 x1)).1 (ix2 r p),
      (st13 (k0_pay6 x2) (k0_pay8 x1) (k0_pay9 x1) (k0_pay10 x1) (k0_pay11 x1) (k0_pay12 x1)).2 (ix2 r p))
      = walk (fun k => padded (fun h => ratio (boxAt x1 p) (g h)) (8 * k + r.val)) (Ideal.ofBits .f32 0xBF800000#32) 13 := by
  have s1 := stepV_at _ st0 _ _ 0 r p (st0_walk H r) (chunk_at H 0 (by norm_num) slices_S104x4_o0_0_S8x4 r)
  have s2 := stepV_at _ _ _ _ 1 r p s1 (chunk_at H 1 (by norm_num) slices_S104x4_o8_0_S8x4 r)
  have s3 := stepV_at _ _ _ _ 2 r p s2 (chunk_at H 2 (by norm_num) slices_S104x4_o16_0_S8x4 r)
  have s4 := stepV_at _ _ _ _ 3 r p s3 (chunk_at H 3 (by norm_num) slices_S104x4_o24_0_S8x4 r)
  have s5 := stepV_at _ _ _ _ 4 r p s4 (chunk_at H 4 (by norm_num) slices_S104x4_o32_0_S8x4 r)
  have s6 := stepV_at _ _ _ _ 5 r p s5 (chunk_at H 5 (by norm_num) slices_S104x4_o40_0_S8x4 r)
  have s7 := stepV_at _ _ _ _ 6 r p s6 (chunk_at H 6 (by norm_num) slices_S104x4_o48_0_S8x4 r)
  have s8 := stepV_at _ _ _ _ 7 r p s7 (chunk_at H 7 (by norm_num) slices_S104x4_o56_0_S8x4 r)
  have s9 := stepV_at _ _ _ _ 8 r p s8 (chunk_at H 8 (by norm_num) slices_S104x4_o64_0_S8x4 r)
  have s10 := stepV_at _ _ _ _ 9 r p s9 (chunk_at H 9 (by norm_num) slices_S104x4_o72_0_S8x4 r)
  have s11 := stepV_at _ _ _ _ 10 r p s10 (chunk_at H 10 (by norm_num) slices_S104x4_o80_0_S8x4 r)
  have s12 := stepV_at _ _ _ _ 11 r p s11 (chunk_at H 11 (by norm_num) slices_S104x4_o88_0_S8x4 r)
  exact stepV_at _ _ _ _ 12 r p s12 (chunk_at H 12 (by norm_num) slices_S104x4_o96_0_S8x4 r)

/-- The column's greatest overlap. -/
theorem max_at : Finset.fold max (Ideal.ofBits .f32 4286578688#32) (fun r : Fin 8 => maxV x1 x2 (ix2 r p)) Finset.univ
    = best (boxAt x1 p) g := by
  have h := (runs_find (fun h => iou (boxAt x1 p) (g h)) (fun h => ratio (boxAt x1 p) (g h)) (fun h => by
      obtain ⟨_, r, hr, e⟩ := overlap _ _ H.box H.size
      rw [e]; exact EReal.coe_nonneg.mpr hr) (fun h => (overlap _ _ H.box H.size).1) _ (Ideal.ofBits .f32 4286578688#32) minus_one_neg (by rw [neg_inf]; exact bot_le) _
    (fun r => st13_walk H r)).1
  exact h

/-- The word of the column's match, where the column overlaps anything. -/
theorem place_at (h0 : 0 < best (boxAt x1 p) g) : Finset.fold IntOp.minsi (2147483647#32) (fun r : Fin 8 => if maxV x1 x2 (ix2 r p) = best (boxAt x1 p) g then
      IntOp.addi (IntOp.muli (Scalar.select (last x1 x2 (ix2 r p)) ((k0_pay111 : IVec S8x10000 32) (ix2 r p)) ((before12 x1 x2).2 (ix2 r p))) 8#32) (BitVec.ofNat 32 r.val)
      else 104#32) Finset.univ
    = BitVec.ofNat 32 (matched (boxAt x1 p) g).val := by
  have h := (runs_find (fun h => iou (boxAt x1 p) (g h)) (fun h => ratio (boxAt x1 p) (g h)) (fun h => by
      obtain ⟨_, r, hr, e⟩ := overlap _ _ H.box H.size
      rw [e]; exact EReal.coe_nonneg.mpr hr) (fun h => (overlap _ _ H.box H.size).1) _ (Ideal.ofBits .f32 4286578688#32) minus_one_neg (by rw [neg_inf]; exact bot_le) _
    (fun r => st13_walk H r)).2 h0
  exact h

end

end Cert.Loss

end
-- ==== Proof.Loss.Tile.lean ====
/- The four sums that one run of the kernel's body writes, column by column: the cross-entropy, the count of the boxes in
   it, the smooth-L1 distance, the count of the matched boxes. -/
module

public import proofs.«01_k».proof.Proof.Loss.Column

@[expose] public section

set_option maxRecDepth 16384

noncomputable section

namespace Cert.Loss

open Idealize.ShloMosaic Idealize.ShloMosaic.TcCoe Idealize.SL.Sem Cert.KernelIdeal Cert.KernelIdeal.Gen

variable {x0 : Vec Ideal S1x10000x81 .f32} {x1 : Vec Ideal S1x1x4x10000 .f32} {x2 : Vec Ideal S1x104x4 .f32} {x3 : Vec Ideal S1x8x100 .f32}
variable {g : Fin 100 → Fin 4 → EReal} {l : Fin 100 → BitVec 32}

section
variable {p : Fin 10000} (H : Fits x1 x2 g p)
include H

/-- The greatest overlap, as the body keeps it. -/
theorem pay112_at : k0_pay112 (maxV x1 x2) (ix2 0 p) = best (boxAt x1 p) g := by
  rw [← max_at H]
  pointwise [k0_pay112]

/-- A row of the small table read at the match, where the column overlaps anything. -/
theorem pay113_at (h0 : 0 < best (boxAt x1 p) g) (j : Fin 8) :
    k0_pay113 (k0_pay7 x3) (before12 x1 x2).2 (last x1 x2) (maxV x1 x2) k0_pay111 (ix2 j p) = x3 (ix3 0 j (matched (boxAt x1 p) g)) := by
  have h := place_at H h0
  rw [← pay112_at H] at h
  pointwise [k0_pay113]
  rw [h, sum_hit (by norm_num)]
  pointwise [k0_pay7]

open Classical in
/-- Which columns count in the classification loss. -/
theorem pay115_at : k0_pay115 (maxV x1 x2) (ix2 0 p) = BitVec.ofBool (decide (Counts (boxAt x1 p) g)) := by
  have h := pay112_at H
  pointwise [k0_pay112] at h
  pointwise [k0_pay115, k0_pay114, k0_pay112]
  rw [h]
  unfold Counts half low
  by_cases h1 : Ideal.ofBits .f32 1056964608#32 ≤ best (boxAt x1 p) g <;>
    by_cases h2 : best (boxAt x1 p) g < Ideal.ofBits .f32 1050253722#32 <;> simp [h1, h2, IntOp.ori]

/-- The label read at the match, as a real number; zero where the overlap is small. -/
theorem pay116_at : k0_pay116 (k0_pay7 x3) (before12 x1 x2).2 (last x1 x2) (maxV x1 x2) k0_pay111 (ix2 0 p)
    = if half ≤ best (boxAt x1 p) g then x3 (ix3 0 0 (matched (boxAt x1 p) g)) else 0 := by
  have h := pay112_at H
  by_cases hb : half ≤ best (boxAt x1 p) g
  · have h0 := pay113_at (x3 := x3) H (half_pos.trans_le hb) 0
    rw [if_pos hb, ← h0]
    unfold half at hb
    pointwise [k0_pay112] at h
    pointwise [k0_pay116, k0_pay114, k0_pay112]
    rw [h, if_pos hb]
  · rw [if_neg hb]
    unfold half at hb
    pointwise [k0_pay112] at h
    pointwise [k0_pay116, k0_pay114, k0_pay112]
    rw [h, if_neg hb]

/-- The smooth-L1 distance of a column to its match, where it overlaps anything. -/
theorem pay117_at (h0 : 0 < best (boxAt x1 p) g) (hx3 : ∀ (k : Fin 4) (h : Fin 100), x3 (ix3 0 ⟨1 + k.val, by omega⟩ h) = g h k) :
    k0_pay117 (k0_pay5 x1) (k0_pay7 x3) (before12 x1 x2).2 (last x1 x2) (maxV x1 x2) k0_pay111 (ix2 0 p)
      = ∑ k, smooth (boxAt x1 p k - g (matched (boxAt x1 p) g) k) := by
  pointwise [k0_pay117, k0_pay5]
  refine Finset.sum_congr rfl fun k _ => ?_
  rw [pay113_at H h0, hx3]
  rfl

/-- One where a column is matched. -/
theorem pay118_at : k0_pay118 (maxV x1 x2) (ix2 0 p) = one (half ≤ best (boxAt x1 p) g) := by
  have h := pay112_at H
  pointwise [k0_pay112] at h
  unfold one half
  rw [← h]
  pointwise [k0_pay118, k0_pay114, k0_pay112]
  congr

end

/-- What is asked of all four blocks. -/
structure Blocks (x0 : Vec Ideal S1x10000x81 .f32) (x1 : Vec Ideal S1x1x4x10000 .f32) (x2 : Vec Ideal S1x104x4 .f32) (x3 : Vec Ideal S1x8x100 .f32)
    (g : Fin 100 → Fin 4 → EReal) (l : Fin 100 → BitVec 32) : Prop where
  fits : ∀ p, Fits x1 x2 g p
  logits : ∀ p k, ∃ r : ℝ, x0 (ix3 0 p k) = r
  labels : ∀ h, x3 (ix3 0 0 h) = (((l h).toInt : ℝ) : EReal)
  coords : ∀ (k : Fin 4) (h : Fin 100), x3 (ix3 0 ⟨1 + k.val, by omega⟩ h) = g h k
  classes : ∀ h, (l h).toNat < 81

variable (B : Blocks x0 x1 x2 x3 g l)
include B

/-- The smooth-L1 distances of the block's matched columns, summed. -/
theorem pay119_eq : k0_pay119 (k0_pay117 (k0_pay5 x1) (k0_pay7 x3) (before12 x1 x2).2 (last x1 x2) (maxV x1 x2) k0_pay111) (k0_pay118 (maxV x1 x2))
    = ∑ p, distance (boxAt x1 p) g := by
  pointwise [k0_pay119]
  rw [Fin.sum_univ_one]
  refine Finset.sum_congr rfl fun p _ => ?_
  rw [pay118_at (B.fits p)]
  unfold one distance
  split_ifs with hb
  · rw [pay117_at (B.fits p) (half_pos.trans_le hb) B.coords, mul_one]
  · rw [mul_zero]

/-- The block's matched columns, counted. -/
theorem pay120_eq : k0_pay120 (k0_pay118 (maxV x1 x2)) = ∑ p, one (half ≤ best (boxAt x1 p) g) := by
  pointwise [k0_pay120]
  rw [Fin.sum_univ_one]
  exact Finset.sum_congr rfl fun p _ => pay118_at (B.fits p)

/-- The columns in the classification loss, counted. -/
theorem pay123_eq : k0_pay123 (F := Ideal) (k0_pay115 (maxV x1 x2)) = ∑ p, one (Counts (boxAt x1 p) g) := by
  pointwise [k0_pay123, k0_pay121]
  rw [Fin.sum_univ_one]
  refine Finset.sum_congr rfl fun p _ => ?_
  rw [pay115_at (B.fits p)]
  unfold one
  by_cases h : Counts (boxAt x1 p) g <;> simp [h, Scalar.select]

/-- The block's cross-entropies, summed. -/
theorem pay122_eq : k0_pay122 (k0_pay4 x0) (k0_pay115 (maxV x1 x2)) (k0_pay116 (k0_pay7 x3) (before12 x1 x2).2 (last x1 x2) (maxV x1 x2) k0_pay111)
    = ∑ p, entropy (fun k => x0 (ix3 0 p k)) (boxAt x1 p) g l := by
  pointwise [k0_pay122, k0_pay121, k0_pay4]
  rw [Fin.sum_univ_one]
  refine Finset.sum_congr rfl fun p _ => ?_
  rw [pay115_at (B.fits p), pay116_at (B.fits p), B.labels]
  have hj : FloatOps.fptosi (F := Ideal) (φ := .f32) 32 (if half ≤ best (boxAt x1 p) g then (((l (matched (boxAt x1 p) g)).toInt : ℝ) : EReal) else 0)
      = BitVec.ofNat 32 (label (boxAt x1 p) g l).val := by
    show Ideal.fptosi 32 _ = _
    unfold label
    split_ifs
    · have hl := B.classes (matched (boxAt x1 p) g)
      rw [fptosi_word _ hl]
      congr 1
      exact (Nat.mod_eq_of_lt hl).symm
    · exact fptosi_zero
  rw [hj, sum_hit (by norm_num), neg_inf]
  have hM := fold_max_real (fun x : Fin 10000 × Fin 81 => x0 (ix3 0 x.1 x.2)) fun x => B.logits x.1 x.2
  rw [entropy_added (fun k => x0 (ix3 0 p k)) (B.logits p) _ hM]
  unfold entropy
  by_cases h : Counts (boxAt x1 p) g <;> simp [h, Scalar.select]

/-- The tile a block gives, entry by entry: the four sums in its first four rows. -/
theorem updV_at (r : Fin 8) (n : Fin 128) : updV x0 x1 x2 x3 (ix2 r n)
    = (if r = 0 then ∑ p, entropy (fun k => x0 (ix3 0 p k)) (boxAt x1 p) g l else 0)
      + (if r = 1 then ∑ p, one (Counts (boxAt x1 p) g) else 0)
      + (if r = 2 then ∑ p, distance (boxAt x1 p) g else 0)
      + (if r = 3 then ∑ p, one (half ≤ best (boxAt x1 p) g) else 0) := by
  unfold updV
  rw [pay119_eq B, pay120_eq B, pay122_eq B, pay123_eq B]
  pointwise [k0_pay1, k0_pay124]
  generalize (∑ p, entropy (fun k => x0 (ix3 0 p k)) (boxAt x1 p) g l) = s0
  generalize (∑ p, one (Counts (boxAt x1 p) g)) = s1
  generalize (∑ p, distance (boxAt x1 p) g) = s2
  generalize (∑ p, one (half ≤ best (boxAt x1 p) g)) = s3
  fin_cases r <;> simp [IntOp.cmpi, Scalar.select]

end Cert.Loss

end
-- ==== Proof.Loss.Prefix.lean ====
/- What the host prepares before the launch, and the blocks of it that a point of the grid reads. -/
module

public import proofs.«01_k».proof.Proof.Loss.Acc
public import proofs.«01_k».proof.Proof.Loss.Tile
public import proofs.«01_k».proof.Proof.Loss.Spec
public import Idealize.ShloMosaic.Lib.Pipeline.ValueKit
@[expose] public section
set_option maxRecDepth 16384

noncomputable section

namespace Cert.Loss
open Idealize.ShloMosaic Idealize.ShloMosaic.TcCoe Idealize.SL.Sem Cert.KernelIdeal Cert.KernelIdeal.Gen

variable (m : (ℓ : Loc nD τ sig) → Buf (Elt Ideal) ℓ)
/-- Two arrays put together: equal pieces, equal wholes. -/
theorem cat2 {e : EltTy} {t s1 s2 : Shape} (d : Fin t.rank) {a a' : s1.Idx → Elt Ideal e} {b b' : s2.Idx → Elt Ideal e} (h h')
    (ha : a = a') (hb : b = b') : concatenate t d [⟨s1, a⟩, ⟨s2, b⟩] h = concatenate t d [⟨s1, a'⟩, ⟨s2, b'⟩] h' := by
  subst ha; subst hb; rfl

/-- The same of three. -/
theorem cat3 {e : EltTy} {t s1 s2 s3 : Shape} (d : Fin t.rank) {a a' : s1.Idx → Elt Ideal e} {b b' : s2.Idx → Elt Ideal e} {u u' : s3.Idx → Elt Ideal e} (h h')
    (ha : a = a') (hb : b = b') (hu : u = u') : concatenate t d [⟨s1, a⟩, ⟨s2, b⟩, ⟨s3, u⟩] h = concatenate t d [⟨s1, a'⟩, ⟨s2, b'⟩, ⟨s3, u'⟩] h' := by
  subst ha; subst hb; subst hu; rfl

/-- The boxes, regrouped into blocks and transposed. -/
theorem v1_at (c : Dev nD)  : V m c main_call0_v1 = transpose S16x2x4x10000 [0, 1, 3, 2] (shapeCast S16x2x10000x4 (m ((c : Thread nD τ).loc main_arg1)) shapeCasts_S16x20000x4_S16x2x10000x4) transposes_S16x2x10000x4_S16x2x4x10000_0_1_3_2 := by
  show StableHlo.after [hostOps0].flatten _ _ = _
  simp only [hostOps0, List.flatten_cons, List.flatten_nil, List.append_nil, StableHlo.TRef.nullary, StableHlo.TRef.unary, StableHlo.TRef.binary, StableHlo.TRef.reshape, StableHlo.TRef.nary, StableHlo.TRef.toBuf, StableHlo.TRef.ofBuf, cast_eq]
  after_results_simp
  rfl

/-- The truths padded with zeros to 104. -/
theorem v8_at (c : Dev nD)  : V m c main_call0_v8 = concatenate (α := Elt Ideal .f32) S16x104x4 1 [⟨S16x100x4, (m ((c : Thread nD τ).loc main_arg3) : S16x100x4.Idx → Elt Ideal .f32)⟩, ⟨S16x4x4, broadcastInDim S16x4x4 ![] bcast_S_S16x4x4 (constant (F := Ideal) S_ .f32 0x00000000#32)⟩] concatenates_S16x100x4_S16x4x4_S16x104x4_d1 := by
  show StableHlo.after [hostOps0].flatten _ _ = _
  simp only [hostOps0, List.flatten_cons, List.flatten_nil, List.append_nil, StableHlo.TRef.nullary, StableHlo.TRef.unary, StableHlo.TRef.binary, StableHlo.TRef.reshape, StableHlo.TRef.nary, StableHlo.TRef.toBuf, StableHlo.TRef.ofBuf, cast_eq]
  after_results_simp
  refine cat2 _ _ _ ?_ ?_
  · after_results_simp
  · after_results_simp

/-- The labels, the coordinates and zeros, stacked. -/
theorem v6_at (c : Dev nD)  : V m c main_call0_v6 = concatenate S16x8x100 1 [⟨S16x1x100, broadcastInDim S16x1x100 ![0, 2] bcast_S16x100_S16x1x100_0_2 (sitofp (F := Ideal) .f32 (m ((c : Thread nD τ).loc main_arg2)))⟩,
      ⟨S16x4x100, transpose S16x4x100 [0, 2, 1] (m ((c : Thread nD τ).loc main_arg3)) transposes_S16x100x4_S16x4x100_0_2_1⟩,
      ⟨S16x3x100, broadcastInDim S16x3x100 ![] bcast_S_S16x3x100 (constant (F := Ideal) S_ .f32 0x00000000#32)⟩] concatenates_S16x1x100_S16x4x100_S16x3x100_S16x8x100_d1 := by
  show StableHlo.after [hostOps0].flatten _ _ = _
  simp only [hostOps0, List.flatten_cons, List.flatten_nil, List.append_nil, StableHlo.TRef.nullary, StableHlo.TRef.unary, StableHlo.TRef.binary, StableHlo.TRef.reshape, StableHlo.TRef.nary, StableHlo.TRef.toBuf, StableHlo.TRef.ofBuf, cast_eq]
  after_results_simp
  refine cat3 (e := .f32) _ _ _ ?_ ?_ ?_
  · refine (cast_eq _ _).trans ?_
    show HloOp.result _ _ (Proc.devRef .tc main_call0_v3) = _
    after_results_simp
  · refine (cast_eq _ _).trans ?_
    show HloOp.result _ _ (Proc.devRef .tc main_call0_v4) = _
    after_results_simp
  · refine (cast_eq _ _).trans ?_
    show HloOp.result _ _ (Proc.devRef .tc main_call0_v5) = _
    after_results_simp

/-- The point of the grid at block `q` of image `b`. -/
def pt (b : Fin 16) (q : Fin 2) : Fin cfg0.N := ⟨2 * b.val + q.val, by have := b.isLt; have := q.isLt; show _ < 32; omega⟩

/-- The box at place `p` of half `q`. -/
def row (q : Fin 2) (p : Fin 10000) : Fin 20000 := ⟨10000 * q.val + p.val, by have := p.isLt; have := q.isLt; omega⟩

/-- The blocks that a point reads, by image and half. -/
theorem idx_pt (b : Fin 16) (q : Fin 2) : win0_0.index (pt b q) = ![b.val, q.val, 0] ∧ win0_1.index (pt b q) = ![b.val, q.val, 0, 0]
    ∧ win0_2.index (pt b q) = ![b.val, 0, 0] ∧ win0_3.index (pt b q) = ![b.val, 0, 0] := by
  have hq := q.isLt
  have h1 : (pt b q).val / 2 = b.val := by show (2 * b.val + q.val) / 2 = b.val; omega
  have h2 : (pt b q).val % 2 = q.val := by show (2 * b.val + q.val) % 2 = q.val; omega
  have h := idx (pt b q)
  rw [h1, h2] at h
  exact ⟨h.1, h.2.1, h.2.2.1, h.2.2.2.1⟩

/-- The block of logits. -/
theorem blk0 (c : Dev nD) (b : Fin 16) (q : Fin 2) (p : Fin 10000) (k : Fin 81) :
    iblk m c 0 (pt b q) (ix3 0 p k) = m ((c : Thread nD τ).loc main_arg0) (ix3 b (row q p) k) := by
  have e : (win0_0.blk (pt b q)).view.emb (ix3 0 p k) = ix3 b (row q p) k := by
    blk_ext [idx_pt b q, row]
  rw [← V_main_arg0 m c, ← e]
  rfl

/-- The block of boxes. -/
theorem blk1 (c : Dev nD) (b : Fin 16) (q : Fin 2) (p : Fin 10000) (k : Fin 4) :
    iblk m c 1 (pt b q) (ix4 0 0 k p) = m ((c : Thread nD τ).loc main_arg1) (ix3 b (row q p) k) := by
  have e : (win0_1.blk (pt b q)).view.emb (ix4 0 0 k p) = ix4 b q k p := by
    blk_ext [idx_pt b q]
  refine (show _ = V m c main_call0_v1 (ix4 b q k p) by rw [← e]; rfl).trans ?_
  rw [v1_at]
  refine (transpose_apply _ _ _ _ (ix4 b q p k) (fun d => by fin_cases d <;> rfl)).trans (shapeCast_apply _ _ _ (ix3 b (row q p) k) ?_)
  rw [Shape.rowMajor_val_three, Shape.rowMajor_val_four]
  show (b.val * 20000 + (10000 * q.val + p.val)) * 4 + k.val = ((b.val * 2 + q.val) * 10000 + p.val) * 4 + k.val
  omega

/-- The block of truths: the true boxes, then zeros. -/
theorem blk2 (c : Dev nD) (b : Fin 16) (q : Fin 2) (i : Fin 104) (k : Fin 4) :
    iblk m c 2 (pt b q) (ix3 0 i k)
      = (if h : i.val < 100 then m ((c : Thread nD τ).loc main_arg3) (ix3 b ⟨i.val, h⟩ k) else (0 : EReal) : EReal) := by
  have e : (win0_2.blk (pt b q)).view.emb (ix3 0 i k) = ix3 b i k := by
    blk_ext [idx_pt b q]
  refine (show _ = V m c main_call0_v8 (ix3 b i k) by rw [← e]; rfl).trans ?_
  rw [v8_at]
  pointwise

/-- The block of the small table: labels, coordinates, zeros. -/
theorem blk3 (c : Dev nD) (b : Fin 16) (q : Fin 2) (h : Fin 100) (k : Fin 8) :
    iblk m c 3 (pt b q) (ix3 0 k h)
      = (if k.val < 1 then (((m ((c : Thread nD τ).loc main_arg2) (ix2 b h) : BitVec 32).toInt : ℝ) : EReal)
        else if h' : k.val - 1 < 4 then m ((c : Thread nD τ).loc main_arg3) (ix3 b h ⟨k.val - 1, h'⟩) else (0 : EReal) : EReal) := by
  have e : (win0_3.blk (pt b q)).view.emb (ix3 0 k h) = ix3 b k h := by
    blk_ext [idx_pt b q]
  refine (show _ = V m c main_call0_v6 (ix3 b k h) by rw [← e]; rfl).trans ?_
  rw [v6_at]
  pointwise
  rfl

/-- The inputs at the launch, as functions of their coordinates. -/
abbrev logitsOf (c : Dev nD) : Fin 16 → Fin 20000 → Fin 81 → EReal := fun b p k => m ((c : Thread nD τ).loc main_arg0) (ix3 b p k)
abbrev boxesOf (c : Dev nD) : Fin 16 → Fin 20000 → Fin 4 → EReal := fun b p k => m ((c : Thread nD τ).loc main_arg1) (ix3 b p k)
abbrev labelsOf (c : Dev nD) : Fin 16 → Fin 100 → BitVec 32 := fun b h => m ((c : Thread nD τ).loc main_arg2) (ix2 b h)
abbrev truthsOf (c : Dev nD) : Fin 16 → Fin 100 → Fin 4 → EReal := fun b h k => m ((c : Thread nD τ).loc main_arg3) (ix3 b h k)

/-- A predicted box of a block is the box of its row. -/
theorem box_eq (c : Dev nD) (b : Fin 16) (q : Fin 2) (p : Fin 10000) : boxAt (iblk m c 1 (pt b q)) p = boxesOf m c b (row q p) :=
  funext fun k => blk1 m c b q p k

/-- The blocks a point reads are what the body's value asks for. -/
theorem blocks (c : Dev nD) (I : Inputs (logitsOf m c) (boxesOf m c) (labelsOf m c)) (b : Fin 16) (q : Fin 2) :
    Blocks (iblk m c 0 (pt b q)) (iblk m c 1 (pt b q)) (iblk m c 2 (pt b q)) (iblk m c 3 (pt b q)) (truthsOf m c b) (labelsOf m c b) where
  fits p :=
    { real := fun i h h' k => (blk2 m c b q ⟨i, h⟩ k).trans (dif_pos h')
      pad := fun i h h' k => (blk2 m c b q ⟨i, h⟩ k).trans (dif_neg h')
      box := by rw [box_eq]; exact I.box b _
      size := by rw [box_eq]; exact I.size b _ }
  logits p k := by rw [blk0]; exact I.logits b _ k
  labels h := (blk3 m c b q h 0).trans (if_pos (by norm_num))
  coords k h := by
    refine (blk3 m c b q h _).trans ((if_neg (by simp)).trans ((dif_pos (by simp)).trans ?_))
    exact congrArg (fun j => m ((c : Thread nD τ).loc main_arg3) (ix3 b h j)) (Fin.ext (by simp))
  classes := I.labels b

/-- A sum over all boxes, block by block. -/
theorem sum_rows (f : Fin 20000 → EReal) : (∑ p, f (row 0 p)) + (∑ p, f (row 1 p)) = ∑ p, f p := by
  rw [show (∑ p, f p) = _ from Fin.sum_univ_add (a := 10000) (b := 10000) f]
  refine congrArg₂ (· + ·) (Finset.sum_congr rfl fun p _ => congrArg f (Fin.ext ?_)) (Finset.sum_congr rfl fun p _ => congrArg f (Fin.ext ?_))
  · simp [row]
  · simp [row, add_comm]

/-- One entry of the output array: the two blocks' sums. -/
def acc (c : Dev nD) (b : Fin 16) (r : Fin 8) : EReal := tile m c (pt b 0) (ix2 r 0) + tile m c (pt b 1) (ix2 r 0)

variable (c : Dev nD) (I : Inputs (logitsOf m c) (boxesOf m c) (labelsOf m c)) (b : Fin 16)
include I

/-- One block's tile, in terms of the inputs. -/
theorem tile_at (q : Fin 2) (r : Fin 8) : tile m c (pt b q) (ix2 r 0)
    = (if r = 0 then ∑ p, entropy (logitsOf m c b (row q p)) (boxesOf m c b (row q p)) (truthsOf m c b) (labelsOf m c b) else 0)
      + (if r = 1 then ∑ p, one (Counts (boxesOf m c b (row q p)) (truthsOf m c b)) else 0)
      + (if r = 2 then ∑ p, distance (boxesOf m c b (row q p)) (truthsOf m c b) else 0)
      + (if r = 3 then ∑ p, one (half ≤ best (boxesOf m c b (row q p)) (truthsOf m c b)) else 0) := by
  have h := updV_at (blocks m c I b q) r 0
  simp only [box_eq, blk0] at h
  exact h

/-- The four entries of an image's output that the host reads. -/
theorem acc0 : acc m c b 0 = entropies (logitsOf m c) (boxesOf m c) (labelsOf m c) (truthsOf m c) b := by
  unfold acc entropies
  rw [tile_at m c I, tile_at m c I, ← sum_rows]
  simp

open Classical in
theorem acc1 : acc m c b 1 = ((counted (boxesOf m c) (truthsOf m c) b : ℝ) : EReal) := by
  unfold acc counted
  rw [tile_at m c I, tile_at m c I, ← sum_one, ← sum_rows]
  simp

theorem acc2 : acc m c b 2 = distances (boxesOf m c) (truthsOf m c) b := by
  unfold acc distances
  rw [tile_at m c I, tile_at m c I, ← sum_rows]
  simp

open Classical in
theorem acc3 : acc m c b 3 = ((hits (boxesOf m c) (truthsOf m c) b : ℝ) : EReal) := by
  unfold acc hits
  rw [tile_at m c I, tile_at m c I, ← sum_one, ← sum_rows]
  simp
end Cert.Loss
-- ==== Proof.Loss.Tail.lean ====
/- What the host does after the launch: the two losses and their sum out of the four sums of every image. -/
module
public import proofs.«01_k».proof.Proof.Loss.Prefix
@[expose] public section
set_option maxRecDepth 16384

noncomputable section

namespace Cert.Loss

open Idealize.ShloMosaic Idealize.ShloMosaic.TcCoe Idealize.SL.Sem Cert.KernelIdeal Cert.KernelIdeal.Gen

variable (m : (ℓ : Loc nD τ sig) → Buf (Elt Ideal) ℓ) (c : Dev nD)

/-- The valuation the host's last lines start from. -/
def mid : Valuation τ sig (Elt Ideal) := Pipeline.withArrays (cfgs 0).spec c (V0 m c) fun w => (dats m 0 c).arrAt w (cfgs 0).N

/-- The entries of the output array the last lines read. -/
theorem mid_at (i : Fin 16) (r : Fin 8) : mid m c (Proc.devRef .tc main_call0_v9) (ix3 i r 0) = acc m c i r := by
  have h : mid m c (Proc.devRef .tc main_call0_v9) = (dats m 0 c).arrAt 4 (cfgs 0).N :=
    Pipeline.withArrays_arr (cfgs 0).spec (by decide) c _ _ 4
  rw [h, final]
  rfl

/-- One row's first lane, cut out and flattened. -/
theorem row_at (X : S16x8x128.Idx → EReal) (r : Fin 8) (h : S16x8x128.Slices ![0, r.val, 0] S16x1x1) (h' : S16x1x1.ShapeCasts S16) (b : Fin 16) :
    shapeCast S16 (extractStridedSlice S16x1x1 ![0, r.val, 0] X h) h' (ix1 b) = X (ix3 b r 0) := by
  refine (shapeCast_apply _ _ _ (ix3 b 0 0) ?_).trans ?_
  · rw [Shape.rowMajor_val_three, Shape.rowMajor_val_one]
    show (b.val * 1 + 0) * 1 + 0 = b.val
    omega
  · pointwise

/-- A sum of quotients over the images: an image whose count is zero gives zero. -/
theorem mean (s n : FVec Ideal S16 .f32) :
    Host.reduceAdd (select (cmpf .ogt n (broadcastInDim S16 ![] bcast_S_S16 (constant S_ FTy.f32 0#32)))
        (Host.divf s (maximumf n (broadcastInDim S16 ![] bcast_S_S16 (constant S_ FTy.f32 1065353216#32))))
        (broadcastInDim S16 ![] bcast_S_S16 (id (constant S_ FTy.f32 0#32)))) (constant S_ FTy.f32 0#32) reducesTo_S16_S_d0 h_S_ ix0
    = ∑ b, if 0 < n (ix1 b) then Ideal.div (s (ix1 b)) (max (n (ix1 b)) 1) else 0 := by
  pointwise
  refine Finset.sum_congr rfl fun b _ => ?_
  rw [show id (constant (F := Ideal) S_ FTy.f32 0#32) ix0 = (0 : EReal) by simp only [id]; pointwise]

/-- The same with four times the count below. -/
theorem mean4 (s n : FVec Ideal S16 .f32) :
    Host.reduceAdd (select (cmpf .ogt n (broadcastInDim S16 ![] bcast_S_S16 (constant S_ FTy.f32 0#32)))
        (Host.divf s (maximumf (mulf (broadcastInDim S16 ![] bcast_S_S16 (constant S_ FTy.f32 0x40800000#32)) n) (broadcastInDim S16 ![] bcast_S_S16 (constant S_ FTy.f32 1065353216#32))))
        (broadcastInDim S16 ![] bcast_S_S16 (id (constant S_ FTy.f32 0#32)))) (constant S_ FTy.f32 0#32) reducesTo_S16_S_d0 h_S_ ix0
    = ∑ b, if 0 < n (ix1 b) then Ideal.div (s (ix1 b)) (max (((4 : ℝ) : EReal) * n (ix1 b)) 1) else 0 := by
  pointwise
  refine Finset.sum_congr rfl fun b _ => ?_
  rw [show id (constant (F := Ideal) S_ FTy.f32 0#32) ix0 = (0 : EReal) by simp only [id]; pointwise, ← four]

/-- The classification result from the four entries. -/
theorem cls_at : Pipeline.afterTail₀ cfgs (dats m) 0 (V0 m) [hostOps1] c main_v0_2 ix0
    = ∑ b, if 0 < acc m c b 1 then Ideal.div (acc m c b 0) (max (acc m c b 1) 1) else 0 := by
  show StableHlo.after [hostOps1].flatten (mid m c) (Proc.devRef .tc main_v0_2) ix0 = _
  simp only [hostOps1, List.flatten_cons, List.flatten_nil, List.append_nil, List.cons_append, List.nil_append, StableHlo.TRef.nullary, StableHlo.TRef.unary, StableHlo.TRef.binary, StableHlo.TRef.ternary, StableHlo.TRef.reshape, StableHlo.TRef.nary, StableHlo.TRef.toBuf, StableHlo.TRef.ofBuf, cast_eq]
  after_results_simp
  refine (mean _ _).trans ?_
  refine Finset.sum_congr rfl fun b _ => ?_
  have h1 := (row_at (mid m c (Proc.devRef .tc main_call0_v9)) 1 slices_S16x8x128_S16x1x1_0_1_0 shapeCasts_S16x1x1_S16 b).trans (mid_at m c b 1)
  have h0 := (row_at (mid m c (Proc.devRef .tc main_call0_v9)) 0 slices_S16x8x128_S16x1x1_0_0_0 shapeCasts_S16x1x1_S16 b).trans (mid_at m c b 0)
  rw [← h1, ← h0]
  rfl

/-- The regression result from the four entries. -/
theorem reg_at : Pipeline.afterTail₀ cfgs (dats m) 0 (V0 m) [hostOps1] c main_v0_1 ix0
    = ∑ b, if 0 < acc m c b 3 then Ideal.div (acc m c b 2) (max (((4 : ℝ) : EReal) * acc m c b 3) 1) else 0 := by
  show StableHlo.after [hostOps1].flatten (mid m c) (Proc.devRef .tc main_v0_1) ix0 = _
  simp only [hostOps1, List.flatten_cons, List.flatten_nil, List.append_nil, List.cons_append, List.nil_append, StableHlo.TRef.nullary, StableHlo.TRef.unary, StableHlo.TRef.binary, StableHlo.TRef.ternary, StableHlo.TRef.reshape, StableHlo.TRef.nary, StableHlo.TRef.toBuf, StableHlo.TRef.ofBuf, cast_eq]
  after_results_simp
  refine (mean4 _ _).trans ?_
  refine Finset.sum_congr rfl fun b _ => ?_
  have h3 := (row_at (mid m c (Proc.devRef .tc main_call0_v9)) 3 slices_S16x8x128_S16x1x1_0_3_0 shapeCasts_S16x1x1_S16 b).trans (mid_at m c b 3)
  have h2 := (row_at (mid m c (Proc.devRef .tc main_call0_v9)) 2 slices_S16x8x128_S16x1x1_0_2_0 shapeCasts_S16x1x1_S16 b).trans (mid_at m c b 2)
  rw [← h3, ← h2]
  rfl

/-- The total is the sum of the other two. -/
theorem tot_at : Pipeline.afterTail₀ cfgs (dats m) 0 (V0 m) [hostOps1] c main_v0_0
    = addf (F := Ideal) (φ := .f32) (s := S_) (Pipeline.afterTail₀ cfgs (dats m) 0 (V0 m) [hostOps1] c main_v0_2) (Pipeline.afterTail₀ cfgs (dats m) 0 (V0 m) [hostOps1] c main_v0_1) := by
  show StableHlo.after [hostOps1].flatten (mid m c) (Proc.devRef .tc main_v0_0) = addf (F := Ideal) (φ := .f32) (s := S_) (StableHlo.after [hostOps1].flatten (mid m c) (Proc.devRef .tc main_v0_2)) (StableHlo.after [hostOps1].flatten (mid m c) (Proc.devRef .tc main_v0_1))
  simp only [hostOps1, List.flatten_cons, List.flatten_nil, List.append_nil, List.cons_append, List.nil_append, StableHlo.TRef.nullary, StableHlo.TRef.unary, StableHlo.TRef.binary, StableHlo.TRef.ternary, StableHlo.TRef.reshape, StableHlo.TRef.nary, StableHlo.TRef.toBuf, StableHlo.TRef.ofBuf, cast_eq]
  after_results_simp

section
variable (I : Inputs (logitsOf m c) (boxesOf m c) (labelsOf m c))
include I

/-- The kernel's classification result is the loss. -/
theorem cls_eq : Pipeline.afterTail₀ cfgs (dats m) 0 (V0 m) [hostOps1] c main_v0_2 ix0
    = classLoss (logitsOf m c) (boxesOf m c) (labelsOf m c) (truthsOf m c) := by
  refine (cls_at m c).trans ?_
  unfold classLoss
  refine Finset.sum_congr (M := EReal) rfl fun b _ => ?_
  rw [acc0 m c I, acc1 m c I]
  generalize counted (boxesOf m c) (truthsOf m c) b = n
  by_cases h : 0 < n
  · have h1 : (1 : ℝ) ≤ n := by exact_mod_cast h
    rw [if_pos (by exact_mod_cast h), if_pos h, max_eq_left (by exact_mod_cast h1)]
  · rw [if_neg (by exact_mod_cast h), if_neg h]

/-- The kernel's regression result is the loss. -/
theorem reg_eq : Pipeline.afterTail₀ cfgs (dats m) 0 (V0 m) [hostOps1] c main_v0_1 ix0
    = boxLoss (boxesOf m c) (truthsOf m c) := by
  refine (reg_at m c).trans ?_
  unfold boxLoss
  refine Finset.sum_congr (M := EReal) rfl fun b _ => ?_
  rw [acc2 m c I, acc3 m c I]
  generalize hits (boxesOf m c) (truthsOf m c) b = n
  by_cases h : 0 < n
  · have h1 : (1 : ℝ) ≤ n := by exact_mod_cast h
    have h4 : (1 : ℝ) ≤ 4 * n := by linarith
    rw [if_pos (by exact_mod_cast h), if_pos h, ← EReal.coe_mul, max_eq_left (by exact_mod_cast h4)]
  · rw [if_neg (by exact_mod_cast h), if_neg h]

end

end Cert.Loss
-- ==== Proof.Loss.Argmax.lean ====
/- The arg-max of the reference: a fold over pairs of a value and its number ends at the first place of the greatest value. -/
module

public import proofs.«01_k».proof.Proof.Loss.Spec
public import proofs.«01_k».proof.Proof.Reference.Terms
public import Idealize.ShloMosaic.Lib.Pointwise
public import Idealize.ShloMosaic.Lib.Tactic.CleanTypes

@[expose] public section

set_option maxRecDepth 16384

noncomputable section

namespace Cert.Loss

open Idealize.ShloMosaic Idealize.ShloMosaic.TcCoe Idealize.SL.Sem Cert.ReferenceIdeal Cert.ReferenceIdeal.Gen Cert.ReferenceIdeal.Value

/-- A pair is at least as good as another: its value is greater, or equal with a number not larger. -/
def Beats (p q : EReal × BitVec 32) : Prop := q.1 < p.1 ∨ (q.1 = p.1 ∧ p.2.toInt ≤ q.2.toInt)

theorem Beats.refl (p : EReal × BitVec 32) : Beats p p := Or.inr ⟨rfl, le_refl _⟩

theorem Beats.trans {p q r : EReal × BitVec 32} (h : Beats p q) (h' : Beats q r) : Beats p r := by
  rcases h with h | ⟨e, h⟩ <;> rcases h' with h' | ⟨e', h'⟩
  · exact Or.inl (h'.trans h)
  · exact Or.inl (by rw [e']; exact h)
  · exact Or.inl (by rw [← e]; exact h')
  · exact Or.inr ⟨e'.trans e, h.trans h'⟩

open Classical in
/-- The reducer keeps the better of two pairs. -/
theorem reducer_eq (p q : Ideal .f32 × BitVec 32) : reducer_argmax_f32_i32 (F := Ideal) p q
    = if q.1 < p.1 ∨ (p.1 = q.1 ∧ p.2.toInt < q.2.toInt) then p else q := by
  obtain ⟨v, i⟩ := p
  obtain ⟨w, j⟩ := q
  unfold reducer_argmax_f32_i32
  by_cases h1 : w < v
  · have h3 : v ≠ w := (ne_of_lt h1).symm
    simp [Ideal.cmpf_def, Ideal.cmp, IntOp.ori, IntOp.andi, IntOp.cmpi, Scalar.select, h1, h3]
  · by_cases h2 : v = w
    · subst h2
      by_cases h4 : i.toInt < j.toInt <;>
      simp [Ideal.cmpf_def, Ideal.cmp, IntOp.ori, IntOp.andi, IntOp.cmpi, Scalar.select, BitVec.slt, h4]
    · simp [Ideal.cmpf_def, Ideal.cmp, IntOp.ori, IntOp.andi, IntOp.cmpi, Scalar.select, h1, h2]

theorem reducer_beats (p q : Ideal .f32 × BitVec 32) : (reducer_argmax_f32_i32 (F := Ideal) p q = p ∨ reducer_argmax_f32_i32 (F := Ideal) p q = q)
    ∧ Beats (reducer_argmax_f32_i32 (F := Ideal) p q) p ∧ Beats (reducer_argmax_f32_i32 (F := Ideal) p q) q := by
  rw [reducer_eq]
  split
  next h =>
    refine ⟨Or.inl rfl, Beats.refl _, ?_⟩
    rcases h with h | ⟨e, h⟩
    · exact Or.inl h
    · exact Or.inr ⟨e.symm, h.le⟩
  next h =>
    refine ⟨Or.inr rfl, ?_, Beats.refl _⟩
    rw [not_or, not_and] at h
    rcases lt_or_eq_of_le (not_lt.mp h.1) with l | e
    · exact Or.inl l
    · exact Or.inr ⟨e, not_lt.mp (h.2 e)⟩

/-- The fold over a list ends at its start or at one of the list, and that pair is as good as all the others. -/
theorem fold_beats (L : List (Ideal .f32 × BitVec 32)) (s : Ideal .f32 × BitVec 32) :
    (L.foldl (reducer_argmax_f32_i32 (F := Ideal)) s = s ∨ L.foldl (reducer_argmax_f32_i32 (F := Ideal)) s ∈ L)
    ∧ Beats (L.foldl (reducer_argmax_f32_i32 (F := Ideal)) s) s ∧ ∀ q ∈ L, Beats (L.foldl (reducer_argmax_f32_i32 (F := Ideal)) s) q := by
  induction L generalizing s with
  | nil => exact ⟨Or.inl rfl, Beats.refl _, by simp⟩
  | cons p L ih =>
    obtain ⟨h1, h2, h3⟩ := ih (reducer_argmax_f32_i32 (F := Ideal) s p)
    obtain ⟨k1, k2, k3⟩ := reducer_beats s p
    rw [List.foldl_cons]
    refine ⟨?_, h2.trans k2, ?_⟩
    · rcases h1 with h1 | h1
      · rw [h1]
        rcases k1 with k1 | k1
        · exact Or.inl k1
        · exact Or.inr (by rw [k1]; exact List.mem_cons_self)
      · exact Or.inr (List.mem_cons_of_mem _ h1)
    · intro q hq
      rcases List.mem_cons.mp hq with rfl | hq
      · exact h2.trans k3
      · exact h3 q hq

/-- Of the pairs of a row of values above `⊥` and their numbers, the fold finds the first place of the greatest. -/
theorem fold_first (f : Fin 100 → EReal) (hf : ∀ h, 0 ≤ f h) (L : List (Ideal .f32 × BitVec 32))
    (hL : ∀ q, q ∈ L ↔ ∃ h : Fin 100, q = (f h, BitVec.ofNat 32 h.val)) (i : BitVec 32) :
    L.foldl (reducer_argmax_f32_i32 (F := Ideal)) (⊥, i) = (f (first f), BitVec.ofNat 32 (first f).val) := by
  obtain ⟨h1, -, h3⟩ := fold_beats L (⊥, i)
  have hmem : L.foldl (reducer_argmax_f32_i32 (F := Ideal)) (⊥, i) ∈ L := by
    rcases h1 with h1 | h1
    · exfalso
      have h := h3 (f 0, BitVec.ofNat 32 0) ((hL _).mpr ⟨0, rfl⟩)
      rw [h1] at h
      rcases h with h | ⟨h, -⟩
      · exact absurd h (by simp)
      · have := hf 0
        have h' : f 0 = ⊥ := h
        rw [h'] at this
        exact absurd this (by simp)
    · exact h1
  obtain ⟨g, hg⟩ := (hL _).mp hmem
  have hI : IsFirst f g := fun h => by
    have hb := h3 (f h, BitVec.ofNat 32 h.val) ((hL _).mpr ⟨h, rfl⟩)
    rw [hg] at hb
    have t1 := WordCmp.toInt_ofNat_of_lt (w := 32) (a := g.val) (by have := g.isLt; norm_num; omega)
    have t2 := WordCmp.toInt_ofNat_of_lt (w := 32) (a := h.val) (by have := h.isLt; norm_num; omega)
    rcases hb with hb | ⟨e, hb⟩
    · exact Or.inl hb
    · refine Or.inr ⟨e, ?_⟩
      change (BitVec.ofNat 32 g.val).toInt ≤ (BitVec.ofNat 32 h.val).toInt at hb
      rw [t1, t2] at hb
      exact_mod_cast hb
  rw [hg, hI.unique (first_isFirst f)]

end Cert.Loss
-- ==== Proof.Loss.RefIou.lean ====
/- The reference's overlaps, entry by entry. -/
module

public import proofs.«01_k».proof.Proof.Loss.Argmax

@[expose] public section

set_option maxRecDepth 16384

noncomputable section

namespace Cert.Loss.Ref

open Idealize.ShloMosaic Idealize.ShloMosaic.TcCoe Idealize.SL.Sem Cert.ReferenceIdeal Cert.ReferenceIdeal.Gen Cert.ReferenceIdeal.Value

variable (V0 : Valuation τ sig (Elt Ideal))

/-- The arguments, as functions of their coordinates. -/
abbrev logits : Fin 16 → Fin 20000 → Fin 81 → EReal := fun b p k => V0 (Proc.devRef .tc main_arg0) (ix3 b p k)
abbrev boxes : Fin 16 → Fin 20000 → Fin 4 → EReal := fun b p k => V0 (Proc.devRef .tc main_arg1) (ix3 b p k)
abbrev labels : Fin 16 → Fin 100 → BitVec 32 := fun b h => V0 (Proc.devRef .tc main_arg2) (ix2 b h)
abbrev truths : Fin 16 → Fin 100 → Fin 4 → EReal := fun b h k => V0 (Proc.devRef .tc main_arg3) (ix3 b h k)

/-- The overlap of a predicted box with a true one. -/
theorem v51_at (b : Fin 16) (p : Fin 20000) (h : Fin 100) :
    res_main_v51 V0 (ix3 b p h) = iou (boxes V0 b p) (truths V0 b h) := by
  unfold res_main_v51 res_main_v20 res_main_v15
  clean_types
  pointwise
  unfold iou area inter eps
  rw [show id (constant (F := Ideal) S_ FTy.f32 0#32) ix0 = (0 : EReal) by simp only [id]; pointwise]
  simp only [max_comm (0 : EReal)]

end Cert.Loss.Ref
-- ==== Proof.Loss.RefMatch.lean ====
/- The reference's matching: overlaps, the greatest, its first place, the threshold. -/
module

public import proofs.«01_k».proof.Proof.Loss.RefIou

@[expose] public section

set_option maxRecDepth 16384

noncomputable section

namespace Cert.Loss.Ref

open Idealize.ShloMosaic Idealize.ShloMosaic.TcCoe Idealize.SL.Sem Cert.ReferenceIdeal Cert.ReferenceIdeal.Gen Cert.ReferenceIdeal.Value

/-- The index of a row, its place in the row dropped. -/
theorem drop_at (b : Fin 16) (p : Fin 20000) (h : Fin 100) : reducesTo_S16x20000x100_S16x20000_d2.drop (ix3 b p h) = ix2 b p := by
  funext a
  refine Fin.ext ?_
  fin_cases a <;> rfl

/-- The fold of the reducer along a row of values that are not negative finds the first place of the greatest. -/
theorem argmax_at (X : FVec Ideal S16x20000x100 .f32) (b : Fin 16) (p : Fin 20000) (hX : ∀ h, 0 ≤ X (ix3 b p h)) (z : FVec Ideal S_ .f32)
    (hz : z (Shape.Idx.first h_S_) = ⊥) (w : S_.Idx → BitVec 32) :
    (Host.argReduce (reducer_argmax_f32_i32 (F := Ideal)) X (iotaInDim S16x20000x100 32 2) z w reducesTo_S16x20000x100_S16x20000_d2 h_S_ (ix2 b p)).2
      = BitVec.ofNat 32 (first fun h => X (ix3 b p h)).val := by
  rw [Ideal.argReduce_eq_reduce2, Host.reduce2_eq_foldl_fiber, hz]
  refine (congrArg Prod.snd (fold_first (fun h => X (ix3 b p h)) hX _ (fun q => ?_) _)).trans rfl
  unfold Host.argReduceFiber
  simp only [List.mem_map, List.mem_filter, List.mem_finRange, true_and, decide_eq_true_eq]
  generalize S16x20000x100.rowMajor = e
  constructor
  · rintro ⟨n, hn, rfl⟩
    generalize e.symm n = i at hn ⊢
    idx_vars i
    rw [drop_at] at hn
    refine ⟨i2, ?_⟩
    obtain rfl : i0 = b := congrFun hn 0
    obtain rfl : i1 = p := congrFun hn 1
    rfl
  · rintro ⟨h, rfl⟩
    refine ⟨e (ix3 b p h), ?_, ?_⟩
    · rw [Equiv.symm_apply_apply, drop_at]
    · rw [Equiv.symm_apply_apply]
      rfl

variable (V0 : Valuation τ sig (Elt Ideal))

/-- The places the reference finds, as its fold. -/
theorem argmax_eq : res_main_v53 V0 = fun j => (Host.argReduce (reducer_argmax_f32_i32 (F := Ideal)) (res_main_v51 V0) (iotaInDim S16x20000x100 32 2) (constant S_ .f32 0xFF800000#32) (constantI S_ 32 0#32) reducesTo_S16x20000x100_S16x20000_d2 h_S_ j).2 := rfl
variable (I : Inputs (logits V0) (boxes V0) (labels V0))
include I

/-- No overlap is negative. -/
theorem iou_nonneg (b : Fin 16) (p : Fin 20000) (h : Fin 100) : 0 ≤ iou (boxes V0 b p) (truths V0 b h) := by
  obtain ⟨r, hr, e⟩ := (overlap _ _ (I.box b p) (I.size b p)).2
  rw [e]
  exact_mod_cast hr

/-- The greatest overlap. -/
theorem v52_at (b : Fin 16) (p : Fin 20000) : res_main_v52 V0 (ix2 b p) = best (boxes V0 b p) (truths V0 b) := by
  unfold res_main_v52
  clean_types
  pointwise
  simp only [v51_at]
  rw [neg_inf]
  exact fold_max_eq _ _ (matched (boxes V0 b p) (truths V0 b)) bot_le (first_isFirst _).le

/-- The fold over one row of overlaps. -/
theorem places (b : Fin 16) (p : Fin 20000) (X : FVec Ideal S16x20000x100 .f32) (hX : ∀ h, X (ix3 b p h) = iou (boxes V0 b p) (truths V0 b h)) :
   (Host.argReduce (reducer_argmax_f32_i32 (F := Ideal)) X (iotaInDim S16x20000x100 32 2) (constant S_ .f32 0xFF800000#32) (constantI S_ 32 0#32) reducesTo_S16x20000x100_S16x20000_d2 h_S_ (ix2 b p)).2 = BitVec.ofNat 32 (matched (boxes V0 b p) (truths V0 b)).val := by
  rw [argmax_at X b p (fun h => ?_) _ (show (constant (F := Ideal) S_ .f32 0xFF800000#32) (Shape.Idx.first h_S_) = ⊥ from neg_inf) _, funext hX]
  · rfl
  · rw [hX]; exact iou_nonneg V0 I b p h
/-- The place of the greatest overlap. -/
theorem v53_at (b : Fin 16) (p : Fin 20000) : res_main_v53 V0 (ix2 b p) = BitVec.ofNat 32 (matched (boxes V0 b p) (truths V0 b)).val :=
  (congrFun (argmax_eq V0) (ix2 b p)).trans (places V0 I b p _ fun h => v51_at V0 b p h)

end Cert.Loss.Ref
-- ==== Proof.Loss.RefGather.lean ====
/- The three gathers of the reference read at an index: the entry the start index names, in the same image and box. -/
module

public import proofs.«01_k».proof.Proof.Loss.RefMatch

@[expose] public section

set_option maxRecDepth 16384

noncomputable section

namespace Cert.Loss.Ref

open Idealize.ShloMosaic Idealize.ShloMosaic.TcCoe Idealize.SL.Sem Cert.ReferenceIdeal Cert.ReferenceIdeal.Gen Cert.ReferenceIdeal.Value

/-- A label of an image. -/
theorem gather_label (X : S16x100.Idx → BitVec 32) (idx : IVec S16x20000x1 32) (b : Fin 16) (p : Fin 20000) (h : Fin 100)
    (e : idx (ix3 b p 0) = BitVec.ofNat 32 h.val) :
    Host.gather gather_S16x100_S16x20000x1_S16x20000_n_1_0_0_1_2_11 X idx (ix2 b p) = X (ix2 b h) := by
  unfold Host.gather
  refine congrArg X (funext fun a => Fin.ext ?_)
  have hh := h.isLt
  have hi : gather_S16x100_S16x20000x1_S16x20000_n_1_0_0_1_2_11.siIdx (ix2 b p) ⟨0, by decide⟩ = ix3 b p 0 := by
    funext c
    fin_cases c <;> rfl
  fin_cases a
  · show 0 + b.val + 0 = b.val
    omega
  · show min (idx (gather_S16x100_S16x20000x1_S16x20000_n_1_0_0_1_2_11.siIdx (ix2 b p) ⟨0, by decide⟩)).toInt.toNat (100 - 1) + 0 + 0 = h.val
    rw [hi, e, StableHlo.Predicate.toInt_ofNat_small _ (by omega)]
    show min ((h.val : Int)).toNat (100 - 1) + 0 + 0 = h.val
    omega

/-- A coordinate of a true box. -/
theorem gather_box (X : S16x100x4.Idx → EReal) (idx : IVec S16x20000x1 32) (b : Fin 16) (p : Fin 20000) (k : Fin 4) (h : Fin 100)
    (e : idx (ix3 b p 0) = BitVec.ofNat 32 h.val) :
    Host.gather gather_S16x100x4_S16x20000x1_S16x20000x4_2_1_0_0_1_2_114 X idx (ix3 b p k) = X (ix3 b h k) := by
  unfold Host.gather
  refine congrArg X (funext fun a => Fin.ext ?_)
  have hh := h.isLt
  have hi : gather_S16x100x4_S16x20000x1_S16x20000x4_2_1_0_0_1_2_114.siIdx (ix3 b p k) ⟨0, by decide⟩ = ix3 b p 0 := by
    funext c
    fin_cases c <;> rfl
  fin_cases a
  · show 0 + b.val + 0 = b.val
    omega
  · show min (idx (gather_S16x100x4_S16x20000x1_S16x20000x4_2_1_0_0_1_2_114.siIdx (ix3 b p k) ⟨0, by decide⟩)).toInt.toNat (100 - 1) + 0 + 0 = h.val
    rw [hi, e, StableHlo.Predicate.toInt_ofNat_small _ (by omega)]
    show min ((h.val : Int)).toNat (100 - 1) + 0 + 0 = h.val
    omega
  · show 0 + 0 + k.val = k.val
    omega

/-- A class score of a predicted box. -/
theorem gather_score (X : S16x20000x81.Idx → EReal) (idx : IVec S16x20000x1x1 32) (b : Fin 16) (p : Fin 20000) (h : Fin 81)
    (e : idx (ix4 b p 0 0) = BitVec.ofNat 32 h.val) :
    Host.gather gather_S16x20000x81_S16x20000x1x1_S16x20000x1_n_2_01_01_2_3_111 X idx (ix3 b p 0) = X (ix3 b p h) := by
  unfold Host.gather
  refine congrArg X (funext fun a => Fin.ext ?_)
  have hh := h.isLt
  have hi : gather_S16x20000x81_S16x20000x1x1_S16x20000x1_n_2_01_01_2_3_111.siIdx (ix3 b p 0) ⟨0, by decide⟩ = ix4 b p 0 0 := by
    funext c
    fin_cases c <;> rfl
  fin_cases a
  · show 0 + b.val + 0 = b.val
    omega
  · show 0 + p.val + 0 = p.val
    omega
  · show min (idx (gather_S16x20000x81_S16x20000x1x1_S16x20000x1_n_2_01_01_2_3_111.siIdx (ix3 b p 0) ⟨0, by decide⟩)).toInt.toNat (81 - 1) + 0 + 0 = h.val
    rw [hi, e, StableHlo.Predicate.toInt_ofNat_small _ (by omega)]
    show min ((h.val : Int)).toNat (81 - 1) + 0 + 0 = h.val
    omega

end Cert.Loss.Ref
-- ==== Proof.Loss.RefStages.lean ====
/- The reference's stages as functions of the arrays they read. -/
module

public import proofs.«01_k».proof.Proof.Loss.RefGather

@[expose] public section

set_option maxRecDepth 16384

noncomputable section

namespace Cert.Loss.Ref

open Idealize.ShloMosaic Idealize.ShloMosaic.TcCoe Idealize.SL.Sem Cert.ReferenceIdeal Cert.ReferenceIdeal.Gen Cert.ReferenceIdeal.Value

/-- The matched boxes, from the greatest overlaps. -/
def positive (v52 : FVec Ideal S16x20000 .f32) : IVec S16x20000 1 :=
  cmpf .oge v52 (broadcastInDim S16x20000 ![] bcast_S_S16x20000 (constant S_ .f32 0x3F000000#32))

/-- The start indices of the label gather. -/
def place (v53 : IVec S16x20000 32) : IVec S16x20000x1 32 :=
  broadcastInDim S16x20000x1 ![0, 1] bcast_S16x20000_S16x20000x1_0_1 (select (cmpi .slt v53 (broadcastInDim S16x20000 ![] bcast_S_S16x20000 (constantI S_ 32 0#32))) (addi v53 (broadcastInDim S16x20000 ![] bcast_S_S16x20000 (constantI S_ 32 100#32))) v53)

/-- The labels. -/
def tag (v52 : FVec Ideal S16x20000 .f32) (v55 : IVec S16x20000 1) (call2_v5 : IVec S16x20000x1 32) (arg2 : IVec S16x100 32) : IVec S16x20000 32 :=
  select (cmpf .olt v52 (broadcastInDim S16x20000 ![] bcast_S_S16x20000 (constant S_ .f32 0x3E99999A#32))) (broadcastInDim S16x20000 ![1] bcast_S20000_S16x20000_1 (broadcastInDim S20000 ![] bcast_S_S20000 (id (constantI S_ 32 0#32)))) (select v55 (select (Host.reduce IntOp.andi (andi (cmpi .sge call2_v5 (broadcastInDim S16x20000x1 ![] bcast_S_S16x20000x1 (constantI S_ 32 0#32))) (cmpi .sle call2_v5 (broadcastInDim S16x20000x1 ![0, 1, 2] bcast_S1x1x1_S16x20000x1_0_1_2 (broadcastInDim S1x1x1 ![2] bcast_S1_S1x1x1_2 (constantI S1 32 99#32))))) (constantI S_ 1 1#1) reducesTo_S16x20000x1_S16x20000_d2 h_S_) (Host.gather gather_S16x100_S16x20000x1_S16x20000_n_1_0_0_1_2_11 arg2 call2_v5) (broadcastInDim S16x20000 ![] bcast_S_S16x20000 (constantI S_ 32 2147483648#32))) (broadcastInDim S16x20000 ![1] bcast_S20000_S16x20000_1 (broadcastInDim S20000 ![] bcast_S_S20000 (id (constantI S_ 32 4294967295#32)))))

/-- The boxes that count. -/
def valid (v60 : IVec S16x20000 32) : IVec S16x20000 1 :=
  cmpi .ne v60 (broadcastInDim S16x20000 ![] bcast_S_S16x20000 (constantI S_ 32 4294967295#32))

/-- How many boxes count. -/
def count (v62 : IVec S16x20000 1) : IVec S16 32 :=
  Host.reduce IntOp.addi (extui 32 v62 natLt_1_32) (constantI S_ 32 0#32) reducesTo_S16x20000_S16_d1 h_S_

/-- The logits less their greatest. -/
def shifted (arg0 : FVec Ideal S16x20000x81 .f32) : FVec Ideal S16x20000x81 .f32 :=
  subf arg0 (broadcastInDim S16x20000x81 ![0, 1, 2] bcast_S16x20000x1_S16x20000x81_0_1_2 (broadcastInDim S16x20000x1 ![0, 1] bcast_S16x20000_S16x20000x1_0_1 (maximumf (broadcastInDim S16x20000 ![] bcast_S_S16x20000 (constant S_ .f32 0xFF800000#32)) (Host.reduce FloatOps.maximumf arg0 (constant S_ .f32 0xFF800000#32) reducesTo_S16x20000x81_S16x20000_d2 h_S_))))

/-- The labels clipped to the classes. -/
def clipped (v60 : IVec S16x20000 32) : IVec S16x20000x1 32 :=
  broadcastInDim S16x20000x1 ![0, 1] bcast_S16x20000_S16x20000x1_0_1 (minsi (broadcastInDim S16x20000 ![] bcast_S_S16x20000 (id (constantI S_ 32 80#32))) (maxsi (broadcastInDim S16x20000 ![] bcast_S_S16x20000 (id (constantI S_ 32 0#32))) v60))

/-- The start indices of the score gather. -/
def column (v67 : IVec S16x20000x1 32) : IVec S16x20000x1x1 32 :=
  shapeCast _ (select (cmpi .slt v67 (broadcastInDim S16x20000x1 ![] bcast_S_S16x20000x1 (constantI S_ 32 0#32))) (addi v67 (broadcastInDim S16x20000x1 ![] bcast_S_S16x20000x1 (constantI S_ 32 81#32))) v67) shapeCasts_S16x20000x1_S16x20000x1x1

/-- How many boxes are matched. -/
def countPos (v55 : IVec S16x20000 1) : IVec S16 32 :=
  Host.reduce IntOp.addi (extui 32 v55 natLt_1_32) (constantI S_ 32 0#32) reducesTo_S16x20000_S16_d1 h_S_

/-- The distance of the corners of a box from those of its match. -/
def offset (call9_v5 : IVec S16x20000x1 32) (arg1 : FVec Ideal S16x20000x4 .f32) (arg3 : FVec Ideal S16x100x4 .f32) : FVec Ideal S16x20000x4 .f32 :=
  subf arg1 (select (broadcastInDim S16x20000x4 ![0, 1] bcast_S16x20000_S16x20000x4_0_1 (Host.reduce IntOp.andi (andi (cmpi .sge call9_v5 (broadcastInDim S16x20000x1 ![] bcast_S_S16x20000x1 (constantI S_ 32 0#32))) (cmpi .sle call9_v5 (broadcastInDim S16x20000x1 ![0, 1, 2] bcast_S1x1x1_S16x20000x1_0_1_2 (broadcastInDim S1x1x1 ![2] bcast_S1_S1x1x1_2 (constantI S1 32 99#32))))) (constantI S_ 1 1#1) reducesTo_S16x20000x1_S16x20000_d2 h_S_)) (Host.gather gather_S16x100x4_S16x20000x1_S16x20000x4_2_1_0_0_1_2_114 arg3 call9_v5) (broadcastInDim S16x20000x4 ![] bcast_S_S16x20000x4 (constant S_ .f32 0x7FC00000#32)))

/-- Its size. -/
def size (v80 : FVec Ideal S16x20000x4 .f32) : FVec Ideal S16x20000x4 .f32 :=
  Host.absf v80

/-- The mean cross-entropy of an image. -/
def meanEntropy (v62 : IVec S16x20000 1) (call7_v5 : IVec S16x20000x1x1 32) (call5_v5 : FVec Ideal S16x20000x81 .f32) (v64 : IVec S16 32) : FVec Ideal S16 .f32 :=
  Host.divf (Host.reduceAdd (select v62 (Host.negf (shapeCast _ (select (Host.reduce IntOp.andi (andi (cmpi .sge call7_v5 (broadcastInDim S16x20000x1x1 ![] bcast_S_S16x20000x1x1 (constantI S_ 32 0#32))) (cmpi .sle call7_v5 (broadcastInDim S16x20000x1x1 ![0, 1, 2, 3] bcast_S1x1x1x1_S16x20000x1x1_0_1_2_3 (broadcastInDim S1x1x1x1 ![3] bcast_S1_S1x1x1x1_3 (constantI S1 32 80#32))))) (constantI S_ 1 1#1) reducesTo_S16x20000x1x1_S16x20000x1_d3 h_S_) (Host.gather gather_S16x20000x81_S16x20000x1x1_S16x20000x1_n_2_01_01_2_3_111 (subf call5_v5 (broadcastInDim S16x20000x81 ![0, 1, 2] bcast_S16x20000x1_S16x20000x81_0_1_2 (Host.log (broadcastInDim S16x20000x1 ![0, 1] bcast_S16x20000_S16x20000x1_0_1 (Host.reduceAdd (Host.exp call5_v5) (constant S_ .f32 0x00000000#32) reducesTo_S16x20000x81_S16x20000_d2 h_S_))))) call7_v5) (broadcastInDim S16x20000x1 ![] bcast_S_S16x20000x1 (constant S_ .f32 0x7FC00000#32))) shapeCasts_S16x20000x1_S16x20000)) (broadcastInDim S16x20000 ![1] bcast_S20000_S16x20000_1 (broadcastInDim S20000 ![] bcast_S_S20000 (id (constant S_ .f32 0x00000000#32))))) (constant S_ .f32 0x00000000#32) reducesTo_S16x20000_S16_d1 h_S_) (sitofp .f32 (maxsi v64 (broadcastInDim S16 ![] bcast_S_S16 (constantI S_ 32 1#32))))

/-- The summed distance of an image. -/
def sumDistance (v55 : IVec S16x20000 1) (v81 : FVec Ideal S16x20000x4 .f32) (v80 : FVec Ideal S16x20000x4 .f32) : FVec Ideal S16 .f32 :=
  Host.reduceAdd (select (broadcastInDim S16x20000x4 ![0, 1, 2] bcast_S16x20000x1_S16x20000x4_0_1_2 (broadcastInDim S16x20000x1 ![0, 1] bcast_S16x20000_S16x20000x1_0_1 v55)) (select (cmpf .olt v81 (broadcastInDim S16x20000x4 ![] bcast_S_S16x20000x4 (constant S_ .f32 0x3F800000#32))) (mulf (mulf (broadcastInDim S16x20000x4 ![] bcast_S_S16x20000x4 (constant S_ .f32 0x3F000000#32)) v80) v80) (subf v81 (broadcastInDim S16x20000x4 ![] bcast_S_S16x20000x4 (constant S_ .f32 0x3F000000#32)))) (broadcastInDim S16x20000x4 ![1, 2] bcast_S20000x4_S16x20000x4_1_2 (broadcastInDim S20000x4 ![] bcast_S_S20000x4 (id (constant S_ .f32 0x00000000#32))))) (constant S_ .f32 0x00000000#32) reducesTo_S16x20000x4_S16_d1_2 h_S_

/-- The classification loss. -/
def total (v64 : IVec S16 32) (v76 : FVec Ideal S16 .f32) : FVec Ideal S_ .f32 :=
  Host.reduceAdd (select (cmpi .sgt v64 (broadcastInDim S16 ![] bcast_S_S16 (constantI S_ 32 0#32))) v76 (broadcastInDim S16 ![] bcast_S_S16 (id (constant S_ .f32 0x00000000#32)))) (constant S_ .f32 0x00000000#32) reducesTo_S16_S_d0 h_S_

/-- The regression loss. -/
def totalBox (v78 : IVec S16 32) (v92 : FVec Ideal S16 .f32) : FVec Ideal S_ .f32 :=
  Host.reduceAdd (select (cmpi .sgt v78 (broadcastInDim S16 ![] bcast_S_S16 (constantI S_ 32 0#32))) (Host.divf v92 (sitofp .f32 (maxsi (muli v78 (broadcastInDim S16 ![] bcast_S_S16 (constantI S_ 32 4#32))) (broadcastInDim S16 ![] bcast_S_S16 (constantI S_ 32 1#32))))) (broadcastInDim S16 ![] bcast_S_S16 (id (constant S_ .f32 0x00000000#32)))) (constant S_ .f32 0x00000000#32) reducesTo_S16_S_d0 h_S_

/-- The sum of the two. -/
def both (v105 : FVec Ideal S_ .f32) (v106 : FVec Ideal S_ .f32) : FVec Ideal S_ .f32 :=
  addf v105 v106

/-! The reference's terms are these stages, one after another. -/

variable (V0 : Valuation τ sig (Elt Ideal))

theorem v55_eq : res_main_v55 V0 = positive (res_main_v52 V0) := rfl

theorem call2_v5_eq : res_main_call2_v5 V0 = place (res_main_v53 V0) := rfl

theorem call9_v5_eq : res_main_call9_v5 V0 = place (res_main_v53 V0) := rfl

theorem v60_eq : res_main_v60 V0 = tag (res_main_v52 V0) (res_main_v55 V0) (res_main_call2_v5 V0) (V0 (Proc.devRef .tc main_arg2)) := rfl

theorem v62_eq : res_main_v62 V0 = valid (res_main_v60 V0) := rfl

theorem v64_eq : res_main_v64 V0 = count (res_main_v62 V0) := rfl

theorem call5_v5_eq : res_main_call5_v5 V0 = shifted (V0 (Proc.devRef .tc main_arg0)) := rfl

theorem v67_eq : res_main_v67 V0 = clipped (res_main_v60 V0) := rfl

theorem call7_v5_eq : res_main_call7_v5 V0 = column (res_main_v67 V0) := rfl

theorem v78_eq : res_main_v78 V0 = countPos (res_main_v55 V0) := rfl

theorem v80_eq : res_main_v80 V0 = offset (res_main_call9_v5 V0) (V0 (Proc.devRef .tc main_arg1)) (V0 (Proc.devRef .tc main_arg3)) := rfl

theorem v81_eq : res_main_v81 V0 = size (res_main_v80 V0) := rfl

theorem v76_eq : res_main_v76 V0 = meanEntropy (res_main_v62 V0) (res_main_call7_v5 V0) (res_main_call5_v5 V0) (res_main_v64 V0) := rfl

theorem v92_eq : res_main_v92 V0 = sumDistance (res_main_v55 V0) (res_main_v81 V0) (res_main_v80 V0) := rfl

theorem v105_eq : res_main_v105 V0 = total (res_main_v64 V0) (res_main_v76 V0) := rfl

theorem v106_eq : res_main_v106 V0 = totalBox (res_main_v78 V0) (res_main_v92 V0) := rfl

theorem v107_eq : res_main_v107 V0 = both (res_main_v105 V0) (res_main_v106 V0) := rfl

end Cert.Loss.Ref
-- ==== Proof.Loss.RefLabel.lean ====
/- The reference's labels and masks: which boxes count, which are matched, and the class each should have. -/
module

public import proofs.«01_k».proof.Proof.Loss.RefStages

@[expose] public section

set_option maxRecDepth 16384

noncomputable section

namespace Cert.Loss.Ref

open Idealize.ShloMosaic Idealize.ShloMosaic.TcCoe Idealize.SL.Sem Cert.ReferenceIdeal Cert.ReferenceIdeal.Gen Cert.ReferenceIdeal.Value

/-! ## Small words -/

/-- Small words are not negative. -/
theorem not_neg (n : ℕ) (h : n < 2 ^ 31) : IntOp.cmpi .slt (BitVec.ofNat 32 n) 0#32 = 0#1 := by
  have e := WordCmp.toInt_ofNat_of_lt (w := 32) h
  have h' : ¬ ((n : ℤ) < 0) := by omega
  simp [IntOp.cmpi, BitVec.slt, e, h']

theorem ge_zero (n : ℕ) (h : n < 2 ^ 31) : IntOp.cmpi .sge (BitVec.ofNat 32 n) 0#32 = 1#1 := by
  have e := WordCmp.toInt_ofNat_of_lt (w := 32) h
  simp [IntOp.cmpi, BitVec.sle, e]

theorem le_word (n k : ℕ) (h : n ≤ k) (hk : k < 2 ^ 31) : IntOp.cmpi .sle (BitVec.ofNat 32 n) (BitVec.ofNat 32 k) = 1#1 := by
  have e := WordCmp.toInt_ofNat_of_lt (w := 32) (lt_of_le_of_lt h hk)
  have e' := WordCmp.toInt_ofNat_of_lt (w := 32) hk
  simp [IntOp.cmpi, BitVec.sle, e, e', h]

/-- A range check over an axis of one entry, of a word in the range. -/
theorem in_range (n k : ℕ) (h : n ≤ k) (hk : k < 2 ^ 31) (f : Fin 1 → BitVec 32) (hf : f 0 = BitVec.ofNat 32 n) :
    Finset.fold IntOp.andi 1#1 (fun x : Fin 1 => IntOp.andi (IntOp.cmpi .sge (f x) 0#32) (IntOp.cmpi .sle (f x) (BitVec.ofNat 32 k)))
      Finset.univ = 1#1 := by
  rw [Finset.univ_unique, Finset.fold_singleton, show (default : Fin 1) = 0 from rfl, hf, ge_zero n (by omega), le_word n k h hk]
  decide

/-! ## The stages at an index -/

variable {b : Fin 16} {p : Fin 20000} {a : Fin 4 → EReal} {g : Fin 100 → Fin 4 → EReal} {l : Fin 100 → BitVec 32}

open Classical in
/-- The matched boxes. -/
theorem positive_at (X : FVec Ideal S16x20000 .f32) (hX : X (ix2 b p) = best a g) :
    positive X (ix2 b p) = if half ≤ best a g then 1#1 else 0#1 := by
  unfold positive
  pointwise
  rw [hX]
  show BitVec.ofBool (decide (half ≤ best a g)) = _
  by_cases h : half ≤ best a g <;> simp [h]

/-- The start index of a gather. -/
theorem place_at (X : IVec S16x20000 32) (h : Fin 100) (hX : X (ix2 b p) = BitVec.ofNat 32 h.val) :
    place X (ix3 b p 0) = BitVec.ofNat 32 h.val := by
  unfold place
  pointwise
  rw [hX, not_neg _ (by omega)]
  rfl

open Classical in
/-- The reference's label: background, the match's label, or none. -/
theorem tag_at (X : FVec Ideal S16x20000 .f32) (P : IVec S16x20000 1) (C : IVec S16x20000x1 32) (L : IVec S16x100 32)
    (hX : X (ix2 b p) = best a g) (hP : P (ix2 b p) = if half ≤ best a g then 1#1 else 0#1)
    (hC : C (ix3 b p 0) = BitVec.ofNat 32 (matched a g).val) (hL : ∀ h, L (ix2 b h) = l h) :
    tag X P C L (ix2 b p) = if best a g < low then 0#32 else if half ≤ best a g then l (matched a g) else 4294967295#32 := by
  unfold tag
  pointwise
  rw [hX, hP, gather_label _ _ b p _ hC, hL]
  have hr := in_range (matched a g).val 99 (by omega) (by norm_num) (fun x => C (ix3 b p x)) hC
  rw [hr]
  show (if best a g < low then 0#32 else Scalar.select (if half ≤ best a g then 1#1 else 0#1) (l (matched a g)) 4294967295#32) = _
  by_cases h : half ≤ best a g
  · rw [if_pos h, if_pos h]; rfl
  · rw [if_neg h, if_neg h]; rfl

open Classical in
/-- The boxes that count are those with a label. -/
theorem valid_at (T : IVec S16x20000 32) (hl : (l (matched a g)).toNat < 81)
    (hT : T (ix2 b p) = if best a g < low then 0#32 else if half ≤ best a g then l (matched a g) else 4294967295#32) :
    valid T (ix2 b p) = if Counts a g then 1#1 else 0#1 := by
  unfold valid
  pointwise
  rw [hT]
  by_cases h : best a g < low
  · rw [if_pos h, if_pos (show Counts a g from Or.inr h)]
    decide
  · rw [if_neg h]
    by_cases h' : half ≤ best a g
    · rw [if_pos h', if_pos (show Counts a g from Or.inl h')]
      have e : l (matched a g) ≠ 4294967295#32 := fun e => by
        rw [e] at hl
        exact absurd hl (by decide)
      rw [IntOp.cmpi, bne_iff_ne.mpr e]
      rfl
    · rw [if_neg h', if_neg (fun c : Counts a g => c.elim h' h)]
      decide

theorem maxsi_zero (n : ℕ) (h : n < 2 ^ 31) : IntOp.maxsi 0#32 (BitVec.ofNat 32 n) = BitVec.ofNat 32 n := by
  have e := WordCmp.toInt_ofNat_of_lt (w := 32) h
  simp [IntOp.maxsi, BitVec.slt, e]

theorem minsi_le (n k : ℕ) (h : n ≤ k) (hk : k < 2 ^ 31) : IntOp.minsi (BitVec.ofNat 32 k) (BitVec.ofNat 32 n) = BitVec.ofNat 32 n := by
  rw [minsi_word k n hk (by omega), min_eq_right h]

open Classical in
/-- The clipped label. -/
theorem clipped_at (T : IVec S16x20000 32) (hl : (l (matched a g)).toNat < 81)
    (hT : T (ix2 b p) = if best a g < low then 0#32 else if half ≤ best a g then l (matched a g) else 4294967295#32) :
    clipped T (ix3 b p 0) = BitVec.ofNat 32 (label a g l).val := by
  unfold clipped
  pointwise
  rw [hT]
  show IntOp.minsi 80#32 (IntOp.maxsi 0#32 _) = _
  unfold label
  by_cases h' : half ≤ best a g
  · have h : ¬ best a g < low := fun h => absurd (lt_of_lt_of_le (h.trans low_lt_half) h') (lt_irrefl _)
    rw [if_neg h, if_pos h', if_pos h']
    obtain ⟨n, hn, e⟩ : ∃ n < 81, l (matched a g) = BitVec.ofNat 32 n := ⟨_, hl, by simp⟩
    have e' : (Fin.ofNat 81 (BitVec.ofNat 32 n).toNat).val = n := by
      rw [BitVec.toNat_ofNat, Nat.mod_eq_of_lt (by omega)]
      exact Nat.mod_eq_of_lt hn
    rw [e, e', maxsi_zero _ (by omega)]
    exact minsi_le n 80 (by omega) (by norm_num)
  · rw [if_neg h', if_neg h']
    by_cases h : best a g < low
    · rw [if_pos h]; decide
    · rw [if_neg h]; decide

/-- The start index of the score gather. -/
theorem column_at (X : IVec S16x20000x1 32) (h : Fin 81) (hX : X (ix3 b p 0) = BitVec.ofNat 32 h.val) :
    column X (ix4 b p 0 0) = BitVec.ofNat 32 h.val := by
  unfold column
  pointwise
  rw [hX, not_neg _ (by omega)]
  rfl

end Cert.Loss.Ref
-- ==== Proof.Loss.RefLoss.lean ====
/- The reference's cross-entropy, distance and counts, image by image, and its three results. -/
module

public import proofs.«01_k».proof.Proof.Loss.RefLabel

@[expose] public section

set_option maxRecDepth 16384

noncomputable section

namespace Cert.Loss.Ref

open Idealize.ShloMosaic Idealize.ShloMosaic.TcCoe Idealize.SL.Sem Cert.ReferenceIdeal Cert.ReferenceIdeal.Gen Cert.ReferenceIdeal.Value

/-! ## Counts -/

/-- A sum of a widened mask counts it. -/
theorem count_at (X : IVec S16x20000 1) (b : Fin 16) (P : Fin 20000 → Prop) [DecidablePred P] (hX : ∀ p, X (ix2 b p) = if P p then 1#1 else 0#1) :
    count X (ix1 b) = BitVec.ofNat 32 (Finset.univ.filter P).card := by
  unfold count
  apply BitVec.eq_of_toNat_eq
  have hle : (Finset.univ.filter P).card ≤ 20000 := (Finset.card_filter_le _ _).trans (by simp)
  rw [BitVec.toNat_ofNat, Nat.mod_eq_of_lt (by omega)]
  refine (StableHlo.Predicate.toNat_reduce_count_cols (n := 16) (m := 20000) (by norm_num) X natLt_1_32 reducesTo_S16x20000_S16_d1 h_S_ (ix1 b)).trans ?_
  refine congrArg Finset.card (Finset.filter_congr fun q _ => ?_)
  have e : StableHlo.Predicate.ij (n := 16) (m := 20000) b q = ix2 b q := Routing.ij_eq_ix2 b q
  show X (StableHlo.Predicate.ij (n := 16) (m := 20000) b q) = 1#1 ↔ P q
  rw [e, hX]
  by_cases h : P q <;> simp [h]

variable {b : Fin 16}

/-! ## Small words as numbers -/

/-- A small positive count, kept from being zero, as a number. -/
theorem count_real (n : ℕ) (h : n < 2 ^ 31) (h0 : 0 < n) :
    (FloatOps.sitofp (F := Ideal) .f32 (IntOp.maxsi (BitVec.ofNat 32 n) 1#32) : EReal) = ((n : ℝ) : EReal) := by
  have e := WordCmp.toInt_ofNat_of_lt (w := 32) h
  have e' : IntOp.maxsi (BitVec.ofNat 32 n) 1#32 = BitVec.ofNat 32 n := by
    have h1 : (1#32).toInt = 1 := by decide
    unfold IntOp.maxsi
    rw [BitVec.slt, e, h1]
    by_cases hn : n = 1
    · subst hn; rfl
    · rw [decide_eq_true (by omega : (1 : ℤ) < n)]; rfl
  rw [e']
  show (((BitVec.ofNat 32 n).toInt : ℝ) : EReal) = _
  rw [e]
  simp

theorem sgt_zero (n : ℕ) (h : n < 2 ^ 31) : IntOp.cmpi .sgt (BitVec.ofNat 32 n) 0#32 = if 0 < n then 1#1 else 0#1 := by
  have e := WordCmp.toInt_ofNat_of_lt (w := 32) h
  by_cases h0 : 0 < n <;> simp [IntOp.cmpi, BitVec.slt, e, h0] <;> omega

theorem times_four (n : ℕ) : IntOp.muli (BitVec.ofNat 32 n) 4#32 = BitVec.ofNat 32 (n * 4) := by
  simp [IntOp.muli, BitVec.ofNat_mul]

theorem zero_word : (id (constant (F := Ideal) S_ FTy.f32 0#32) ix0 : EReal) = 0 := by
  simp only [id]
  pointwise

/-! ## Cross-entropy -/

/-- The greatest logit of a box. -/
theorem greatest_at (X : FVec Ideal S16x20000x81 .f32) (b : Fin 16) (p : Fin 20000) :
    Host.reduce FloatOps.maximumf X (constant S_ .f32 0xFF800000#32) reducesTo_S16x20000x81_S16x20000_d2 h_S_ (ix2 b p)
      = Finset.fold max ⊥ (fun k : Fin 81 => X (ix3 b p k)) Finset.univ := by
  pointwise
  rw [neg_inf]

theorem shift_by (X : FVec Ideal S16x20000x81 .f32) (M : FVec Ideal S16x20000 .f32) (b : Fin 16) (p : Fin 20000) (k : Fin 81) :
    subf X (broadcastInDim S16x20000x81 ![0, 1, 2] bcast_S16x20000x1_S16x20000x81_0_1_2 (broadcastInDim S16x20000x1 ![0, 1] bcast_S16x20000_S16x20000x1_0_1 (maximumf (broadcastInDim S16x20000 ![] bcast_S_S16x20000 (constant S_ .f32 0xFF800000#32)) M))) (ix3 b p k)
      = X (ix3 b p k) - M (ix2 b p) := by
  pointwise
  rw [neg_inf]
  exact congrArg _ (max_eq_right bot_le)

/-- The shifted logits. -/
theorem shifted_at (X : FVec Ideal S16x20000x81 .f32) (b : Fin 16) (p : Fin 20000) (k : Fin 81) :
    shifted X (ix3 b p k) = X (ix3 b p k) - Finset.fold max ⊥ (fun k : Fin 81 => X (ix3 b p k)) Finset.univ :=
  (shift_by X _ b p k).trans (congrArg _ (greatest_at X b p))

/-- The summed exponentials of a box. -/
theorem exps_at (X : FVec Ideal S16x20000x81 .f32) (b : Fin 16) (p : Fin 20000) :
    Host.reduceAdd (Host.exp X) (constant S_ .f32 0x00000000#32) reducesTo_S16x20000x81_S16x20000_d2 h_S_ (ix2 b p)
      = ∑ k : Fin 81, Ideal.exp (X (ix3 b p k)) := by
  pointwise

theorem less_log (X : FVec Ideal S16x20000x81 .f32) (R : FVec Ideal S16x20000 .f32) (b : Fin 16) (p : Fin 20000) (k : Fin 81) :
    subf X (broadcastInDim S16x20000x81 ![0, 1, 2] bcast_S16x20000x1_S16x20000x81_0_1_2 (Host.log (broadcastInDim S16x20000x1 ![0, 1] bcast_S16x20000_S16x20000x1_0_1 R))) (ix3 b p k)
      = X (ix3 b p k) - Ideal.log (R (ix2 b p)) := by
  pointwise

/-- The mean cross-entropy of an image where some box counts. -/
theorem meanEntropy_at (V : IVec S16x20000 1) (C : IVec S16x20000x1x1 32) (X : FVec Ideal S16x20000x81 .f32) (n : IVec S16 32)
    (P : Fin 20000 → Prop) [DecidablePred P] (c : Fin 20000 → Fin 81) (m : ℕ) (hm : m < 2 ^ 31) (h0 : 0 < m)
    (hV : ∀ p, V (ix2 b p) = if P p then 1#1 else 0#1) (hC : ∀ p, C (ix4 b p 0 0) = BitVec.ofNat 32 (c p).val)
    (hn : n (ix1 b) = BitVec.ofNat 32 m) :
    meanEntropy V C X n (ix1 b)
      = Ideal.div (∑ p, if P p then -(X (ix3 b p (c p)) - Ideal.log (∑ k : Fin 81, Ideal.exp (X (ix3 b p k)))) else 0) ((m : ℝ) : EReal) := by
  unfold meanEntropy
  pointwise
  rw [hn]
  refine congrArg₂ Ideal.div (Finset.sum_congr rfl fun p _ => ?_) (count_real m hm h0)
  rw [hV, gather_score _ _ b p _ (hC p), in_range (c p).val 80 (by omega) (by norm_num) (fun x => C (ix4 b p 0 x)) (hC p), zero_word, less_log, exps_at]
  by_cases h : P p
  · rw [if_pos h, if_pos h]; rfl
  · rw [if_neg h, if_neg h]; rfl

/-! ## Distance -/

theorem offset_at (C : IVec S16x20000x1 32) (A : FVec Ideal S16x20000x4 .f32) (G : FVec Ideal S16x100x4 .f32) (b : Fin 16) (p : Fin 20000) (k : Fin 4)
    (h : Fin 100) (hC : C (ix3 b p 0) = BitVec.ofNat 32 h.val) :
    offset C A G (ix3 b p k) = A (ix3 b p k) - G (ix3 b h k) := by
  unfold offset
  pointwise
  rw [gather_box _ _ b p k _ hC]
  have hr := in_range h.val 99 (by omega) (by norm_num) (fun x => C (ix3 b p x)) hC
  rw [hr]
  rfl

theorem size_at (D : FVec Ideal S16x20000x4 .f32) (b : Fin 16) (p : Fin 20000) (k : Fin 4) :
    size D (ix3 b p k) = max (D (ix3 b p k)) (-D (ix3 b p k)) := by
  unfold size
  pointwise
  rfl

theorem sumDistance_at (V : IVec S16x20000 1) (D : FVec Ideal S16x20000x4 .f32) (P : Fin 20000 → Prop) [DecidablePred P]
    (hV : ∀ p, V (ix2 b p) = if P p then 1#1 else 0#1) :
    sumDistance V (size D) D (ix1 b) = ∑ p, if P p then ∑ k : Fin 4, smooth (D (ix3 b p k)) else 0 := by
  have gen : ∀ A : FVec Ideal S16x20000x4 .f32, (∀ p k, A (ix3 b p k) = max (D (ix3 b p k)) (-D (ix3 b p k))) →
      sumDistance V A D (ix1 b) = ∑ p, if P p then ∑ k : Fin 4, smooth (D (ix3 b p k)) else 0 := by
    intro A hA
    unfold sumDistance
    pointwise
    refine Finset.sum_congr (M := EReal) rfl fun p _ => ?_
    rw [hV, zero_word]
    by_cases h : P p
    · rw [if_pos h, if_pos h]
      refine Finset.sum_congr (M := EReal) rfl fun k _ => ?_
      rw [hA]
      rfl
    · rw [if_neg h, if_neg h]
      exact Finset.sum_eq_zero (M := EReal) fun k _ => rfl
  exact gen _ fun p k => size_at D b p k

/-! ## Results -/

theorem total_at (n : IVec S16 32) (m : FVec Ideal S16 .f32) (c : Fin 16 → ℕ) (v : Fin 16 → EReal) (hc : ∀ b, c b < 2 ^ 31)
    (hn : ∀ b, n (ix1 b) = BitVec.ofNat 32 (c b)) (hm : ∀ b, 0 < c b → m (ix1 b) = v b) :
    total n m ix0 = ∑ b, if 0 < c b then v b else 0 := by
  unfold total
  pointwise
  refine Finset.sum_congr (M := EReal) rfl fun b _ => ?_
  rw [hn, sgt_zero _ (hc b), zero_word]
  by_cases h : 0 < c b
  · rw [if_pos h, if_pos h, hm b h]; rfl
  · rw [if_neg h, if_neg h]; rfl

theorem totalBox_at (n : IVec S16 32) (m : FVec Ideal S16 .f32) (c : Fin 16 → ℕ) (v : Fin 16 → EReal) (hc : ∀ b, c b < 2 ^ 28)
    (hn : ∀ b, n (ix1 b) = BitVec.ofNat 32 (c b)) (hm : ∀ b, m (ix1 b) = v b) :
    totalBox n m ix0 = ∑ b, if 0 < c b then Ideal.div (v b) ((4 * (c b : ℝ) : ℝ) : EReal) else 0 := by
  unfold totalBox
  pointwise
  refine Finset.sum_congr (M := EReal) rfl fun b _ => ?_
  have hb := hc b
  rw [hn, hm, sgt_zero _ (by omega), zero_word]
  by_cases h : 0 < c b
  · rw [if_pos h, if_pos h, times_four, count_real _ (by omega) (by omega)]
    show Ideal.div (v b) _ = _
    rw [Nat.cast_mul, mul_comm]
    norm_num
  · rw [if_neg h, if_neg h]; rfl

end Cert.Loss.Ref
-- ==== Proof.Loss.RefTail.lean ====
/- The reference's three results: the classification loss, the regression loss, and their sum. -/
module

public import proofs.«01_k».proof.Proof.Loss.RefLoss

@[expose] public section

set_option maxRecDepth 16384

noncomputable section

namespace Cert.Loss.Ref

open Idealize.ShloMosaic Idealize.ShloMosaic.TcCoe Idealize.SL.Sem Cert.ReferenceIdeal Cert.ReferenceIdeal.Gen Cert.ReferenceIdeal.Value

variable (V0 : Valuation τ sig (Elt Ideal))
variable (I : Inputs (logits V0) (boxes V0) (labels V0))
include I

open Classical in
/-- The matched boxes. -/
theorem v55_at (b : Fin 16) (p : Fin 20000) :
    res_main_v55 V0 (ix2 b p) = if half ≤ best (boxes V0 b p) (truths V0 b) then 1#1 else 0#1 :=
  (congrFun (v55_eq V0) _).trans (positive_at _ (v52_at V0 I b p))

/-- The start index of a label's gather. -/
theorem call2_at (b : Fin 16) (p : Fin 20000) :
    res_main_call2_v5 V0 (ix3 b p 0) = BitVec.ofNat 32 (matched (boxes V0 b p) (truths V0 b)).val :=
  (congrFun (call2_v5_eq V0) _).trans (place_at _ _ (v53_at V0 I b p))

/-- The start index of a true box's gather. -/
theorem call9_at (b : Fin 16) (p : Fin 20000) :
    res_main_call9_v5 V0 (ix3 b p 0) = BitVec.ofNat 32 (matched (boxes V0 b p) (truths V0 b)).val :=
  (congrFun (call9_v5_eq V0) _).trans (place_at _ _ (v53_at V0 I b p))

open Classical in
/-- The labels. -/
theorem v60_at (b : Fin 16) (p : Fin 20000) :
    res_main_v60 V0 (ix2 b p) = if best (boxes V0 b p) (truths V0 b) < low then 0#32
      else if half ≤ best (boxes V0 b p) (truths V0 b) then labels V0 b (matched (boxes V0 b p) (truths V0 b)) else 4294967295#32 :=
  (congrFun (v60_eq V0) _).trans (tag_at _ _ _ _ (v52_at V0 I b p) (v55_at V0 I b p) (call2_at V0 I b p) fun _ => rfl)

open Classical in
/-- The boxes that count. -/
theorem v62_at (b : Fin 16) (p : Fin 20000) :
    res_main_v62 V0 (ix2 b p) = if Counts (boxes V0 b p) (truths V0 b) then 1#1 else 0#1 :=
  (congrFun (v62_eq V0) _).trans (valid_at _ (I.labels b _) (v60_at V0 I b p))

open Classical in
/-- How many boxes of an image count. -/
theorem v64_at (b : Fin 16) : res_main_v64 V0 (ix1 b) = BitVec.ofNat 32 (counted (boxes V0) (truths V0) b) :=
  (congrFun (v64_eq V0) _).trans (count_at _ b _ (v62_at V0 I b))

/-- How many boxes of an image are matched. -/
theorem v78_at (b : Fin 16) : res_main_v78 V0 (ix1 b) = BitVec.ofNat 32 (hits (boxes V0) (truths V0) b) :=
  (congrFun (v78_eq V0) _).trans (count_at _ b _ (v55_at V0 I b))

/-- The clipped labels. -/
theorem v67_at (b : Fin 16) (p : Fin 20000) :
    res_main_v67 V0 (ix3 b p 0) = BitVec.ofNat 32 (label (boxes V0 b p) (truths V0 b) (labels V0 b)).val :=
  (congrFun (v67_eq V0) _).trans (clipped_at _ (I.labels b _) (v60_at V0 I b p))

/-- The start index of a score's gather. -/
theorem call7_at (b : Fin 16) (p : Fin 20000) :
    res_main_call7_v5 V0 (ix4 b p 0 0) = BitVec.ofNat 32 (label (boxes V0 b p) (truths V0 b) (labels V0 b)).val :=
  (congrFun (call7_v5_eq V0) _).trans (column_at _ _ (v67_at V0 I b p))

omit I in
/-- The shifted logits. -/
theorem call5_at (b : Fin 16) (p : Fin 20000) (k : Fin 81) :
    res_main_call5_v5 V0 (ix3 b p k) = logits V0 b p k - Finset.fold max ⊥ (logits V0 b p) Finset.univ :=
  (congrFun (call5_v5_eq V0) _).trans (shifted_at _ b p k)

open Classical in
/-- The mean cross-entropy of an image where some box counts. -/
theorem v76_at (b : Fin 16) (h : 0 < counted (boxes V0) (truths V0) b) :
    res_main_v76 V0 (ix1 b) = Ideal.div (entropies (logits V0) (boxes V0) (labels V0) (truths V0) b) ((counted (boxes V0) (truths V0) b : ℝ) : EReal) := by
  have hc := counted_le (boxes V0) (truths V0) b
  refine (congrFun (v76_eq V0) _).trans ((meanEntropy_at _ _ _ _ _ _ _ (by omega) h (v62_at V0 I b) (call7_at V0 I b) (v64_at V0 I b)).trans ?_)
  unfold entropies
  refine congrArg₂ Ideal.div (Finset.sum_congr (M := EReal) rfl fun p _ => ?_) rfl
  unfold entropy
  by_cases hP : Counts (boxes V0 b p) (truths V0 b)
  · rw [if_pos hP, if_pos hP]
    simp only [call5_at]
    exact entropy_negated _ (I.logits b p) _ (fold_max_real _ (I.logits b p)) _
  · rw [if_neg hP, if_neg hP]

/-- The distance of a corner from the match's. -/
theorem v80_at (b : Fin 16) (p : Fin 20000) (k : Fin 4) :
    res_main_v80 V0 (ix3 b p k) = boxes V0 b p k - truths V0 b (matched (boxes V0 b p) (truths V0 b)) k :=
  (congrFun (v80_eq V0) _).trans (offset_at _ _ _ b p k _ (call9_at V0 I b p))

/-- The summed distance of an image. -/
theorem v92_at (b : Fin 16) : res_main_v92 V0 (ix1 b) = distances (boxes V0) (truths V0) b := by
  refine (congrFun (v92_eq V0) _).trans ?_
  rw [v81_eq]
  refine (sumDistance_at _ _ _ (v55_at V0 I b)).trans ?_
  refine Finset.sum_congr rfl fun p _ => ?_
  unfold distance
  simp only [v80_at V0 I]

/-- The classification loss. -/
theorem v105_at : res_main_v105 V0 ix0 = classLoss (logits V0) (boxes V0) (labels V0) (truths V0) := by
  refine (congrFun (v105_eq V0) _).trans (total_at _ _ _ _ (fun b => ?_) (v64_at V0 I) (v76_at V0 I))
  have hc := counted_le (boxes V0) (truths V0) b
  omega

/-- The regression loss. -/
theorem v106_at : res_main_v106 V0 ix0 = boxLoss (boxes V0) (truths V0) := by
  refine (congrFun (v106_eq V0) _).trans (totalBox_at _ _ _ _ (fun b => ?_) (v78_at V0 I) (v92_at V0 I))
  have hc := hits_le (boxes V0) (truths V0) b
  omega

end Cert.Loss.Ref
-- ==== Proof.Loss.Equal.lean ====
/- The kernel's three results are the reference's, on inputs that meet the precondition. -/
module

public import proofs.«01_k».proof.Proof.Loss.Tail
public import proofs.«01_k».proof.Proof.Loss.RefTail

@[expose] public section

set_option maxRecDepth 16384

noncomputable section

namespace Cert.Loss.Equal

open Idealize.ShloMosaic Idealize.ShloMosaic.TcCoe Idealize.SL.Sem Cert.KernelIdeal Cert.KernelIdeal.Gen Cert.ReferenceIdeal.Value

variable (m : (ℓ : Loc nD τ sig) → Buf (Elt Ideal) ℓ) (c : Dev nD)
  (V : Valuation Cert.ReferenceIdeal.τ Cert.ReferenceIdeal.sig (Elt Ideal))

/-- The arrays the reference starts from are those the kernel starts from. -/
structure Same : Prop where
  logits : Ref.logits V = logitsOf m c
  boxes : Ref.boxes V = boxesOf m c
  labels : Ref.labels V = labelsOf m c
  truths : Ref.truths V = truthsOf m c

variable (I : Inputs (logitsOf m c) (boxesOf m c) (labelsOf m c)) (S : Same m c V)
include I S

theorem inputs : Inputs (Ref.logits V) (Ref.boxes V) (Ref.labels V) := by
  rw [S.logits, S.boxes, S.labels]
  exact I

omit I S in
/-- A scalar array has one entry. -/
theorem scalar {v w : FVec Ideal S_ .f32} (h : v ix0 = w ix0) : v = w := by
  funext j
  have e : j = ix0 := funext fun k => k.elim0
  rw [e, h]

/-- The classification loss. -/
theorem cls : res_main_v105 V = (Pipeline.afterTail₀ cfgs (dats m) 0 (V0 m) [hostOps1] c main_v0_2 : FVec Ideal S_ .f32) := by
  refine scalar ((Ref.v105_at V (inputs m c V I S)).trans ?_)
  rw [S.logits, S.boxes, S.labels, S.truths]
  exact (cls_eq m c I).symm

/-- The regression loss. -/
theorem reg : res_main_v106 V = (Pipeline.afterTail₀ cfgs (dats m) 0 (V0 m) [hostOps1] c main_v0_1 : FVec Ideal S_ .f32) := by
  refine scalar ((Ref.v106_at V (inputs m c V I S)).trans ?_)
  rw [S.boxes, S.truths]
  exact (reg_eq m c I).symm

/-- Their sum. -/
theorem tot : res_main_v107 V = (Pipeline.afterTail₀ cfgs (dats m) 0 (V0 m) [hostOps1] c main_v0_0 : FVec Ideal S_ .f32) := by
  refine (Ref.v107_eq V).trans ?_
  rw [cls m c V I S, reg m c V I S]
  exact (tot_at m c).symm

end Cert.Loss.Equal
-- ==== Proof.lean ====
/- The proof of the claim: the frames of the kernel, of its idealization and of the reference, and the equation of the
   idealized kernel's three losses with the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_well_formed
public import proofs.«01_k».proof.Proof.KernelRun.Frame
public import proofs.«01_k».proof.Proof.KernelIdealRun.Frame
public import proofs.«01_k».proof.Proof.Reference.Run
public import proofs.«01_k».proof.Proof.Loss.Asked
public import proofs.«01_k».proof.Proof.Loss.Equal
public import Idealize.ShloMosaic.Lib.Claim
public import Idealize.ShloMosaic.Lib.Quiescent

@[expose] public section

noncomputable section

namespace Cert.Proof

open Idealize.ShloMosaic Idealize.SL.Sem Cert.Kernel

/-- The reference ends with its arguments unchanged; it has no semaphores, so every counter is zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run (Cert.ReferenceIdeal.defs (F := Ideal)) _ _).mono
    (fun r h => And.intro (fun c => (h c).2.2.2) (sem_eq_zero_of_no_sems (by rfl) r.2))
    (Cert.ReferenceIdeal.Value.run (F := Ideal) m g)

/-- From memories that agree on the arguments and meet the precondition, the kernel and the reference end with the same
    three losses: the total, the regression loss and the classification loss. -/
theorem same_losses : Cert.algebraic_KernelIdeal_ReferenceIdeal_pre_well_formed := by
  intro m g m' g' hpre hagree
  have I : ∀ c, Cert.Loss.Inputs (Cert.Loss.logitsOf m c) (Cert.Loss.boxesOf m c) (Cert.Loss.labelsOf m c) :=
    fun c => Cert.Loss.Asked.inputs_of _ _ _ _ (hpre c)
  have S : ∀ c, Cert.Loss.Equal.Same m c (StableHlo.launchContents m' c) := fun c =>
    ⟨funext fun b => funext fun p => funext fun k => congrFun (hagree c).1 (ix3 b p k),
      funext fun b => funext fun p => funext fun k => congrFun (hagree c).2.1 (ix3 b p k),
      funext fun b => funext fun h => congrFun (hagree c).2.2.1 (ix2 b h),
      funext fun b => funext fun h => funext fun k => congrFun (hagree c).2.2.2 (ix3 b h k)⟩
  refine ⟨fun c => Pipeline.afterTail₀ Cert.KernelIdeal.cfgs (Cert.KernelIdeal.Gen.dats m) 0 (Cert.KernelIdeal.Gen.V0 m) [Cert.KernelIdeal.Gen.hostOps1] c Cert.KernelIdeal.main_v0_0,
    fun c => Pipeline.afterTail₀ Cert.KernelIdeal.cfgs (Cert.KernelIdeal.Gen.dats m) 0 (Cert.KernelIdeal.Gen.V0 m) [Cert.KernelIdeal.Gen.hostOps1] c Cert.KernelIdeal.main_v0_1,
    fun c => Pipeline.afterTail₀ Cert.KernelIdeal.cfgs (Cert.KernelIdeal.Gen.dats m) 0 (Cert.KernelIdeal.Gen.V0 m) [Cert.KernelIdeal.Gen.hostOps1] c Cert.KernelIdeal.main_v0_2, ?_, ?_⟩
  · refine θ_run_mono (θ_run_and (Cert.KernelIdeal.Gen.run_main m g) (Cert.KernelIdeal.Gen.unchanged m g)) fun r h c =>
      ⟨(h.1 c).2 Cert.KernelIdeal.main_v0_0 (Pipeline.mem_restRefs_of Cert.KernelIdeal.main_v0_0 (by decide) (by decide)),
        (h.1 c).2 Cert.KernelIdeal.main_v0_1 (Pipeline.mem_restRefs_of Cert.KernelIdeal.main_v0_1 (by decide) (by decide)),
        (h.1 c).2 Cert.KernelIdeal.main_v0_2 (Pipeline.mem_restRefs_of Cert.KernelIdeal.main_v0_2 (by decide) (by decide)), h.2 c⟩
  · refine θ_run_mono (Cert.ReferenceIdeal.Value.run (F := Ideal) m' g') fun r h c =>
      ⟨(h c).1.trans (Cert.Loss.Equal.tot m c _ (I c) (S c)), (h c).2.1.trans (Cert.Loss.Equal.reg m c _ (I c) (S c)),
        (h c).2.2.1.trans (Cert.Loss.Equal.cls m c _ (I c) (S c)), (h c).2.2.2⟩

/-- Everything stated: the frames of the kernel, of its idealisation and of the reference, and the equality of results. -/
theorem claim : Cert.Claim :=
  ⟨Cert.Kernel.Gen.facts, Cert.KernelIdeal.Gen.facts, Cert.ReferenceIdeal.Gen.facts, Cert.Pre_well_formed.Gen.facts,
    fun m g _ => Cert.Kernel.Gen.frame m g, fun m g _ => Cert.KernelIdeal.Gen.frame m g, fun m g _ => Cert.KernelIdeal.Gen.frame m g,
    fun m g _ => reference_frame m g, fun m g _ => reference_frame m g, trivial, same_losses⟩

end Cert.Proof

end
